-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2 = (fun _ => 1#1)

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Dsq (m : (ℓ : Loc Cert.Dsq.nD Cert.Dsq.τ Cert.Dsq.sig) → Buf (Elt Bits) ℓ) : Prop :=
  True

def Pre_DsqIdeal (m : (ℓ : Loc Cert.DsqIdeal.nD Cert.DsqIdeal.τ Cert.DsqIdeal.sig) → Buf (Elt Ideal) ℓ) : Prop :=
  True

def Pre_DsqRefIdeal (m : (ℓ : Loc Cert.DsqRefIdeal.nD Cert.DsqRefIdeal.τ Cert.DsqRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhIdeal_dh_finite [hPre_dh_finite : Cert.Pre_dh_finite.Facts] (m : (ℓ : Loc Cert.DhIdeal.nD Cert.DhIdeal.τ Cert.DhIdeal.sig) → Buf (Elt Ideal) ℓ) : Prop :=
  ∀ c : Dev Cert.DhIdeal.nD,
    (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4))).1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4))).2.1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4))).2.2.1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4))).2.2.2 = (fun _ => 1#1)

def Pre_DhRefIdeal (m : (ℓ : Loc Cert.DhRefIdeal.nD Cert.DhRefIdeal.τ Cert.DhRefIdeal.sig) → Buf (Elt Ideal) ℓ) : Prop :=
  True

def Pre_DhRefIdeal_dh_finite [hPre_dh_finite : Cert.Pre_dh_finite.Facts] (m : (ℓ : Loc Cert.DhRefIdeal.nD Cert.DhRefIdeal.τ Cert.DhRefIdeal.sig) → Buf (Elt Ideal) ℓ) : Prop :=
  ∀ c : Dev Cert.DhRefIdeal.nD,
    (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4))).1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4))).2.1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4))).2.2.1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4))).2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Dsq [hDsq : Cert.Dsq.Facts] : Prop :=
  ∀ (m : (ℓ : Loc Cert.Dsq.nD Cert.Dsq.τ Cert.Dsq.sig) → Buf (Elt Bits) ℓ) (g : Dev Cert.Dsq.nD → PrngReg), Pre_Dsq m →
    θ_run (Cert.Dsq.defs (F := Bits)) (onTc (τ := Cert.Dsq.τ) (Cert.Dsq.main (F := Bits))) ⟨m, fun _ => 0, g⟩ (fun r => (∀ c : Dev Cert.Dsq.nD,
      r.2.mem ((c.tc : Thread Cert.Dsq.nD Cert.Dsq.τ).loc Cert.Dsq.main_arg0) = m ((c.tc : Thread Cert.Dsq.nD Cert.Dsq.τ).loc Cert.Dsq.main_arg0)
      ∧ r.2.mem ((c.tc : Thread Cert.Dsq.nD Cert.Dsq.τ).loc Cert.Dsq.main_arg1) = m ((c.tc : Thread Cert.Dsq.nD Cert.Dsq.τ).loc Cert.Dsq.main_arg1))
      ∧ r.2.sem = fun _ => 0)

def quiescent_DsqIdeal [hDsqIdeal : Cert.DsqIdeal.Facts] : Prop :=
  ∀ (m : (ℓ : Loc Cert.DsqIdeal.nD Cert.DsqIdeal.τ Cert.DsqIdeal.sig) → Buf (Elt Ideal) ℓ) (g : Dev Cert.DsqIdeal.nD → PrngReg), Pre_DsqIdeal m →
    θ_run (Cert.DsqIdeal.defs (F := Ideal)) (onTc (τ := Cert.DsqIdeal.τ) (Cert.DsqIdeal.main (F := Ideal))) ⟨m, fun _ => 0, g⟩ (fun r => (∀ c : Dev Cert.DsqIdeal.nD,
      r.2.mem ((c.tc : Thread Cert.DsqIdeal.nD Cert.DsqIdeal.τ).loc Cert.DsqIdeal.main_arg0) = m ((c.tc : Thread Cert.DsqIdeal.nD Cert.DsqIdeal.τ).loc Cert.DsqIdeal.main_arg0)
      ∧ r.2.mem ((c.tc : Thread Cert.DsqIdeal.nD Cert.DsqIdeal.τ).loc Cert.DsqIdeal.main_arg1) = m ((c.tc : Thread Cert.DsqIdeal.nD Cert.DsqIdeal.τ).loc Cert.DsqIdeal.main_arg1))
      ∧ r.2.sem = fun _ => 0)

def quiescent_DsqRefIdeal [hDsqRefIdeal : Cert.DsqRefIdeal.Facts] : Prop :=
  ∀ (m : (ℓ : Loc Cert.DsqRefIdeal.nD Cert.DsqRefIdeal.τ Cert.DsqRefIdeal.sig) → Buf (Elt Ideal) ℓ) (g : Dev Cert.DsqRefIdeal.nD → PrngReg), Pre_DsqRefIdeal m →
    θ_run (Cert.DsqRefIdeal.defs (F := Ideal)) (onTc (τ := Cert.DsqRefIdeal.τ) (Cert.DsqRefIdeal.main (F := Ideal))) ⟨m, fun _ => 0, g⟩ (fun r => (∀ c : Dev Cert.DsqRefIdeal.nD,
      r.2.mem ((c.tc : Thread Cert.DsqRefIdeal.nD Cert.DsqRefIdeal.τ).loc Cert.DsqRefIdeal.main_arg0) = m ((c.tc : Thread Cert.DsqRefIdeal.nD Cert.DsqRefIdeal.τ).loc Cert.DsqRefIdeal.main_arg0)
      ∧ r.2.mem ((c.tc : Thread Cert.DsqRefIdeal.nD Cert.DsqRefIdeal.τ).loc Cert.DsqRefIdeal.main_arg1) = m ((c.tc : Thread Cert.DsqRefIdeal.nD Cert.DsqRefIdeal.τ).loc Cert.DsqRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ r.2.sem = fun _ => 0)

def quiescent_DhIdeal_pre_dh_finite [hDhIdeal : Cert.DhIdeal.Facts] [hPre_dh_finite : Cert.Pre_dh_finite.Facts] : Prop :=
  ∀ (m : (ℓ : Loc Cert.DhIdeal.nD Cert.DhIdeal.τ Cert.DhIdeal.sig) → Buf (Elt Ideal) ℓ) (g : Dev Cert.DhIdeal.nD → PrngReg), Pre_DhIdeal_dh_finite m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4))
      ∧ r.2.sem = fun _ => 0)

def quiescent_DhRefIdeal_pre_dh_finite [hDhRefIdeal : Cert.DhRefIdeal.Facts] [hPre_dh_finite : Cert.Pre_dh_finite.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal_dh_finite m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2)
      ∧ r.2.mem ((c.tc : Thread Cert.Gated.nD Cert.Gated.τ).loc Cert.Gated.main_arg3) = m ((c.tc : Thread Cert.Gated.nD Cert.Gated.τ).loc Cert.Gated.main_arg3))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def preserves_Attn_AttnIdeal : Prop :=
  True

def preserves_Dwin_DwinIdeal : Prop :=
  True

def preserves_Dsq_DsqIdeal : Prop :=
  True

def preserves_Proj_ProjIdeal : Prop :=
  True

def preserves_Dh_DhIdeal : Prop :=
  True

def preserves_Merge_MergeIdeal : Prop :=
  True

def preserves_Gated_GatedIdeal : Prop :=
  True

def preserves_Qkv_QkvIdeal : Prop :=
  True

def preserves_Loss_LossIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v1_0)) (v3 : (c : Dev Cert.AttnIdeal.nD) → Buf (Elt Ideal) ((c.tc : Thread Cert.AttnIdeal.nD Cert.AttnIdeal.τ).loc Cert.AttnIdeal.main_v1_1)) (v4 : (c : Dev Cert.AttnIdeal.nD) → Buf (Elt Ideal) ((c.tc : Thread Cert.AttnIdeal.nD Cert.AttnIdeal.τ).loc Cert.AttnIdeal.main_v1_2)) (v5 : (c : Dev Cert.AttnIdeal.nD) → Buf (Elt Ideal) ((c.tc : Thread Cert.AttnIdeal.nD Cert.AttnIdeal.τ).loc Cert.AttnIdeal.main_v1_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v1_0) = v2 c
          ∧ r.2.mem ((c.tc : Thread Cert.AttnIdeal.nD Cert.AttnIdeal.τ).loc Cert.AttnIdeal.main_v1_1) = v3 c
          ∧ r.2.mem ((c.tc : Thread Cert.AttnIdeal.nD Cert.AttnIdeal.τ).loc Cert.AttnIdeal.main_v1_2) = v4 c
          ∧ r.2.mem ((c.tc : Thread Cert.AttnIdeal.nD Cert.AttnIdeal.τ).loc Cert.AttnIdeal.main_v1_3) = v5 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v24) = v0 c
          ∧ r.2.mem ((c.tc : Thread Cert.AttnRefIdeal.nD Cert.AttnRefIdeal.τ).loc Cert.AttnRefIdeal.main_v95) = v1 c
          ∧ r.2.mem ((c.tc : Thread Cert.AttnRefIdeal.nD Cert.AttnRefIdeal.τ).loc Cert.AttnRefIdeal.main_v94) = v2 c
          ∧ r.2.mem ((c.tc : Thread Cert.AttnRefIdeal.nD Cert.AttnRefIdeal.τ).loc Cert.AttnRefIdeal.main_v93) = v3 c
          ∧ r.2.mem ((c.tc : Thread Cert.AttnRefIdeal.nD Cert.AttnRefIdeal.τ).loc Cert.AttnRefIdeal.main_v92) = v4 c
          ∧ r.2.mem ((c.tc : Thread Cert.AttnRefIdeal.nD Cert.AttnRefIdeal.τ).loc Cert.AttnRefIdeal.main_v99) = v5 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v8) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def algebraic_DsqIdeal_DsqRefIdeal [hDsqIdeal : Cert.DsqIdeal.Facts] [hDsqRefIdeal : Cert.DsqRefIdeal.Facts] : Prop :=
  ∀ (m : (ℓ : Loc Cert.DsqIdeal.nD Cert.DsqIdeal.τ Cert.DsqIdeal.sig) → Buf (Elt Ideal) ℓ) (g : Dev Cert.DsqIdeal.nD → PrngReg)
    (m' : (ℓ : Loc Cert.DsqRefIdeal.nD Cert.DsqRefIdeal.τ Cert.DsqRefIdeal.sig) → Buf (Elt Ideal) ℓ) (g' : Dev Cert.DsqRefIdeal.nD → PrngReg), Pre_DsqIdeal m →
    (∀ c : Dev Cert.DsqIdeal.nD,
      m' ((c.tc : Thread Cert.DsqRefIdeal.nD Cert.DsqRefIdeal.τ).loc Cert.DsqRefIdeal.main_arg0) = m ((c.tc : Thread Cert.DsqIdeal.nD Cert.DsqIdeal.τ).loc Cert.DsqIdeal.main_arg0)
      ∧ m' ((c.tc : Thread Cert.DsqRefIdeal.nD Cert.DsqRefIdeal.τ).loc Cert.DsqRefIdeal.main_arg1) = m ((c.tc : Thread Cert.DsqIdeal.nD Cert.DsqIdeal.τ).loc Cert.DsqIdeal.main_arg1)) →
    ∃ (v0 : (c : Dev Cert.DsqIdeal.nD) → Buf (Elt Ideal) ((c.tc : Thread Cert.DsqIdeal.nD Cert.DsqIdeal.τ).loc Cert.DsqIdeal.main_v0)),
      θ_run (Cert.DsqIdeal.defs (F := Ideal)) (onTc (τ := Cert.DsqIdeal.τ) (Cert.DsqIdeal.main (F := Ideal))) ⟨m, fun _ => 0, g⟩ (fun r => ∀ c : Dev Cert.DsqIdeal.nD,
          r.2.mem ((c.tc : Thread Cert.DsqIdeal.nD Cert.DsqIdeal.τ).loc Cert.DsqIdeal.main_v0) = v0 c
          ∧ r.2.mem ((c.tc : Thread Cert.DsqIdeal.nD Cert.DsqIdeal.τ).loc Cert.DsqIdeal.main_arg0) = m ((c.tc : Thread Cert.DsqIdeal.nD Cert.DsqIdeal.τ).loc Cert.DsqIdeal.main_arg0)
          ∧ r.2.mem ((c.tc : Thread Cert.DsqIdeal.nD Cert.DsqIdeal.τ).loc Cert.DsqIdeal.main_arg1) = m ((c.tc : Thread Cert.DsqIdeal.nD Cert.DsqIdeal.τ).loc Cert.DsqIdeal.main_arg1))
      ∧ θ_run (Cert.DsqRefIdeal.defs (F := Ideal)) (onTc (τ := Cert.DsqRefIdeal.τ) (Cert.DsqRefIdeal.main (F := Ideal))) ⟨m', fun _ => 0, g'⟩ (fun r => ∀ c : Dev Cert.DsqRefIdeal.nD,
          r.2.mem ((c.tc : Thread Cert.DsqRefIdeal.nD Cert.DsqRefIdeal.τ).loc Cert.DsqRefIdeal.main_v6) = v0 c
          ∧ r.2.mem ((c.tc : Thread Cert.DsqRefIdeal.nD Cert.DsqRefIdeal.τ).loc Cert.DsqRefIdeal.main_arg0) = m' ((c.tc : Thread Cert.DsqRefIdeal.nD Cert.DsqRefIdeal.τ).loc Cert.DsqRefIdeal.main_arg0)
          ∧ r.2.mem ((c.tc : Thread Cert.DsqRefIdeal.nD Cert.DsqRefIdeal.τ).loc Cert.DsqRefIdeal.main_arg1) = m' ((c.tc : Thread Cert.DsqRefIdeal.nD Cert.DsqRefIdeal.τ).loc Cert.DsqRefIdeal.main_arg1))

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_v15) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def algebraic_DhIdeal_DhRefIdeal_pre_dh_finite [hDhIdeal : Cert.DhIdeal.Facts] [hDhRefIdeal : Cert.DhRefIdeal.Facts] [hPre_dh_finite : Cert.Pre_dh_finite.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal_dh_finite m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)) →
    ∃ (v0 : (c : Dev Cert.DhIdeal.nD) → Buf (Elt Ideal) ((c.tc : Thread Cert.DhIdeal.nD Cert.DhIdeal.τ).loc Cert.DhIdeal.main_v0_0)) (v1 : (c : Dev Cert.DhIdeal.nD) → Buf (Elt Ideal) ((c.tc : Thread Cert.DhIdeal.nD Cert.DhIdeal.τ).loc Cert.DhIdeal.main_v0_1)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0_0) = v0 c
          ∧ r.2.mem ((c.tc : Thread Cert.DhIdeal.nD Cert.DhIdeal.τ).loc Cert.DhIdeal.main_v0_1) = v1 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v39) = v0 c
          ∧ r.2.mem ((c.tc : Thread Cert.DhRefIdeal.nD Cert.DhRefIdeal.τ).loc Cert.DhRefIdeal.main_v22) = v1 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4))

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)) (v5 : (c : Dev Cert.MergeIdeal.nD) → Buf (Elt Ideal) ((c.tc : Thread Cert.MergeIdeal.nD Cert.MergeIdeal.τ).loc Cert.MergeIdeal.main_v0_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_v0_5) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_v22) = v1 c
          ∧ r.2.mem ((c.tc : Thread Cert.MergeRefIdeal.nD Cert.MergeRefIdeal.τ).loc Cert.MergeRefIdeal.main_v24) = v2 c
          ∧ r.2.mem ((c.tc : Thread Cert.MergeRefIdeal.nD Cert.MergeRefIdeal.τ).loc Cert.MergeRefIdeal.main_v49) = v3 c
          ∧ r.2.mem ((c.tc : Thread Cert.MergeRefIdeal.nD Cert.MergeRefIdeal.τ).loc Cert.MergeRefIdeal.main_v48) = v4 c
          ∧ r.2.mem ((c.tc : Thread Cert.MergeRefIdeal.nD Cert.MergeRefIdeal.τ).loc Cert.MergeRefIdeal.main_v62) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def algebraic_GatedIdeal_GatedRefIdeal [hGatedIdeal : Cert.GatedIdeal.Facts] [hGatedRefIdeal : Cert.GatedRefIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)
      ∧ m' ((c.tc : Thread Cert.GatedRefIdeal.nD Cert.GatedRefIdeal.τ).loc Cert.GatedRefIdeal.main_arg3) = m ((c.tc : Thread Cert.GatedIdeal.nD Cert.GatedIdeal.τ).loc Cert.GatedIdeal.main_arg3)) →
    ∃ (v0 : (c : Dev Cert.GatedIdeal.nD) → Buf (Elt Ideal) ((c.tc : Thread Cert.GatedIdeal.nD Cert.GatedIdeal.τ).loc Cert.GatedIdeal.main_v0)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v0) = v0 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v24) = v0 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2)
          ∧ r.2.mem ((c.tc : Thread Cert.GatedRefIdeal.nD Cert.GatedRefIdeal.τ).loc Cert.GatedRefIdeal.main_arg3) = m' ((c.tc : Thread Cert.GatedRefIdeal.nD Cert.GatedRefIdeal.τ).loc Cert.GatedRefIdeal.main_arg3))

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v20_0)) (v1 : (c : Dev Cert.QkvIdeal.nD) → Buf (Elt Ideal) ((c.tc : Thread Cert.QkvIdeal.nD Cert.QkvIdeal.τ).loc Cert.QkvIdeal.main_v20_1)) (v2 : (c : Dev Cert.QkvIdeal.nD) → Buf (Elt Ideal) ((c.tc : Thread Cert.QkvIdeal.nD Cert.QkvIdeal.τ).loc Cert.QkvIdeal.main_v20_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v20_0) = v0 c
          ∧ r.2.mem ((c.tc : Thread Cert.QkvIdeal.nD Cert.QkvIdeal.τ).loc Cert.QkvIdeal.main_v20_1) = v1 c
          ∧ r.2.mem ((c.tc : Thread Cert.QkvIdeal.nD Cert.QkvIdeal.τ).loc Cert.QkvIdeal.main_v20_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v76) = v0 c
          ∧ r.2.mem ((c.tc : Thread Cert.QkvRefIdeal.nD Cert.QkvRefIdeal.τ).loc Cert.QkvRefIdeal.main_v78) = v1 c
          ∧ r.2.mem ((c.tc : Thread Cert.QkvRefIdeal.nD Cert.QkvRefIdeal.τ).loc Cert.QkvRefIdeal.main_v79) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def Claim : Prop :=
  ∃ (hAttn : Cert.Attn.Facts) (hAttnIdeal : Cert.AttnIdeal.Facts) (hAttnRefIdeal : Cert.AttnRefIdeal.Facts) (hDwin : Cert.Dwin.Facts) (hDwinIdeal : Cert.DwinIdeal.Facts) (hDwinRefIdeal : Cert.DwinRefIdeal.Facts) (hDsq : Cert.Dsq.Facts) (hDsqIdeal : Cert.DsqIdeal.Facts) (hDsqRefIdeal : Cert.DsqRefIdeal.Facts) (hProj : Cert.Proj.Facts) (hProjIdeal : Cert.ProjIdeal.Facts) (hProjRefIdeal : Cert.ProjRefIdeal.Facts) (hDh : Cert.Dh.Facts) (hDhIdeal : Cert.DhIdeal.Facts) (hDhRefIdeal : Cert.DhRefIdeal.Facts) (hMerge : Cert.Merge.Facts) (hMergeIdeal : Cert.MergeIdeal.Facts) (hMergeRefIdeal : Cert.MergeRefIdeal.Facts) (hGated : Cert.Gated.Facts) (hGatedIdeal : Cert.GatedIdeal.Facts) (hGatedRefIdeal : Cert.GatedRefIdeal.Facts) (hQkv : Cert.Qkv.Facts) (hQkvIdeal : Cert.QkvIdeal.Facts) (hQkvRefIdeal : Cert.QkvRefIdeal.Facts) (hLoss : Cert.Loss.Facts) (hLossIdeal : Cert.LossIdeal.Facts) (hLossRefIdeal : Cert.LossRefIdeal.Facts) (hPre_attn_finite : Cert.Pre_attn_finite.Facts) (hPre_dh_finite : Cert.Pre_dh_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Dwin (hDwin := hDwin)
    ∧ quiescent_DwinIdeal (hDwinIdeal := hDwinIdeal)
    ∧ quiescent_DwinRefIdeal (hDwinRefIdeal := hDwinRefIdeal)
    ∧ quiescent_Dsq (hDsq := hDsq)
    ∧ quiescent_DsqIdeal (hDsqIdeal := hDsqIdeal)
    ∧ quiescent_DsqRefIdeal (hDsqRefIdeal := hDsqRefIdeal)
    ∧ quiescent_Proj (hProj := hProj)
    ∧ quiescent_ProjIdeal (hProjIdeal := hProjIdeal)
    ∧ quiescent_ProjRefIdeal (hProjRefIdeal := hProjRefIdeal)
    ∧ quiescent_Dh (hDh := hDh)
    ∧ quiescent_DhIdeal (hDhIdeal := hDhIdeal)
    ∧ quiescent_DhIdeal_pre_dh_finite (hDhIdeal := hDhIdeal) (hPre_dh_finite := hPre_dh_finite)
    ∧ quiescent_DhRefIdeal (hDhRefIdeal := hDhRefIdeal)
    ∧ quiescent_DhRefIdeal_pre_dh_finite (hDhRefIdeal := hDhRefIdeal) (hPre_dh_finite := hPre_dh_finite)
    ∧ quiescent_Merge (hMerge := hMerge)
    ∧ quiescent_MergeIdeal (hMergeIdeal := hMergeIdeal)
    ∧ quiescent_MergeRefIdeal (hMergeRefIdeal := hMergeRefIdeal)
    ∧ quiescent_Gated (hGated := hGated)
    ∧ quiescent_GatedIdeal (hGatedIdeal := hGatedIdeal)
    ∧ quiescent_GatedRefIdeal (hGatedRefIdeal := hGatedRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Loss (hLoss := hLoss)
    ∧ quiescent_LossIdeal (hLossIdeal := hLossIdeal)
    ∧ quiescent_LossRefIdeal (hLossRefIdeal := hLossRefIdeal)
    ∧ preserves_Attn_AttnIdeal
    ∧ preserves_Dwin_DwinIdeal
    ∧ preserves_Dsq_DsqIdeal
    ∧ preserves_Proj_ProjIdeal
    ∧ preserves_Dh_DhIdeal
    ∧ preserves_Merge_MergeIdeal
    ∧ preserves_Gated_GatedIdeal
    ∧ preserves_Qkv_QkvIdeal
    ∧ preserves_Loss_LossIdeal
    ∧ algebraic_AttnIdeal_AttnRefIdeal_pre_attn_finite (hAttnIdeal := hAttnIdeal) (hAttnRefIdeal := hAttnRefIdeal) (hPre_attn_finite := hPre_attn_finite)
    ∧ algebraic_DwinIdeal_DwinRefIdeal (hDwinIdeal := hDwinIdeal) (hDwinRefIdeal := hDwinRefIdeal)
    ∧ algebraic_DsqIdeal_DsqRefIdeal (hDsqIdeal := hDsqIdeal) (hDsqRefIdeal := hDsqRefIdeal)
    ∧ algebraic_ProjIdeal_ProjRefIdeal (hProjIdeal := hProjIdeal) (hProjRefIdeal := hProjRefIdeal)
    ∧ algebraic_DhIdeal_DhRefIdeal_pre_dh_finite (hDhIdeal := hDhIdeal) (hDhRefIdeal := hDhRefIdeal) (hPre_dh_finite := hPre_dh_finite)
    ∧ algebraic_MergeIdeal_MergeRefIdeal (hMergeIdeal := hMergeIdeal) (hMergeRefIdeal := hMergeRefIdeal)
    ∧ algebraic_GatedIdeal_GatedRefIdeal (hGatedIdeal := hGatedIdeal) (hGatedRefIdeal := hGatedRefIdeal)
    ∧ algebraic_QkvIdeal_QkvRefIdeal (hQkvIdeal := hQkvIdeal) (hQkvRefIdeal := hQkvRefIdeal)
    ∧ algebraic_LossIdeal_LossRefIdeal (hLossIdeal := hLossIdeal) (hLossRefIdeal := hLossRefIdeal)
-- ==== Pre_attn_finite.lean ====
abbrev S2048x1024 : Shape := ⟨2, ![2048, 1024]⟩
abbrev S2048x256 : Shape := ⟨2, ![2048, 256]⟩
abbrev S2048x12800 : Shape := ⟨2, ![2048, 12800]⟩
abbrev S_ : Shape := ⟨0, ![]⟩

class Facts : Prop where
  slices_S2048x12800_S2048x1024_0_5632 : S2048x12800.Slices ![0, 5632] S2048x1024
  bitsLt_bf16_f32 : FTy.bits .bf16 < FTy.bits .f32
  bcast_S_S2048x1024 : S_.BroadcastsInDim S2048x1024 (![] : Fin 0 → Fin S2048x1024.rank)
  bcast_S_S2048x256 : S_.BroadcastsInDim S2048x256 (![] : Fin 0 → Fin S2048x256.rank)

variable [Facts]

def fn {F : FTy → Type} [FloatOps F] (main_arg0 : FVec F S2048x1024 .f32) (main_arg1 : FVec F S2048x1024 .bf16) (main_arg2 : FVec F S2048x256 .bf16) (main_arg3 : FVec F S2048x256 .bf16) (main_arg4 : FVec F S2048x12800 .f32) (main_arg5 : FVec F S2048x12800 .bf16) : IVec S2048x1024 1 × IVec S2048x1024 1 × IVec S2048x256 1 × IVec S2048x256 1 × IVec S2048x1024 1 :=
  let main_v0 : FVec F S2048x1024 .f32 := (extractStridedSlice S2048x1024 ![0, 5632] · slices_S2048x12800_S2048x1024_0_5632) main_arg4
  let main_v1 : FVec F S2048x1024 .f32 := (extf .f32 · bitsLt_bf16_f32) main_arg1
  let main_v2 : FVec F S2048x256 .f32 := (extf .f32 · bitsLt_bf16_f32) main_arg2
  let main_v3 : FVec F S2048x256 .f32 := (extf .f32 · bitsLt_bf16_f32) main_arg3
  let main_v4 : FVec F S2048x1024 .f32 := Host.absf main_arg0
  let main_cst : FVec F S_ .f32 := constant S_ .f32 0x7F800000#32
  let main_v5 : FVec F S2048x1024 .f32 := broadcastInDim S2048x1024 ![] bcast_S_S2048x1024 main_cst
  let main_v6 : IVec S2048x1024 1 := cmpf .olt main_v4 main_v5
  let main_v7 : FVec F S2048x1024 .f32 := Host.absf main_v1
  let main_cst_0 : FVec F S_ .f32 := constant S_ .f32 0x7F800000#32
  let main_v8 : FVec F S2048x1024 .f32 := broadcastInDim S2048x1024 ![] bcast_S_S2048x1024 main_cst_0
  let main_v9 : IVec S2048x1024 1 := cmpf .olt main_v7 main_v8
  let main_v10 : FVec F S2048x256 .f32 := Host.absf main_v2
  let main_cst_1 : FVec F S_ .f32 := constant S_ .f32 0x7F800000#32
  let main_v11 : FVec F S2048x256 .f32 := broadcastInDim S2048x256 ![] bcast_S_S2048x256 main_cst_1
  let main_v12 : IVec S2048x256 1 := cmpf .olt main_v10 main_v11
  let main_v13 : FVec F S2048x256 .f32 := Host.absf main_v3
  let main_cst_2 : FVec F S_ .f32 := constant S_ .f32 0x7F800000#32
  let main_v14 : FVec F S2048x256 .f32 := broadcastInDim S2048x256 ![] bcast_S_S2048x256 main_cst_2
  let main_v15 : IVec S2048x256 1 := cmpf .olt main_v13 main_v14
  let main_v16 : FVec F S2048x1024 .f32 := Host.absf main_v0
  let main_cst_3 : FVec F S_ .f32 := constant S_ .f32 0x7F800000#32
  let main_v17 : FVec F S2048x1024 .f32 := broadcastInDim S2048x1024 ![] bcast_S_S2048x1024 main_cst_3
  let main_v18 : IVec S2048x1024 1 := cmpf .olt main_v16 main_v17
  (main_v6, main_v9, main_v12, main_v15, main_v18)
-- ==== Pre_dh_finite.lean ====
abbrev S2048x12800 : Shape := ⟨2, ![2048, 12800]⟩
abbrev S12800x1024 : Shape := ⟨2, ![12800, 1024]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x12800 : S_.BroadcastsInDim S2048x12800 (![] : Fin 0 → Fin S2048x12800.rank)
  bcast_S_S12800x1024 : S_.BroadcastsInDim S12800x1024 (![] : Fin 0 → Fin S12800x1024.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x12800 .bf16) (main_arg1 : FVec F S12800x1024 .bf16) (main_arg2 : FVec F S2048x1024 .f32) (main_arg3 : FVec F S2048x1024 .f32) (main_arg4 : FVec F S1x1024 .f32) : IVec S2048x12800 1 × IVec S12800x1024 1 × IVec S2048x1024 1 × IVec S1x1024 1 :=
  let main_v0 : FVec F S2048x12800 .f32 := (extf .f32 · bitsLt_bf16_f32) main_arg0
  let main_v1 : FVec F S12800x1024 .f32 := (extf .f32 · bitsLt_bf16_f32) main_arg1
  let main_v2 : FVec F S2048x12800 .f32 := Host.absf main_v0
  let main_cst : FVec F S_ .f32 := constant S_ .f32 0x7F800000#32
  let main_v3 : FVec F S2048x12800 .f32 := broadcastInDim S2048x12800 ![] bcast_S_S2048x12800 main_cst
  let main_v4 : IVec S2048x12800 1 := cmpf .olt main_v2 main_v3
  let main_v5 : FVec F S12800x1024 .f32 := Host.absf main_v1
  let main_cst_0 : FVec F S_ .f32 := constant S_ .f32 0x7F800000#32
  let main_v6 : FVec F S12800x1024 .f32 := broadcastInDim S12800x1024 ![] bcast_S_S12800x1024 main_cst_0
  let main_v7 : IVec S12800x1024 1 := cmpf .olt main_v5 main_v6
  let main_v8 : FVec F S2048x1024 .f32 := Host.absf main_arg2
  let main_cst_1 : FVec F S_ .f32 := constant S_ .f32 0x7F800000#32
  let main_v9 : FVec F S2048x1024 .f32 := broadcastInDim S2048x1024 ![] bcast_S_S2048x1024 main_cst_1
  let main_v10 : IVec S2048x1024 1 := cmpf .olt main_v8 main_v9
  let main_v11 : FVec F S1x1024 .f32 := Host.absf main_arg4
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v4, main_v7, main_v10, main_v13)
-- ==== Attn.lean ====
abbrev S2048x1024 : Shape := ⟨2, ![2048, 1024]⟩
abbrev S2048x256 : Shape := ⟨2, ![2048, 256]⟩
abbrev S2048x12800 : Shape := ⟨2, ![2048, 12800]⟩
abbrev S512x512 : Shape := ⟨2, ![512, 512]⟩
abbrev S2048x128 : Shape := ⟨2, ![2048, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 32
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x256, .bf16⟩
  | .hbm, ⟨3, _⟩ => ⟨S2048x256, .bf16⟩
  | .hbm, ⟨4, _⟩ => ⟨S2048x12800, .f32⟩
  | .hbm, ⟨5, _⟩ => ⟨S2048x12800, .bf16⟩
  | .hbm, ⟨6, _⟩ => ⟨S2048x1024, .f32⟩
  | .hbm, ⟨7, _⟩ => ⟨S2048x1024, .bf16⟩
  | .hbm, ⟨8, _⟩ => ⟨S2048x1024, .f32⟩
  | .hbm, ⟨9, _⟩ => ⟨S2048x256, .f32⟩
  | .hbm, ⟨10, _⟩ => ⟨S2048x256, .f32⟩
  | .hbm, ⟨11, _⟩ => ⟨S2048x12800, .bf16⟩
  | .local _ .vmem, ⟨0, _⟩ => ⟨S512x512, .bf16⟩
  | .local _ .vmem, ⟨1, _⟩ => ⟨S512x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S512x512, .bf16⟩
  | .local _ .vmem, ⟨31, _⟩ => ⟨S512x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S512x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== AttnRefIdeal.lean ====
abbrev S2048x1024 : Shape := ⟨2, ![2048, 1024]⟩
abbrev S2048x256 : Shape := ⟨2, ![2048, 256]⟩
abbrev S2048x12800 : Shape := ⟨2, ![2048, 12800]⟩
abbrev S2048x2x4x128 : Shape := ⟨4, ![2048, 2, 4, 128]⟩
abbrev S2048x2x128 : Shape := ⟨3, ![2048, 2, 128]⟩
abbrev S2x2048x2048x4 : Shape := ⟨4, ![2, 2048, 2048, 4]⟩
abbrev S2x4x2048x2048 : Shape := ⟨4, ![2, 4, 2048, 2048]⟩
abbrev S_ : Shape := ⟨0, ![]⟩
abbrev S2x4x2048 : Shape := ⟨3, ![2, 4, 2048]⟩
abbrev S2x4x2048x1 : Shape := ⟨4, ![2, 4, 2048, 1]⟩
abbrev S2x128x4x2048 : Shape := ⟨4, ![2, 128, 4, 2048]⟩
abbrev S2x128x2048 : Shape := ⟨3, ![2, 128, 2048]⟩
abbrev S2x2048x4x128 : Shape := ⟨4, ![2, 2048, 4, 128]⟩
abbrev S2x2048x128 : Shape := ⟨3, ![2, 2048, 128]⟩
abbrev S2048x5632 : Shape := ⟨2, ![2048, 5632]⟩
abbrev S2048x6144 : Shape := ⟨2, ![2048, 6144]⟩

abbrev nBuf : Space → Nat
  | .hbm => 139
  | .vmem => 0
  | .smem => 0
  | _ => 0

abbrev hbmTy0_0 (i : Nat) : BufTy := match i % 128 with
  | 0 => ⟨S2048x1024, .f32⟩
  | 1 => ⟨S2048x1024, .bf16⟩
  | 2 => ⟨S2048x256, .bf16⟩
  | 3 => ⟨S2048x256, .bf16⟩
  | 4 => ⟨S2048x12800, .f32⟩
  | 5 => ⟨S2048x12800, .bf16⟩
  | 6 => ⟨S2048x1024, .f32⟩
  | 7 => ⟨S2048x256, .f32⟩
  | 8 => ⟨S2048x256, .f32⟩
  | 9 => ⟨S2048x1024, .f32⟩
  | 10 => ⟨S2048x2x4x128, .f32⟩
  | 11 => ⟨S2048x2x128, .f32⟩
  | 12 => ⟨S2048x2x128, .f32⟩
  | 13 => ⟨S2x2048x2048x4, .f32⟩
  | 14 => ⟨S2x4x2048x2048, .f32⟩
  | 15 => ⟨S_, .f32⟩
  | 16 => ⟨S2x4x2048x2048, .f32⟩
  | 17 => ⟨S2x4x2048x2048, .f32⟩
  | 18 => ⟨S_, .f32⟩
  | 19 => ⟨S2x4x2048, .f32⟩
  | 20 => ⟨S_, .f32⟩
  | 21 => ⟨S2x4x2048, .f32⟩
  | 22 => ⟨S2x4x2048, .f32⟩
  | 23 => ⟨S2x4x2048x1, .f32⟩
  | 24 => ⟨S2x4x2048x2048, .f32⟩
  | 25 => ⟨S2x4x2048x2048, .f32⟩
  | 26 => ⟨S2x4x2048x2048, .f32⟩
  | 27 => ⟨S_, .f32⟩
  | 28 => ⟨S2x4x2048, .f32⟩
  | 29 => ⟨S2x4x2048x1, .f32⟩
  | 30 => ⟨S2x4x2048x2048, .f32⟩
  | 31 => ⟨S2x4x2048x2048, .f32⟩
  | 32 => ⟨S2x128x4x2048, .f32⟩
  | 33 => ⟨S2048x2x4x128, .f32⟩
  | 34 => ⟨S2048x1024, .f32⟩
  | 35 => ⟨S2048x2x4x128, .f32⟩
  | 36 => ⟨S2048x2x128, .f32⟩
  | 37 => ⟨S2048x2x128, .f32⟩
  | 38 => ⟨S2x2048x2048x4, .f32⟩
  | 39 => ⟨S2x4x2048x2048, .f32⟩
  | 40 => ⟨S_, .f32⟩
  | 41 => ⟨S2x4x2048x2048, .f32⟩
  | 42 => ⟨S2x4x2048x2048, .f32⟩
  | 43 => ⟨S_, .f32⟩
  | 44 => ⟨S2x4x2048, .f32⟩
  | 45 => ⟨S2x4x2048x1, .f32⟩
  | 46 => ⟨S2x4x2048x2048, .f32⟩
  | 47 => ⟨S2x4x2048x2048, .i1⟩
  | 48 => ⟨S2x4x2048x2048, .f32⟩
  | 49 => ⟨S_, .f32⟩
  | 50 => ⟨S2x4x2048, .f32⟩
  | 51 => ⟨S_, .f32⟩
  | 52 => ⟨S2x4x2048, .f32⟩
  | 53 => ⟨S2x4x2048, .f32⟩
  | 54 => ⟨S_, .f32⟩
  | 55 => ⟨S2x4x2048, .f32⟩
  | 56 => ⟨S2x4x2048, .i1⟩
  | 57 => ⟨S_, .f32⟩
  | 58 => ⟨S2x4x2048, .f32⟩
  | 59 => ⟨S2x4x2048, .i1⟩
  | 60 => ⟨S_, .f32⟩
  | 61 => ⟨S2x4x2048, .f32⟩
  | 62 => ⟨S_, .f32⟩
  | 63 => ⟨S2x4x2048, .f32⟩
  | 64 => ⟨S_, .f32⟩
  | 65 => ⟨S2x4x2048, .f32⟩
  | 66 => ⟨S2x4x2048, .f32⟩
  | 67 => ⟨S2x4x2048, .f32⟩
  | 68 => ⟨S2x4x2048x1, .f32⟩
  | 69 => ⟨S2x4x2048x2048, .f32⟩
  | 70 => ⟨S2x4x2048x2048, .f32⟩
  | 71 => ⟨S2x4x2048x2048, .f32⟩
  | 72 => ⟨S_, .f32⟩
  | 73 => ⟨S2x4x2048, .f32⟩
  | 74 => ⟨S2x4x2048x1, .f32⟩
  | 75 => ⟨S2x4x2048x2048, .f32⟩
  | 76 => ⟨S2x4x2048x2048, .f32⟩
  | 77 => ⟨S2x4x2048x1, .f32⟩
  | 78 => ⟨S_, .f32⟩
  | 79 => ⟨S2x4x2048x1, .f32⟩
  | 80 => ⟨S2x4x2048x1, .f32⟩
  | 81 => ⟨S2x128x4x2048, .f32⟩
  | 82 => ⟨S2048x2x4x128, .f32⟩
  | 83 => ⟨S2048x1024, .f32⟩
  | 84 => ⟨S2048x1024, .f32⟩
  | 85 => ⟨S2048x1024, .f32⟩
  | 86 => ⟨S_, .f32⟩
  | 87 => ⟨S2048x1024, .f32⟩
  | 88 => ⟨S2048x1024, .f32⟩
  | 89 => ⟨S_, .f32⟩
  | 90 => ⟨S2048x1024, .f32⟩
  | 91 => ⟨S2048x1024, .f32⟩
  | 92 => ⟨S_, .f32⟩
  | 93 => ⟨S2048x1024, .f32⟩
  | 94 => ⟨S2048x1024, .f32⟩
  | 95 => ⟨S2048x1024, .f32⟩
  | 96 => ⟨S2048x1024, .f32⟩
  | 97 => ⟨S2048x1024, .f32⟩
  | 98 => ⟨S2048x1024, .f32⟩
  | 99 => ⟨S2048x1024, .f32⟩
  | 100 => ⟨S2048x1024, .f32⟩
  | 101 => ⟨S2048x1024, .f32⟩
  | 102 => ⟨S2048x1024, .f32⟩
  | 103 => ⟨S2048x1024, .f32⟩
  | 104 => ⟨S2048x2x4x128, .f32⟩
  | 105 => ⟨S2x128x4x2048, .f32⟩
  | 106 => ⟨S2x4x2048x2048, .f32⟩
  | 107 => ⟨S2x128x2048, .f32⟩
  | 108 => ⟨S2048x2x128, .f32⟩
  | 109 => ⟨S2x4x2048x2048, .f32⟩
  | 110 => ⟨S2x4x2048x2048, .f32⟩
  | 111 => ⟨S2x4x2048x2048, .f32⟩
  | 112 => ⟨S_, .f32⟩
  | 113 => ⟨S2x4x2048, .f32⟩
  | 114 => ⟨S2x4x2048x1, .f32⟩
  | 115 => ⟨S2x4x2048x1, .f32⟩
  | 116 => ⟨S2x4x2048x2048, .f32⟩
  | 117 => ⟨S2x4x2048x2048, .f32⟩
  | 118 => ⟨S_, .f32⟩
  | 119 => ⟨S2x4x2048, .f32⟩
  | 120 => ⟨S2x4x2048x2048, .f32⟩
  | 121 => ⟨S2x4x2048x2048, .f32⟩
  | 122 => ⟨S2x4x2048x2048, .f32⟩
  | 123 => ⟨S_, .f32⟩
  | 124 => ⟨S2x4x2048x2048, .f32⟩
  | 125 => ⟨S2x4x2048x2048, .f32⟩
  | 126 => ⟨S2x2048x2048x4, .f32⟩
  | 127 => ⟨S2x2048x4x128, .f32⟩
  | _ => ⟨S2048x1024, .f32⟩

abbrev hbmTy0_1 (i : Nat) : BufTy := match i % 128 with
  | 0 => ⟨S2048x2x4x128, .f32⟩
  | 1 => ⟨S2x2048x128, .f32⟩
  | 2 => ⟨S2048x2x128, .f32⟩
  | 3 => ⟨S2048x256, .f32⟩
  | 4 => ⟨S2048x256, .f32⟩
  | 5 => ⟨S2048x1024, .f32⟩
  | 6 => ⟨S2048x1024, .bf16⟩
  | 7 => ⟨S2048x5632, .bf16⟩
  | 8 => ⟨S2048x1024, .bf16⟩
  | 9 => ⟨S2048x6144, .bf16⟩
  | 10 => ⟨S2048x12800, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_call0_v0 : Ref sig .tc := ⟨.hbm, 84, rfl⟩
abbrev main_call0_v1 : Ref sig .tc := ⟨.hbm, 85, rfl⟩
abbrev main_call0_cst : Ref sig .tc := ⟨.hbm, 86, rfl⟩
abbrev main_call0_v2 : Ref sig .tc := ⟨.hbm, 87, rfl⟩
abbrev main_call0_v3 : Ref sig .tc := ⟨.hbm, 88, rfl⟩
abbrev main_call0_cst_0 : Ref sig .tc := ⟨.hbm, 89, rfl⟩
abbrev main_call0_v4 : Ref sig .tc := ⟨.hbm, 90, rfl⟩
abbrev main_v63_2 : Ref sig .tc := ⟨.hbm, 91, rfl⟩
abbrev main_call0_cst_1 : Ref sig .tc := ⟨.hbm, 92, rfl⟩
abbrev main_call0_v6 : Ref sig .tc := ⟨.hbm, 93, rfl⟩
abbrev main_call0_v7 : Ref sig .tc := ⟨.hbm, 94, rfl⟩
abbrev main_v63_1 : Ref sig .tc := ⟨.hbm, 95, rfl⟩
abbrev main_v63_0 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_14 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_15 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_16 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩

abbrev nD : Nat := 1
abbrev τ : Topo := Topo.v7x

variable {F : FTy → Type} [FloatOps F]
-- ==== Dwin.lean ====
abbrev S2048x1024 : Shape := ⟨2, ![2048, 1024]⟩
abbrev S2048x12800 : Shape := ⟨2, ![2048, 12800]⟩
abbrev S12800x1024 : Shape := ⟨2, ![12800, 1024]⟩
abbrev S2048x1280 : Shape := ⟨2, ![2048, 1280]⟩
abbrev S1280x1024 : Shape := ⟨2, ![1280, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x12800, .bf16⟩
  | .hbm, ⟨2, _⟩ => ⟨S12800x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S1280x1024, .bf16⟩
  | .local _ .vmem, ⟨4, _⟩ => ⟨S1280x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwinRefIdeal.lean ====
abbrev S2048x1024 : Shape := ⟨2, ![2048, 1024]⟩
abbrev S2048x12800 : Shape := ⟨2, ![2048, 12800]⟩
abbrev S_ : Shape := ⟨0, ![]⟩
abbrev S12800x1024 : Shape := ⟨2, ![12800, 1024]⟩
abbrev S1024x12800 : Shape := ⟨2, ![1024, 12800]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x12800, .bf16⟩
  | .hbm, ⟨2, _⟩ => ⟨S_, .f32⟩
  | .hbm, ⟨3, _⟩ => ⟨S12800x1024, .f32⟩
  | .hbm, ⟨4, _⟩ => ⟨S2048x1024, .f32⟩
  | .hbm, ⟨5, _⟩ => ⟨S1024x12800, .f32⟩
  | .hbm, ⟨6, _⟩ => ⟨S2048x12800, .f32⟩
  | .hbm, ⟨7, _⟩ => ⟨S2048x12800, .f32⟩
  | .hbm, ⟨8, _⟩ => ⟨S12800x1024, .f32⟩
  | .hbm, ⟨9, _⟩ => ⟨S1024x12800, .f32⟩
  | .hbm, ⟨10, _⟩ => ⟨S12800x1024, .f32⟩
  | .hbm, ⟨11, _⟩ => ⟨S12800x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dsq.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DsqRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proj.lean ====
abbrev S2048x1024 : Shape := ⟨2, ![2048, 1024]⟩
abbrev S1x1024 : Shape := ⟨2, ![1, 1024]⟩
abbrev S12800x1024 : Shape := ⟨2, ![12800, 1024]⟩
abbrev S2048x12800 : Shape := ⟨2, ![2048, 12800]⟩
abbrev S1024x1024 : Shape := ⟨2, ![1024, 1024]⟩
abbrev S2560x1024 : Shape := ⟨2, ![2560, 1024]⟩
abbrev S1024x2560 : Shape := ⟨2, ![1024, 2560]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S12800x1024, .bf16⟩
  | .hbm, ⟨3, _⟩ => ⟨S2048x12800, .f32⟩
  | .hbm, ⟨4, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2560x1024, .bf16⟩
  | .local _ .vmem, ⟨4, _⟩ => ⟨S2560x1024, .bf16⟩
  | .local _ .vmem, ⟨5, _⟩ => ⟨S1024x2560, .f32⟩
  | .local _ .vmem, ⟨6, _⟩ => ⟨S1024x2560, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2560x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ProjRefIdeal.lean ====
abbrev S2048x1024 : Shape := ⟨2, ![2048, 1024]⟩
abbrev S1x1024 : Shape := ⟨2, ![1, 1024]⟩
abbrev S12800x1024 : Shape := ⟨2, ![12800, 1024]⟩
abbrev S_ : Shape := ⟨0, ![]⟩
abbrev S2048 : Shape := ⟨1, ![2048]⟩
abbrev S2048x1 : Shape := ⟨2, ![2048, 1]⟩
abbrev S1024x12800 : Shape := ⟨2, ![1024, 12800]⟩
abbrev S2048x12800 : Shape := ⟨2, ![2048, 12800]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S12800x1024, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S12800x1024, .f32⟩
  | .hbm, ⟨19, _⟩ => ⟨S1024x12800, .f32⟩
  | .hbm, ⟨20, _⟩ => ⟨S2048x12800, .f32⟩
  | .hbm, ⟨21, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Dh.lean ====
abbrev S2048x12800 : Shape := ⟨2, ![2048, 12800]⟩
abbrev S12800x1024 : Shape := ⟨2, ![12800, 1024]⟩
abbrev S2048x1024 : Shape := ⟨2, ![2048, 1024]⟩
abbrev S1x1024 : Shape := ⟨2, ![1, 1024]⟩
abbrev S1024x2560 : Shape := ⟨2, ![1024, 2560]⟩
abbrev S2560x1024 : Shape := ⟨2, ![2560, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S2048x12800, .bf16⟩
  | .hbm, ⟨1, _⟩ => ⟨S12800x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2048x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![2, 5], ![false, false]⟩

def k0_cond3 (i : grid0.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_11 : BitVec 32 := 0#32
  let v18 : BitVec 1 := Scalar.cmpi .ne v17 c0_i32_11
  v18

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let arg0 : BitVec 32 := BitVec.ofNat 32 (i 0).val
  let c0_i32_9 : BitVec 32 := 0#32
  let v12 : BitVec 1 := Scalar.cmpi .eq arg0 c0_i32_9
  let v13 : BitVec 1 := Scalar.andi v11 v12
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DhRefIdeal.lean ====
abbrev S2048x12800 : Shape := ⟨2, ![2048, 12800]⟩
abbrev S12800x1024 : Shape := ⟨2, ![12800, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x12800 : Shape := ⟨2, ![1024, 12800]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S2048x12800, .bf16⟩
  | .hbm, ⟨1, _⟩ => ⟨S12800x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S12800x1024, .f32⟩
  | .hbm, ⟨25, _⟩ => ⟨S1024x12800, .f32⟩
  | .hbm, ⟨26, _⟩ => ⟨S2048x12800, .f32⟩
  | .hbm, ⟨27, _⟩ => ⟨S2048x12800, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | _, _ => ⟨S2048x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Merge.lean ====
abbrev S2048x1024 : Shape := ⟨2, ![2048, 1024]⟩
abbrev S2048x12800 : Shape := ⟨2, ![2048, 12800]⟩
abbrev S8x4x128x1024 : Shape := ⟨4, ![8, 4, 128, 1024]⟩
abbrev S1x1024 : Shape := ⟨2, ![1, 1024]⟩
abbrev S512x1024 : Shape := ⟨2, ![512, 1024]⟩
abbrev S512x512 : Shape := ⟨2, ![512, 512]⟩
abbrev S8x1x128x1024 : Shape := ⟨4, ![8, 1, 128, 1024]⟩
abbrev S8x128x1024 : Shape := ⟨3, ![8, 128, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 13
  | .vmem => 34
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x12800, .f32⟩
  | .hbm, ⟨5, _⟩ => ⟨S8x4x128x1024, .bf16⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .bf16⟩
  | .hbm, ⟨11, _⟩ => ⟨S2048x1024, .f32⟩
  | .hbm, ⟨12, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S8x4x128x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_5 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_6 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_7 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_8 (i : grid0.Coords) : Fin 2 → Nat :=
  let arg0 : BitVec 32 := BitVec.ofNat 32 (i 0).val
  let c23_i32 : BitVec 32 := 23#32
  let c0_i32 : BitVec 32 := 0#32
  ![arg0.toNat, c23_i32.toNat]

def cc0_transform_9 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x4x128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeRefIdeal.lean ====
abbrev S2048x1024 : Shape := ⟨2, ![2048, 1024]⟩
abbrev S2048x12800 : Shape := ⟨2, ![2048, 12800]⟩
abbrev S8x4x128x1024 : Shape := ⟨4, ![8, 4, 128, 1024]⟩
abbrev S1x1024 : Shape := ⟨2, ![1, 1024]⟩
abbrev S8x1x128x1024 : Shape := ⟨4, ![8, 1, 128, 1024]⟩
abbrev S8x128x1024 : Shape := ⟨3, ![8, 128, 1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩

abbrev nBuf : Space → Nat
  | .hbm => 79
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x12800, .f32⟩
  | .hbm, ⟨5, _⟩ => ⟨S8x4x128x1024, .bf16⟩
  | .hbm, ⟨6, _⟩ => ⟨S1x1024, .f32⟩
  | .hbm, ⟨7, _⟩ => ⟨S8x1x128x1024, .bf16⟩
  | .hbm, ⟨8, _⟩ => ⟨S8x128x1024, .bf16⟩
  | .hbm, ⟨9, _⟩ => ⟨S8x128x1024, .f32⟩
  | .hbm, ⟨10, _⟩ => ⟨S1024x1024, .f32⟩
  | .hbm, ⟨11, _⟩ => ⟨S8x1x128x1024, .bf16⟩
  | .hbm, ⟨12, _⟩ => ⟨S8x128x1024, .bf16⟩
  | .hbm, ⟨13, _⟩ => ⟨S8x128x1024, .f32⟩
  | .hbm, ⟨14, _⟩ => ⟨S1024x1024, .f32⟩
  | .hbm, ⟨15, _⟩ => ⟨S8x1x128x1024, .bf16⟩
  | .hbm, ⟨16, _⟩ => ⟨S8x128x1024, .bf16⟩
  | .hbm, ⟨17, _⟩ => ⟨S8x128x1024, .f32⟩
  | .hbm, ⟨18, _⟩ => ⟨S1024x1024, .f32⟩
  | .hbm, ⟨19, _⟩ => ⟨S8x1x128x1024, .bf16⟩
  | .hbm, ⟨20, _⟩ => ⟨S8x128x1024, .bf16⟩
  | .hbm, ⟨21, _⟩ => ⟨S8x128x1024, .f32⟩
  | .hbm, ⟨22, _⟩ => ⟨S1024x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .bf16⟩
  | .hbm, ⟨63, _⟩ => ⟨S2048x1024, .f32⟩
  | .hbm, ⟨64, _⟩ => ⟨S_, .f32⟩
  | .hbm, ⟨65, _⟩ => ⟨S2048, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S2048x1, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_1 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩

abbrev nD : Nat := 1
abbrev τ : Topo := Topo.v7x

variable {F : FTy → Type} [FloatOps F]
-- ==== Gated.lean ====
abbrev S2048x1024 : Shape := ⟨2, ![2048, 1024]⟩
abbrev S2048x12800 : Shape := ⟨2, ![2048, 12800]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x12800, .f32⟩
  | .hbm, ⟨2, _⟩ => ⟨S1x1024, .f32⟩
  | .hbm, ⟨3, _⟩ => ⟨S1x1024, .f32⟩
  | .hbm, ⟨4, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_2 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GatedRefIdeal.lean ====
abbrev S2048x1024 : Shape := ⟨2, ![2048, 1024]⟩
abbrev S2048x12800 : Shape := ⟨2, ![2048, 12800]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x12800, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩

abbrev nD : Nat := 1
abbrev τ : Topo := Topo.v7x

variable {F : FTy → Type} [FloatOps F]
-- ==== Qkv.lean ====
abbrev S2048x12800 : Shape := ⟨2, ![2048, 12800]⟩
abbrev S1x128 : Shape := ⟨2, ![1, 128]⟩
abbrev S2048x2x32 : Shape := ⟨3, ![2048, 2, 32]⟩
abbrev S2048x1x32 : Shape := ⟨3, ![2048, 1, 32]⟩
abbrev S2048x32 : Shape := ⟨2, ![2048, 32]⟩
abbrev S2048x128 : Shape := ⟨2, ![2048, 128]⟩
abbrev S2048x1024 : Shape := ⟨2, ![2048, 1024]⟩
abbrev S2048x256 : Shape := ⟨2, ![2048, 256]⟩
abbrev S512x1024 : Shape := ⟨2, ![512, 1024]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 28
  | .vmem => 18
  | .smem => 0
  | _ => 0

abbrev bufTy : (tb : Table) → Fin (tcTables nBuf tb) → BufTy
  | .hbm, ⟨0, _⟩ => ⟨S2048x12800, .f32⟩
  | .hbm, ⟨1, _⟩ => ⟨S1x128, .f32⟩
  | .hbm, ⟨2, _⟩ => ⟨S1x128, .f32⟩
  | .hbm, ⟨3, _⟩ => ⟨S2048x2x32, .f32⟩
  | .hbm, ⟨4, _⟩ => ⟨S2048x2x32, .f32⟩
  | .hbm, ⟨5, _⟩ => ⟨S2048x1x32, .f32⟩
  | .hbm, ⟨6, _⟩ => ⟨S2048x32, .f32⟩
  | .hbm, ⟨7, _⟩ => ⟨S2048x1x32, .f32⟩
  | .hbm, ⟨8, _⟩ => ⟨S2048x32, .f32⟩
  | .hbm, ⟨9, _⟩ => ⟨S2048x1x32, .f32⟩
  | .hbm, ⟨10, _⟩ => ⟨S2048x32, .f32⟩
  | .hbm, ⟨11, _⟩ => ⟨S2048x1x32, .f32⟩
  | .hbm, ⟨12, _⟩ => ⟨S2048x32, .f32⟩
  | .hbm, ⟨13, _⟩ => ⟨S2048x128, .f32⟩
  | .hbm, ⟨14, _⟩ => ⟨S2048x1x32, .f32⟩
  | .hbm, ⟨15, _⟩ => ⟨S2048x32, .f32⟩
  | .hbm, ⟨16, _⟩ => ⟨S2048x32, .f32⟩
  | .hbm, ⟨17, _⟩ => ⟨S2048x1x32, .f32⟩
  | .hbm, ⟨18, _⟩ => ⟨S2048x32, .f32⟩
  | .hbm, ⟨19, _⟩ => ⟨S2048x1x32, .f32⟩
  | .hbm, ⟨20, _⟩ => ⟨S2048x32, .f32⟩
  | .hbm, ⟨21, _⟩ => ⟨S2048x32, .f32⟩
  | .hbm, ⟨22, _⟩ => ⟨S2048x1x32, .f32⟩
  | .hbm, ⟨23, _⟩ => ⟨S2048x32, .f32⟩
  | .hbm, ⟨24, _⟩ => ⟨S2048x128, .f32⟩
  | .hbm, ⟨25, _⟩ => ⟨S2048x1024, .bf16⟩
  | .hbm, ⟨26, _⟩ => ⟨S2048x256, .bf16⟩
  | .hbm, ⟨27, _⟩ => ⟨S2048x256, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | _, _ => ⟨S2048x12800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev main_v20_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_2 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkvRefIdeal.lean ====
abbrev S2048x12800 : Shape := ⟨2, ![2048, 12800]⟩
abbrev S1x128 : Shape := ⟨2, ![1, 128]⟩
abbrev S2048x2x32 : Shape := ⟨3, ![2048, 2, 32]⟩
abbrev S2048x1024 : Shape := ⟨2, ![2048, 1024]⟩
abbrev S2048x256 : Shape := ⟨2, ![2048, 256]⟩
abbrev S2048x8x128 : Shape := ⟨3, ![2048, 8, 128]⟩
abbrev S128 : Shape := ⟨1, ![128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩
abbrev S2048x8x2x2x32 : Shape := ⟨5, ![2048, 8, 2, 2, 32]⟩
abbrev S2048x8x2x1x32 : Shape := ⟨5, ![2048, 8, 2, 1, 32]⟩
abbrev S2048x8x2x32 : Shape := ⟨4, ![2048, 8, 2, 32]⟩
abbrev S2048x1x2x32 : Shape := ⟨4, ![2048, 1, 2, 32]⟩
abbrev S2048x2x128 : Shape := ⟨3, ![2048, 2, 128]⟩
abbrev S2048x2 : Shape := ⟨2, ![2048, 2]⟩
abbrev S2048x2x1 : Shape := ⟨3, ![2048, 2, 1]⟩
abbrev S2048x2x2x2x32 : Shape := ⟨5, ![2048, 2, 2, 2, 32]⟩
abbrev S2048x2x2x1x32 : Shape := ⟨5, ![2048, 2, 2, 1, 32]⟩
abbrev S2048x2x2x32 : Shape := ⟨4, ![2048, 2, 2, 32]⟩

abbrev nBuf : Space → Nat
  | .hbm => 91
  | .vmem => 0
  | .smem => 0
  | _ => 0

abbrev bufTy : (tb : Table) → Fin (tcTables nBuf tb) → BufTy
  | .hbm, ⟨0, _⟩ => ⟨S2048x12800, .f32⟩
  | .hbm, ⟨1, _⟩ => ⟨S1x128, .f32⟩
  | .hbm, ⟨2, _⟩ => ⟨S1x128, .f32⟩
  | .hbm, ⟨3, _⟩ => ⟨S2048x2x32, .f32⟩
  | .hbm, ⟨4, _⟩ => ⟨S2048x2x32, .f32⟩
  | .hbm, ⟨5, _⟩ => ⟨S2048x1024, .f32⟩
  | .hbm, ⟨6, _⟩ => ⟨S2048x256, .f32⟩
  | .hbm, ⟨7, _⟩ => ⟨S2048x256, .f32⟩
  | .hbm, ⟨8, _⟩ => ⟨S2048x8x128, .f32⟩
  | .hbm, ⟨9, _⟩ => ⟨S128, .f32⟩
  | .hbm, ⟨10, _⟩ => ⟨S2048x8x128, .f32⟩
  | .hbm, ⟨11, _⟩ => ⟨S_, .f32⟩
  | .hbm, ⟨12, _⟩ => ⟨S2048x8, .f32⟩
  | .hbm, ⟨13, _⟩ => ⟨S2048x8x1, .f32⟩
  | .hbm, ⟨14, _⟩ => ⟨S_, .f32⟩
  | .hbm, ⟨15, _⟩ => ⟨S2048x8x1, .f32⟩
  | .hbm, ⟨16, _⟩ => ⟨S2048x8x1, .f32⟩
  | .hbm, ⟨17, _⟩ => ⟨S_, .f32⟩
  | .hbm, ⟨18, _⟩ => ⟨S2048x8x1, .f32⟩
  | .hbm, ⟨19, _⟩ => ⟨S2048x8x1, .f32⟩
  | .hbm, ⟨20, _⟩ => ⟨S2048x8x1, .f32⟩
  | .hbm, ⟨21, _⟩ => ⟨S2048x8x128, .f32⟩
  | .hbm, ⟨22, _⟩ => ⟨S2048x8x128, .f32⟩
  | .hbm, ⟨23, _⟩ => ⟨S1x1x128, .f32⟩
  | .hbm, ⟨24, _⟩ => ⟨S2048x8x128, .f32⟩
  | .hbm, ⟨25, _⟩ => ⟨S2048x8x128, .f32⟩
  | .hbm, ⟨26, _⟩ => ⟨S2048x8x2x2x32, .f32⟩
  | .hbm, ⟨27, _⟩ => ⟨S2048x8x2x1x32, .f32⟩
  | .hbm, ⟨28, _⟩ => ⟨S2048x8x2x32, .f32⟩
  | .hbm, ⟨29, _⟩ => ⟨S2048x8x2x1x32, .f32⟩
  | .hbm, ⟨30, _⟩ => ⟨S2048x8x2x32, .f32⟩
  | .hbm, ⟨31, _⟩ => ⟨S2048x1x2x32, .f32⟩
  | .hbm, ⟨32, _⟩ => ⟨S2048x1x2x32, .f32⟩
  | .hbm, ⟨33, _⟩ => ⟨S2048x8x2x32, .f32⟩
  | .hbm, ⟨34, _⟩ => ⟨S2048x8x2x32, .f32⟩
  | .hbm, ⟨35, _⟩ => ⟨S2048x8x2x32, .f32⟩
  | .hbm, ⟨36, _⟩ => ⟨S2048x8x2x32, .f32⟩
  | .hbm, ⟨37, _⟩ => ⟨S2048x8x2x32, .f32⟩
  | .hbm, ⟨38, _⟩ => ⟨S2048x8x2x32, .f32⟩
  | .hbm, ⟨39, _⟩ => ⟨S2048x8x2x32, .f32⟩
  | .hbm, ⟨40, _⟩ => ⟨S2048x8x2x32, .f32⟩
  | .hbm, ⟨41, _⟩ => ⟨S2048x8x2x32, .f32⟩
  | .hbm, ⟨42, _⟩ => ⟨S2048x8x2x32, .f32⟩
  | .hbm, ⟨43, _⟩ => ⟨S2048x8x2x1x32, .f32⟩
  | .hbm, ⟨44, _⟩ => ⟨S2048x8x2x1x32, .f32⟩
  | .hbm, ⟨45, _⟩ => ⟨S2048x8x2x2x32, .f32⟩
  | .hbm, ⟨46, _⟩ => ⟨S2048x8x128, .f32⟩
  | .hbm, ⟨47, _⟩ => ⟨S2048x2x128, .f32⟩
  | .hbm, ⟨48, _⟩ => ⟨S128, .f32⟩
  | .hbm, ⟨49, _⟩ => ⟨S2048x2x128, .f32⟩
  | .hbm, ⟨50, _⟩ => ⟨S_, .f32⟩
  | .hbm, ⟨51, _⟩ => ⟨S2048x2, .f32⟩
  | .hbm, ⟨52, _⟩ => ⟨S2048x2x1, .f32⟩
  | .hbm, ⟨53, _⟩ => ⟨S_, .f32⟩
  | .hbm, ⟨54, _⟩ => ⟨S2048x2x1, .f32⟩
  | .hbm, ⟨55, _⟩ => ⟨S2048x2x1, .f32⟩
  | .hbm, ⟨56, _⟩ => ⟨S_, .f32⟩
  | .hbm, ⟨57, _⟩ => ⟨S2048x2x1, .f32⟩
  | .hbm, ⟨58, _⟩ => ⟨S2048x2x1, .f32⟩
  | .hbm, ⟨59, _⟩ => ⟨S2048x2x1, .f32⟩
  | .hbm, ⟨60, _⟩ => ⟨S2048x2x128, .f32⟩
  | .hbm, ⟨61, _⟩ => ⟨S2048x2x128, .f32⟩
  | .hbm, ⟨62, _⟩ => ⟨S1x1x128, .f32⟩
  | .hbm, ⟨63, _⟩ => ⟨S2048x2x128, .f32⟩
  | .hbm, ⟨64, _⟩ => ⟨S2048x2x128, .f32⟩
  | .hbm, ⟨65, _⟩ => ⟨S2048x2x2x2x32, .f32⟩
  | .hbm, ⟨66, _⟩ => ⟨S2048x2x2x1x32, .f32⟩
  | .hbm, ⟨67, _⟩ => ⟨S2048x2x2x32, .f32⟩
  | .hbm, ⟨68, _⟩ => ⟨S2048x2x2x1x32, .f32⟩
  | .hbm, ⟨69, _⟩ => ⟨S2048x2x2x32, .f32⟩
  | .hbm, ⟨70, _⟩ => ⟨S2048x1x2x32, .f32⟩
  | .hbm, ⟨71, _⟩ => ⟨S2048x1x2x32, .f32⟩
  | .hbm, ⟨72, _⟩ => ⟨S2048x2x2x32, .f32⟩
  | .hbm, ⟨73, _⟩ => ⟨S2048x2x2x32, .f32⟩
  | .hbm, ⟨74, _⟩ => ⟨S2048x2x2x32, .f32⟩
  | .hbm, ⟨75, _⟩ => ⟨S2048x2x2x32, .f32⟩
  | .hbm, ⟨76, _⟩ => ⟨S2048x2x2x32, .f32⟩
  | .hbm, ⟨77, _⟩ => ⟨S2048x2x2x32, .f32⟩
  | .hbm, ⟨78, _⟩ => ⟨S2048x2x2x32, .f32⟩
  | .hbm, ⟨79, _⟩ => ⟨S2048x2x2x32, .f32⟩
  | .hbm, ⟨80, _⟩ => ⟨S2048x2x2x32, .f32⟩
  | .hbm, ⟨81, _⟩ => ⟨S2048x2x2x32, .f32⟩
  | .hbm, ⟨82, _⟩ => ⟨S2048x2x2x1x32, .f32⟩
  | .hbm, ⟨83, _⟩ => ⟨S2048x2x2x1x32, .f32⟩
  | .hbm, ⟨84, _⟩ => ⟨S2048x2x2x2x32, .f32⟩
  | .hbm, ⟨85, _⟩ => ⟨S2048x2x128, .f32⟩
  | .hbm, ⟨86, _⟩ => ⟨S2048x1024, .f32⟩
  | .hbm, ⟨87, _⟩ => ⟨S2048x1024, .bf16⟩
  | .hbm, ⟨88, _⟩ => ⟨S2048x256, .f32⟩
  | .hbm, ⟨89, _⟩ => ⟨S2048x256, .bf16⟩
  | .hbm, ⟨90, _⟩ => ⟨S2048x256, .bf16⟩
  | _, _ => ⟨S2048x12800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_2 : Ref sig .tc := ⟨.hbm, 50, rfl⟩
abbrev main_v42 : Ref sig .tc := ⟨.hbm, 51, rfl⟩
abbrev main_v43 : Ref sig .tc := ⟨.hbm, 52, rfl⟩
abbrev main_cst_3 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩

abbrev nD : Nat := 1
abbrev τ : Topo := Topo.v7x

variable {F : FTy → Type} [FloatOps F]
-- ==== Loss.lean ====
abbrev S2048x1024 : Shape := ⟨2, ![2048, 1024]⟩
abbrev S1x128 : Shape := ⟨2, ![1, 128]⟩
abbrev S256x1024 : Shape := ⟨2, ![256, 1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S2048x1024 : Shape := ⟨2, ![2048, 1024]⟩
abbrev S_ : Shape := ⟨0, ![]⟩
abbrev S2048 : Shape := ⟨1, ![2048]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.AttnBlocks.lean ====
/- What the backward kernel's body leaves in its output buffers, head by head: the four heads of a block are computed by
   the same expressions, whose intermediate values are cut differently. -/
module

public import proofs.«01_k».proof.Proof.Gen.AttnIdeal.Frame
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.AttnIdeal.Blocks

open Cert.AttnIdeal Cert.AttnIdeal.Gen

variable {F : FTy → Type} [FloatOps F]

theorem hz : (![0, 0] : Fin 2 → Nat) = fun _ => 0 := funext fun a => by match a with | ⟨0, _⟩ => rfl | ⟨1, _⟩ => rfl

/-- One head: the gradient of the query, the parts of the gradients of keys and values, the gradient of the gate's input. -/
def dq (k v : Vec F S2048x128 .bf16) (t b : Vec F S512x128 .f32) (q : Vec F S512x128 .bf16) (o : Vec F S512x128 .f32) : FVec F S512x128 .f32 :=
  k1_pay16 k v t b q (k1_pay7 o) (k1_pay9 b)
def dk (k v : Vec F S2048x128 .bf16) (t b : Vec F S512x128 .f32) (q : Vec F S512x128 .bf16) (o : Vec F S512x128 .f32) : FVec F S2048x128 .f32 :=
  k1_pay17 k v t b q (k1_pay7 o) (k1_pay9 b)
def dv (acc : FVec F S2048x128 .f32) (k : Vec F S2048x128 .bf16) (t b : Vec F S512x128 .f32) (q : Vec F S512x128 .bf16) : FVec F S2048x128 .f32 :=
  k1_pay13 k acc t b q (k1_pay9 b)

/-- The four heads' columns of a block. -/
abbrev h0 : Rect S512x512 := r0_1
abbrev h1 : Rect S512x512 := r0_2
abbrev h2 : Rect S512x512 := r0_3
abbrev h3 : Rect S512x512 := r0_4

variable (x0 x1 : Vec F S512x512 .f32) (x2 : Vec F S512x512 .bf16) (x3 x4 : Vec F S2048x128 .bf16) (x5 : Vec F S512x512 .f32)

def dqBlock : Vec F S512x512 .f32 :=
  View.canon [⟨h3, dq x3 x4 (View.ld x0 h3) (View.ld x5 h3) (View.ld x2 h3) (View.ld x1 h3)⟩,
    ⟨h2, dq x3 x4 (View.ld x0 h2) (View.ld x5 h2) (View.ld x2 h2) (View.ld x1 h2)⟩,
    ⟨h1, dq x3 x4 (View.ld x0 h1) (View.ld x5 h1) (View.ld x2 h1) (View.ld x1 h1)⟩,
    ⟨h0, dq x3 x4 (View.ld x0 h0) (View.ld x5 h0) (View.ld x2 h0) (View.ld x1 h0)⟩]

def dbgBlock : Vec F S512x512 .bf16 :=
  View.canon [⟨h3, k1_pay8 (View.ld x0 h3) (View.ld x5 h3) (View.ld x1 h3)⟩,
    ⟨h2, k1_pay8 (View.ld x0 h2) (View.ld x5 h2) (View.ld x1 h2)⟩,
    ⟨h1, k1_pay8 (View.ld x0 h1) (View.ld x5 h1) (View.ld x1 h1)⟩,
    ⟨h0, k1_pay8 (View.ld x0 h0) (View.ld x5 h0) (View.ld x1 h0)⟩]

def dkBlock : FVec F S2048x128 .f32 :=
  addf (addf (addf (addf (k1_pay5 : FVec F S2048x128 .f32)
    (dk x3 x4 (View.ld x0 h0) (View.ld x5 h0) (View.ld x2 h0) (View.ld x1 h0)))
    (dk x3 x4 (View.ld x0 h1) (View.ld x5 h1) (View.ld x2 h1) (View.ld x1 h1)))
    (dk x3 x4 (View.ld x0 h2) (View.ld x5 h2) (View.ld x2 h2) (View.ld x1 h2)))
    (dk x3 x4 (View.ld x0 h3) (View.ld x5 h3) (View.ld x2 h3) (View.ld x1 h3))

def dvBlock : FVec F S2048x128 .f32 :=
  dv (dv (dv (dv (k1_pay6 : FVec F S2048x128 .f32) x3 (View.ld x0 h0) (View.ld x5 h0) (View.ld x2 h0))
    x3 (View.ld x0 h1) (View.ld x5 h1) (View.ld x2 h1))
    x3 (View.ld x0 h2) (View.ld x5 h2) (View.ld x2 h2))
    x3 (View.ld x0 h3) (View.ld x5 h3) (View.ld x2 h3)

set_option maxHeartbeats 2000000 in
theorem out_A_6 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S512x512 .f32) (harg7 : arg7.IsWhole) (arg9 : Memref sig .tc .vmem S512x512 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S512x512 .bf16) (harg12 : arg12.IsWhole) (hc0 : cond1_0 i) :
    out1_A_6 c i arg2 harg2 arg3 harg3 arg4 harg4 arg5 harg5 arg6 harg6 arg7 harg7 arg9 harg9 arg10 harg10 arg11 harg11 arg12 harg12 hc0 x0 x1 x2 x3 x4 x5 = dqBlock x0 x1 x2 x3 x4 x5 := by
  unfold out1_A_6
  rw [View.read_writes_eq_canon _ _ _ (cover1_A_6 c i arg2 harg2 arg3 harg3 arg4 harg4 arg5 harg5 arg6 harg6 arg7 harg7 arg9 harg9 arg10 harg10 arg11 harg11 arg12 harg12 hc0 x0 x1 x2 x3 x4 x5)]
  unfold kernelRun1_A
  dsimp only
  sl_unfold_words
  simp only [View.readAt_eq_ld, harg2.read_unread, harg3.read_unread, harg4.read_unread, harg5.read_unread, harg6.read_unread, harg7.read_unread, View.ld_unit_zero (S := S2048x128) hz, shapeCast_self (s := S2048x128)]
  rfl

set_option maxHeartbeats 2000000 in
theorem out_A_7 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S512x512 .f32) (harg7 : arg7.IsWhole) (arg9 : Memref sig .tc .vmem S512x512 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S512x512 .bf16) (harg12 : arg12.IsWhole) (hc0 : cond1_0 i) :
    out1_A_7 c i arg2 harg2 arg3 harg3 arg4 harg4 arg5 harg5 arg6 harg6 arg7 harg7 arg9 harg9 arg10 harg10 arg11 harg11 arg12 harg12 hc0 x0 x1 x2 x3 x4 x5 = addf (k1_pay3 : FVec F S2048x128 .f32) (dkBlock x0 x1 x2 x3 x4 x5) := by
  unfold out1_A_7
  rw [View.read_writes_eq_canon _ _ _ (cover1_A_7 c i arg2 harg2 arg3 harg3 arg4 harg4 arg5 harg5 arg6 harg6 arg7 harg7 arg9 harg9 arg10 harg10 arg11 harg11 arg12 harg12 hc0 x0 x1 x2 x3 x4 x5)]
  unfold kernelRun1_A
  dsimp only
  sl_unfold_words
  rw [View.canon_cons_unit_zero (S := S2048x128) hz, View.readCov_unit_zero (S := S2048x128) _ hz]
  unfold k1_pay1
  simp only [View.readAt_eq_ld, harg2.read_unread, harg3.read_unread, harg4.read_unread, harg5.read_unread, harg6.read_unread, harg7.read_unread, View.ld_unit_zero (S := S2048x128) hz, shapeCast_self (s := S2048x128)]
  rfl

set_option maxHeartbeats 2000000 in
theorem out_A_8 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S512x512 .f32) (harg7 : arg7.IsWhole) (arg9 : Memref sig .tc .vmem S512x512 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S512x512 .bf16) (harg12 : arg12.IsWhole) (hc0 : cond1_0 i) :
    out1_A_8 c i arg2 harg2 arg3 harg3 arg4 harg4 arg5 harg5 arg6 harg6 arg7 harg7 arg9 harg9 arg10 harg10 arg11 harg11 arg12 harg12 hc0 x0 x1 x2 x3 x4 x5 = addf (k1_pay4 : FVec F S2048x128 .f32) (dvBlock x0 x2 x3 x5) := by
  unfold out1_A_8
  rw [View.read_writes_eq_canon _ _ _ (cover1_A_8 c i arg2 harg2 arg3 harg3 arg4 harg4 arg5 harg5 arg6 harg6 arg7 harg7 arg9 harg9 arg10 harg10 arg11 harg11 arg12 harg12 hc0 x0 x1 x2 x3 x4 x5)]
  unfold kernelRun1_A
  dsimp only
  sl_unfold_words
  rw [View.canon_cons_unit_zero (S := S2048x128) hz, View.readCov_unit_zero (S := S2048x128) _ hz]
  unfold k1_pay2
  simp only [View.readAt_eq_ld, harg2.read_unread, harg3.read_unread, harg4.read_unread, harg5.read_unread, harg6.read_unread, harg7.read_unread, View.ld_unit_zero (S := S2048x128) hz, shapeCast_self (s := S2048x128)]
  rfl

set_option maxHeartbeats 2000000 in
theorem out_A_9 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S512x512 .f32) (harg7 : arg7.IsWhole) (arg9 : Memref sig .tc .vmem S512x512 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S512x512 .bf16) (harg12 : arg12.IsWhole) (hc0 : cond1_0 i) :
    out1_A_9 c i arg2 harg2 arg3 harg3 arg4 harg4 arg5 harg5 arg6 harg6 arg7 harg7 arg9 harg9 arg10 harg10 arg11 harg11 arg12 harg12 hc0 x0 x1 x2 x3 x4 x5 = dbgBlock x0 x1 x5 := by
  unfold out1_A_9
  rw [View.read_writes_eq_canon _ _ _ (cover1_A_9 c i arg2 harg2 arg3 harg3 arg4 harg4 arg5 harg5 arg6 harg6 arg7 harg7 arg9 harg9 arg10 harg10 arg11 harg11 arg12 harg12 hc0 x0 x1 x2 x3 x4 x5)]
  unfold kernelRun1_A
  dsimp only
  sl_unfold_words
  simp only [View.readAt_eq_ld, harg2.read_unread, harg3.read_unread, harg4.read_unread, harg5.read_unread, harg6.read_unread, harg7.read_unread, View.ld_unit_zero (S := S2048x128) hz, shapeCast_self (s := S2048x128)]
  rfl

set_option maxHeartbeats 2000000 in
theorem out_B_6 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S512x512 .f32) (harg7 : arg7.IsWhole) (arg9 : Memref sig .tc .vmem S512x512 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S512x512 .bf16) (harg12 : arg12.IsWhole) (hc0 : ¬cond1_0 i) (xo7 xo8 : Vec F S2048x128 .f32) :
    out1_B_6 c i arg2 harg2 arg3 harg3 arg4 harg4 arg5 harg5 arg6 harg6 arg7 harg7 arg9 harg9 arg10 harg10 arg11 harg11 arg12 harg12 hc0 x0 x1 x2 x3 x4 x5 xo7 xo8 = dqBlock x0 x1 x2 x3 x4 x5 := by
  unfold out1_B_6
  rw [View.read_writes_eq_canon _ _ _ (cover1_B_6 c i arg2 harg2 arg3 harg3 arg4 harg4 arg5 harg5 arg6 harg6 arg7 harg7 arg9 harg9 arg10 harg10 arg11 harg11 arg12 harg12 hc0 x0 x1 x2 x3 x4 x5 xo7 xo8)]
  unfold kernelRun1_B
  dsimp only
  sl_unfold_words
  simp only [View.readAt_eq_ld, harg2.read_unread, harg3.read_unread, harg4.read_unread, harg5.read_unread, harg6.read_unread, harg7.read_unread, harg10.read_unread, harg11.read_unread, View.ld_unit_zero (S := S2048x128) hz, shapeCast_self (s := S2048x128)]
  rfl

set_option maxHeartbeats 2000000 in
theorem out_B_7 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S512x512 .f32) (harg7 : arg7.IsWhole) (arg9 : Memref sig .tc .vmem S512x512 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S512x512 .bf16) (harg12 : arg12.IsWhole) (hc0 : ¬cond1_0 i) (xo7 xo8 : Vec F S2048x128 .f32) :
    out1_B_7 c i arg2 harg2 arg3 harg3 arg4 harg4 arg5 harg5 arg6 harg6 arg7 harg7 arg9 harg9 arg10 harg10 arg11 harg11 arg12 harg12 hc0 x0 x1 x2 x3 x4 x5 xo7 xo8 = addf xo7 (dkBlock x0 x1 x2 x3 x4 x5) := by
  unfold out1_B_7
  rw [View.read_writes_eq_canon _ _ _ (cover1_B_7 c i arg2 harg2 arg3 harg3 arg4 harg4 arg5 harg5 arg6 harg6 arg7 harg7 arg9 harg9 arg10 harg10 arg11 harg11 arg12 harg12 hc0 x0 x1 x2 x3 x4 x5 xo7 xo8)]
  unfold kernelRun1_B
  dsimp only
  sl_unfold_words
  rw [View.canon_unit_zero hz]
  unfold k1_pay1
  simp only [View.readAt_eq_ld, harg2.read_unread, harg3.read_unread, harg4.read_unread, harg5.read_unread, harg6.read_unread, harg7.read_unread, harg10.read_unread, harg11.read_unread, View.ld_unit_zero (S := S2048x128) hz, shapeCast_self (s := S2048x128)]
  rfl

set_option maxHeartbeats 2000000 in
theorem out_B_8 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S512x512 .f32) (harg7 : arg7.IsWhole) (arg9 : Memref sig .tc .vmem S512x512 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S512x512 .bf16) (harg12 : arg12.IsWhole) (hc0 : ¬cond1_0 i) (xo7 xo8 : Vec F S2048x128 .f32) :
    out1_B_8 c i arg2 harg2 arg3 harg3 arg4 harg4 arg5 harg5 arg6 harg6 arg7 harg7 arg9 harg9 arg10 harg10 arg11 harg11 arg12 harg12 hc0 x0 x1 x2 x3 x4 x5 xo7 xo8 = addf xo8 (dvBlock x0 x2 x3 x5) := by
  unfold out1_B_8
  rw [View.read_writes_eq_canon _ _ _ (cover1_B_8 c i arg2 harg2 arg3 harg3 arg4 harg4 arg5 harg5 arg6 harg6 arg7 harg7 arg9 harg9 arg10 harg10 arg11 harg11 arg12 harg12 hc0 x0 x1 x2 x3 x4 x5 xo7 xo8)]
  unfold kernelRun1_B
  dsimp only
  sl_unfold_words
  rw [View.canon_unit_zero hz]
  unfold k1_pay2
  simp only [View.readAt_eq_ld, harg2.read_unread, harg3.read_unread, harg4.read_unread, harg5.read_unread, harg6.read_unread, harg7.read_unread, harg10.read_unread, harg11.read_unread, View.ld_unit_zero (S := S2048x128) hz, shapeCast_self (s := S2048x128)]
  rfl

set_option maxHeartbeats 2000000 in
theorem out_B_9 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S512x512 .f32) (harg7 : arg7.IsWhole) (arg9 : Memref sig .tc .vmem S512x512 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S512x512 .bf16) (harg12 : arg12.IsWhole) (hc0 : ¬cond1_0 i) (xo7 xo8 : Vec F S2048x128 .f32) :
    out1_B_9 c i arg2 harg2 arg3 harg3 arg4 harg4 arg5 harg5 arg6 harg6 arg7 harg7 arg9 harg9 arg10 harg10 arg11 harg11 arg12 harg12 hc0 x0 x1 x2 x3 x4 x5 xo7 xo8 = dbgBlock x0 x1 x5 := by
  unfold out1_B_9
  rw [View.read_writes_eq_canon _ _ _ (cover1_B_9 c i arg2 harg2 arg3 harg3 arg4 harg4 arg5 harg5 arg6 harg6 arg7 harg7 arg9 harg9 arg10 harg10 arg11 harg11 arg12 harg12 hc0 x0 x1 x2 x3 x4 x5 xo7 xo8)]
  unfold kernelRun1_B
  dsimp only
  sl_unfold_words
  simp only [View.readAt_eq_ld, harg2.read_unread, harg3.read_unread, harg4.read_unread, harg5.read_unread, harg6.read_unread, harg7.read_unread, harg10.read_unread, harg11.read_unread, View.ld_unit_zero (S := S2048x128) hz, shapeCast_self (s := S2048x128)]
  rfl

end Cert.AttnIdeal.Blocks

end
-- ==== Proof.RealLift.lean ====
/- Sums, quotients and maxima of real numbers, read as extended real numbers. -/
module

public import Idealize.ShloMosaic.Lib.Pointwise

@[expose] public section

noncomputable section

namespace Cert.RealLift

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of numbers each of which is a known real number. -/
theorem sum_eq_coe {ι : Type} {s : Finset ι} {x : ι → EReal} (f : ι → ℝ) (h : ∀ i, x i = (f i : EReal)) :
    ∑ i ∈ s, x i = ((∑ i ∈ s, f i : ℝ) : EReal) := by
  rw [coe_sum]; exact Finset.sum_congr rfl fun i _ => h i

theorem mul_eq_coe {x y : EReal} {a b : ℝ} (hx : x = (a : EReal)) (hy : y = (b : EReal)) : x * y = ((a * b : ℝ) : EReal) := by
  rw [hx, hy, EReal.coe_mul]

theorem add_eq_coe {x y : EReal} {a b : ℝ} (hx : x = (a : EReal)) (hy : y = (b : EReal)) : x + y = ((a + b : ℝ) : EReal) := by
  rw [hx, hy, EReal.coe_add]

theorem sub_eq_coe {x y : EReal} {a b : ℝ} (hx : x = (a : EReal)) (hy : y = (b : EReal)) : x - y = ((a - b : ℝ) : EReal) := by
  rw [hx, hy, EReal.coe_sub]

theorem exp_eq_coe {x : EReal} {a : ℝ} (hx : x = (a : EReal)) : Ideal.exp x = ((Real.exp a : ℝ) : EReal) := by
  rw [hx, Ideal.exp_coe]

theorem div_eq_coe {x y : EReal} {a b : ℝ} (hb : b ≠ 0) (hx : x = (a : EReal)) (hy : y = (b : EReal)) :
    Ideal.div x y = ((a / b : ℝ) : EReal) := by
  rw [hx, hy, Ideal.div_coe hb, ← EReal.coe_mul]; congr 1; ring

/-- The largest of finitely many real numbers, started from anything short of infinity, is a real number. -/
theorem fold_max_eq_coe {n : ℕ} (b : EReal) (hb : b < ⊤) (hn : 0 < n) {x : Fin n → EReal} (f : Fin n → ℝ) (h : ∀ i, x i = (f i : EReal)) :
    ∃ M : ℝ, Finset.fold max b x Finset.univ = (M : EReal) := by
  have h1 : Finset.fold max b x Finset.univ < ⊤ :=
    (Finset.fold_max_lt (c := (⊤ : EReal))).mpr ⟨hb, fun i _ => by rw [h i]; exact EReal.coe_lt_top _⟩
  have h2 : (⊥ : EReal) < Finset.fold max b x Finset.univ :=
    (Finset.lt_fold_max (c := (⊥ : EReal))).mpr (.inr ⟨⟨0, hn⟩, Finset.mem_univ _, by rw [h]; exact EReal.bot_lt_coe _⟩)
  exact ⟨_, (EReal.coe_toReal h1.ne h2.ne').symm⟩

theorem neg_inf_lt_top : Ideal.ofBits .f32 0xFF800000#32 < ⊤ := by
  rw [show Ideal.ofBits .f32 0xFF800000#32 = ⊥ by simp [Ideal.ofBits, Ideal.ieee]]; exact bot_lt_top

theorem pos_inf : Ideal.ofBits .f32 0x7F800000#32 = ⊤ := by simp [Ideal.ofBits, Ideal.ieee]

/-- The scale of the scores, a finite number. -/
theorem scale_coe : ∃ c : ℝ, Ideal.ofBits .f32 0x3DB504F3#32 = (c : EReal) := by
  refine ⟨?_, ?_⟩
  rotate_left
  · simp only [Ideal.ofBits, Ideal.ieee]
    norm_num
    norm_cast

theorem exists_coe {x : EReal} (h : max x (-x) < ⊤) : ∃ r : ℝ, x = (r : EReal) := by
  obtain ⟨h1, h2⟩ := max_lt_iff.mp h
  refine ⟨x.toReal, (EReal.coe_toReal h1.ne ?_).symm⟩
  rintro rfl
  simp at h2

end Cert.RealLift

end
-- ==== Proof.AttnRow.lean ====
/- One row of attention with a gate, and of its gradients, over the real numbers. A head has 128 columns and attends
   over 2048 positions; the row has a query `q`, the head its keys `k` and values `v`; `b` is the gate's input and `t` the
   cotangent of the gated row. `c` is the scale of the scores. -/
module

public import proofs.«01_k».proof.Proof.RealLift

@[expose] public section

noncomputable section

namespace Cert.AttnRow

variable (c : ℝ) (q : Fin 128 → ℝ) (k v : Fin 2048 → Fin 128 → ℝ) (t b : Fin 128 → ℝ)

def sigm (x : ℝ) : ℝ := 1 / (1 + Real.exp (-x))
def silu (x : ℝ) : ℝ := x * sigm x
def dsilu (x : ℝ) : ℝ := sigm x * (1 + x * (1 - sigm x))

/-- The unscaled score of a position. -/
def dot (j : Fin 2048) : ℝ := ∑ d : Fin 128, q d * k j d
/-- The exponential of a scaled score, and the row's normaliser. -/
def e (j : Fin 2048) : ℝ := Real.exp (dot q k j * c)
def tot : ℝ := ∑ j : Fin 2048, e c q k j
/-- The softmax weight of a position. -/
def w (j : Fin 2048) : ℝ := e c q k j / tot c q k
/-- The attention's row, and the gated row. -/
def o (d : Fin 128) : ℝ := ∑ j : Fin 2048, w c q k j * v j d
def y (d : Fin 128) : ℝ := o c q k v d * silu (b d)
/-- The cotangent of the row before the gate, and the gradient of the gate's input. -/
def go (d : Fin 128) : ℝ := t d * silu (b d)
def gb (d : Fin 128) : ℝ := t d * o c q k v d * dsilu (b d)
/-- The cotangent of the weights, and of the scaled scores. -/
def gw (j : Fin 2048) : ℝ := ∑ d : Fin 128, go t b d * v j d
def gs (j : Fin 2048) : ℝ := w c q k j * (gw v t b j - ∑ d : Fin 128, go t b d * o c q k v d)
/-- The gradient of the query, and the row's part of the gradients of keys and values. -/
def gq (d : Fin 128) : ℝ := (∑ j : Fin 2048, gs c q k v t b j * k j d) * c
def gk (j : Fin 2048) (d : Fin 128) : ℝ := gs c q k v t b j * (q d * c)
def gv (j : Fin 2048) (d : Fin 128) : ℝ := w c q k j * go t b d

theorem tot_pos : 0 < tot c q k := Finset.sum_pos (fun j _ => Real.exp_pos _) ⟨0, Finset.mem_univ _⟩
theorem one_add_exp_ne (x : ℝ) : 1 + Real.exp x ≠ 0 := ne_of_gt (by positivity)

/-- Subtracting one number from all scores divides the exponentials by one factor. -/
theorem exp_shift (M : ℝ) (j : Fin 2048) : Real.exp ((dot q k j - M) * c) = e c q k j * Real.exp (-(M * c)) := by
  unfold e; rw [← Real.exp_add]; congr 1; ring
theorem exp_shift' (M : ℝ) (j : Fin 2048) : Real.exp (dot q k j * c - M) = e c q k j * Real.exp (-M) := by
  unfold e; rw [← Real.exp_add]; congr 1
theorem sum_shift (M : ℝ) : ∑ j : Fin 2048, e c q k j * Real.exp (-M) = tot c q k * Real.exp (-M) := by
  unfold tot; rw [Finset.sum_mul]
theorem weight_shift (M : ℝ) (j : Fin 2048) : e c q k j * Real.exp (-M) / (tot c q k * Real.exp (-M)) = w c q k j := by
  unfold w; rw [mul_div_mul_right _ _ (Real.exp_pos _).ne']
theorem weight_shift' (M : ℝ) (j : Fin 2048) : e c q k j * Real.exp (-M) * (1 / (tot c q k * Real.exp (-M))) = w c q k j := by
  rw [← weight_shift c q k M j, mul_one_div]

/-- The weighted mean of the weights' cotangents is the cotangent of the row against the row. -/
theorem mean_gw : ∑ d : Fin 128, go t b d * o c q k v d = ∑ j : Fin 2048, w c q k j * gw v t b j := by
  unfold o gw
  simp only [Finset.mul_sum]
  rw [Finset.sum_comm]
  exact Finset.sum_congr rfl fun j _ => Finset.sum_congr rfl fun d _ => by ring

end Cert.AttnRow

end
-- ==== Proof.AttnHead.lean ====
/- The kernels' block of 512 rows of one head, over finite inputs: each value the two kernels compute for the head is
   the row function of `AttnRow` of the block's rows. -/
module

public import proofs.«01_k».proof.Proof.Gen.AttnIdeal.Skeleton
public import proofs.«01_k».proof.Proof.AttnRow

@[expose] public section

set_option maxRecDepth 16384

noncomputable section

open Idealize.ShloMosaic Idealize.ShloMosaic.TcCoe Idealize.SL.Sem

namespace Cert.AttnIdeal.Head

open Cert.AttnIdeal Cert.AttnIdeal.Gen Cert.RealLift Cert.AttnRow

variable {c : ℝ} (hc : Ideal.ofBits .f32 0x3DB504F3#32 = (c : EReal))
variable {q : Vec Ideal S512x128 .bf16} {k v : Vec Ideal S2048x128 .bf16} {t b o : Vec Ideal S512x128 .f32}
variable {q' t' b' : Fin 512 → Fin 128 → ℝ} {k' v' : Fin 2048 → Fin 128 → ℝ}
variable (hq : ∀ r d, q (ix2 r d) = (q' r d : EReal)) (hk : ∀ j d, k (ix2 j d) = (k' j d : EReal))
variable (hv : ∀ j d, v (ix2 j d) = (v' j d : EReal)) (ht : ∀ r d, t (ix2 r d) = (t' r d : EReal))
variable (hb : ∀ r d, b (ix2 r d) = (b' r d : EReal)) (ho : ∀ r d, o (ix2 r d) = (AttnRow.o c (q' r) k' v' d : EReal))

include hc hq hk

/-- The exponentials, up to one factor per row. -/
theorem exp_eq : ∃ M : Fin 512 → ℝ, ∀ r j, k1_pay11 k q (ix2 r j) = ((e c (q' r) k' j * Real.exp (-(M r)) : ℝ) : EReal) := by
  have hs : ∀ r j, ∑ d : Fin 128, q (ix2 r d) * k (ix2 j d) = ((dot (q' r) k' j : ℝ) : EReal) := fun r j =>
    sum_eq_coe _ fun d => mul_eq_coe (hq r d) (hk j d)
  have hM : ∀ r : Fin 512, ∃ M : ℝ, Finset.fold max (Ideal.ofBits .f32 0xFF800000#32)
      (fun x : Fin 2048 => ∑ d : Fin 128, q (ix2 r d) * k (ix2 x d)) Finset.univ = (M : EReal) := fun r =>
    fold_max_eq_coe _ neg_inf_lt_top (by norm_num) _ (hs r)
  choose M hM using hM
  refine ⟨fun r => M r * c, fun r j => ?_⟩
  rw [← exp_shift]
  pointwise [k1_pay11]
  exact exp_eq_coe (mul_eq_coe (sub_eq_coe (hs r j) (hM r)) hc)

theorem inv_eq (M : Fin 512 → ℝ) (hM : ∀ r j, k1_pay11 k q (ix2 r j) = ((e c (q' r) k' j * Real.exp (-(M r)) : ℝ) : EReal))
    (r : Fin 512) (z : Fin 1) : k1_pay12 k q (ix2 r z) = ((1 / (tot c (q' r) k' * Real.exp (-(M r))) : ℝ) : EReal) := by
  pointwise [k1_pay12]
  refine div_eq_coe (mul_pos (tot_pos _ _ _) (Real.exp_pos _)).ne' EReal.coe_one.symm ?_
  rw [sum_eq_coe _ (hM r), sum_shift]

omit hc hq hk in
theorem out_eq_pay : k0_pay9 (F := Ideal) k v q = mulf (matmul (φ₂ := .bf16) dot_S512x2048_S2048x128_S512x128_1_0_0_1_n_n none
    (truncf .bf16 (k1_pay11 k q) bitsLt_bf16_f32) v (constant S512x128 .f32 0x00000000#32))
    (broadcastTo S512x128 (k1_pay12 k q) broadcasts_S512x1_S512x128) := rfl

include hv in
/-- The forward kernel's rows. -/
theorem out_eq (r : Fin 512) (d : Fin 128) : k0_pay9 k v q (ix2 r d) = (AttnRow.o c (q' r) k' v' d : EReal) := by
  obtain ⟨M, hM⟩ := exp_eq hc hq hk
  rw [out_eq_pay]
  pointwise []
  rw [mul_eq_coe (sum_eq_coe _ fun j => mul_eq_coe (hM r j) (hv j d)) (inv_eq hc hq hk M hM r 0)]
  congr 1
  unfold AttnRow.o
  rw [Finset.sum_mul]
  refine Finset.sum_congr rfl fun j _ => ?_
  rw [← weight_shift']; ring

omit hc hq hk

include hb in
theorem sig_eq (r : Fin 512) (d : Fin 128) :
    Ideal.div 1 (1 + Ideal.exp (0 - b (ix2 r d))) = ((sigm (b' r d) : ℝ) : EReal) := by
  rw [hb, zero_sub, ← EReal.coe_neg]
  exact div_eq_coe (one_add_exp_ne _) EReal.coe_one.symm (add_eq_coe EReal.coe_one.symm (exp_eq_coe rfl))

include hb ho in
/-- The gated rows. -/
theorem gated_eq (r : Fin 512) (d : Fin 128) : k0_pay1 o b (ix2 r d) = (AttnRow.y c (q' r) k' v' (b' r) d : EReal) := by
  pointwise [k0_pay1]

  exact mul_eq_coe (ho r d) (mul_eq_coe (hb r d) (sig_eq hb r d))

include hb ht ho in
/-- The gradient of the gate's input. -/
theorem gb_eq (r : Fin 512) (d : Fin 128) : k1_pay8 t b o (ix2 r d) = (gb c (q' r) k' v' (t' r) (b' r) d : EReal) := by
  pointwise [k1_pay8, k1_pay7]
  exact mul_eq_coe (mul_eq_coe (ht r d) (ho r d)) (mul_eq_coe (sig_eq hb r d)
    (add_eq_coe EReal.coe_one.symm (mul_eq_coe (hb r d) (sub_eq_coe EReal.coe_one.symm (sig_eq hb r d)))))

include hb ht in
/-- The cotangent of the rows before the gate. -/
theorem go_eq (r : Fin 512) (d : Fin 128) : k1_pay10 t b (k1_pay9 b) (ix2 r d) = (go (t' r) (b' r) d : EReal) := by
  pointwise [k1_pay10, k1_pay9]
  exact mul_eq_coe (ht r d) (mul_eq_coe (hb r d) (sig_eq hb r d))

include hc hq hk hv hb ht ho

/-- The cotangent of the scores before the division by the normaliser. -/
theorem gs_eq (M : Fin 512 → ℝ) (hM : ∀ r j, k1_pay11 k q (ix2 r j) = ((e c (q' r) k' j * Real.exp (-(M r)) : ℝ) : EReal))
    (r : Fin 512) (j : Fin 2048) : k1_pay14 k v t b q o (k1_pay9 b) (ix2 r j)
      = ((gs c (q' r) k' v' (t' r) (b' r) j * (tot c (q' r) k' * Real.exp (-(M r))) : ℝ) : EReal) := by
  pointwise [k1_pay14]
  rw [mul_eq_coe (hM r j) (sub_eq_coe (sum_eq_coe _ fun d => mul_eq_coe (go_eq ht hb r d) (hv j d))
    (sum_eq_coe _ fun d => mul_eq_coe (go_eq ht hb r d) (ho r d)))]
  congr 1
  unfold gs w gw
  have := (tot_pos c (q' r) k').ne'
  field_simp

/-- The gradient of the query. -/
theorem gq_eq (r : Fin 512) (d : Fin 128) : k1_pay16 k v t b q o (k1_pay9 b) (ix2 r d)
    = (gq c (q' r) k' v' (t' r) (b' r) d : EReal) := by
  obtain ⟨M, hM⟩ := exp_eq hc hq hk
  pointwise [k1_pay16, k1_pay15]
  rw [mul_eq_coe (sum_eq_coe _ fun j => mul_eq_coe (gs_eq hc hq hk hv ht hb ho M hM r j) (hk j d))
    (mul_eq_coe (inv_eq hc hq hk M hM r 0) hc)]
  congr 1
  have h : (∑ j : Fin 2048, gs c (q' r) k' v' (t' r) (b' r) j * (tot c (q' r) k' * Real.exp (-(M r))) * k' j d)
      = (∑ j : Fin 2048, gs c (q' r) k' v' (t' r) (b' r) j * k' j d) * (tot c (q' r) k' * Real.exp (-(M r))) := by
    rw [Finset.sum_mul]; exact Finset.sum_congr rfl fun j _ => by ring
  have := (tot_pos c (q' r) k').ne'
  have := (Real.exp_pos (-(M r))).ne'
  unfold gq
  rw [h]
  field_simp

/-- The block's part of the gradient of the keys. -/
theorem gk_eq (j : Fin 2048) (d : Fin 128) : k1_pay17 k v t b q o (k1_pay9 b) (ix2 j d)
    = ((∑ r : Fin 512, gk c (q' r) k' v' (t' r) (b' r) j d : ℝ) : EReal) := by
  obtain ⟨M, hM⟩ := exp_eq hc hq hk
  pointwise [k1_pay17, k1_pay15]
  rw [sum_eq_coe _ fun r => mul_eq_coe (gs_eq hc hq hk hv ht hb ho M hM r j)
    (mul_eq_coe (hq r d) (mul_eq_coe (inv_eq hc hq hk M hM r 0) hc))]
  congr 1
  refine Finset.sum_congr rfl fun r _ => ?_
  have := (tot_pos c (q' r) k').ne'
  have := (Real.exp_pos (-(M r))).ne'
  unfold gk
  field_simp

omit hv ho
/-- The block's part of the gradient of the values. -/
theorem gv_eq (acc : Vec Ideal S2048x128 .f32) (j : Fin 2048) (d : Fin 128) : k1_pay13 k acc t b q (k1_pay9 b) (ix2 j d)
    = acc (ix2 j d) + ((∑ r : Fin 512, gv c (q' r) k' (t' r) (b' r) j d : ℝ) : EReal) := by
  obtain ⟨M, hM⟩ := exp_eq hc hq hk
  pointwise [k1_pay13]
  rw [sum_eq_coe _ fun r => mul_eq_coe (hM r j) (mul_eq_coe (go_eq ht hb r d) (inv_eq hc hq hk M hM r 0))]
  congr 2
  refine Finset.sum_congr rfl fun r _ => ?_
  rw [gv, ← weight_shift' c (q' r) k' (M r) j]; ring

end Cert.AttnIdeal.Head

end
-- ==== Proof.AttnBlockValue.lean ====
/- The blocks the two attention kernels leave, over finite inputs. A block has four heads of 128 columns. -/
module

public import proofs.«01_k».proof.Proof.AttnBlocks
public import proofs.«01_k».proof.Proof.AttnHead

@[expose] public section

set_option maxRecDepth 16384

noncomputable section

open Idealize.ShloMosaic Idealize.ShloMosaic.TcCoe Idealize.SL.Sem

namespace Cert.AttnIdeal.Blocks

open Cert.AttnIdeal Cert.AttnIdeal.Gen Cert.RealLift

/-- Column `d` of head `g` of a block, and back. -/
def col (g : Fin 4) (d : Fin 128) : Fin 512 := ⟨128 * g.val + d.val, by omega⟩
def head (m : Fin 512) : Fin 4 := ⟨m.val / 128, by omega⟩
def lane (m : Fin 512) : Fin 128 := ⟨m.val % 128, by omega⟩
theorem head_col (g : Fin 4) (d : Fin 128) : head (col g d) = g := Fin.ext (by show (128 * g.val + d.val) / 128 = g.val; omega)
theorem lane_col (g : Fin 4) (d : Fin 128) : lane (col g d) = d := Fin.ext (by show (128 * g.val + d.val) % 128 = d.val; omega)

/-- The columns of one head. -/
def hd {α : Type} (x : Fin 512 → α) (g : Fin 4) : Fin 128 → α := fun d => x (col g d)
def ldh {e : EltTy} (x : Vec Ideal S512x512 e) (g : Fin 4) : Vec Ideal S512x128 e := fun i => x (ix2 (i 0) (col g (i 1)))

theorem emb_h0 (i : S512x128.Idx) : h0.emb i = ix2 (i 0) (col 0 (i 1)) := funext fun a => Fin.ext (by
  match a with
  | ⟨0, _⟩ => show 0 + 1 * (i 0).val = (i 0).val; omega
  | ⟨1, _⟩ => show 0 + 1 * (i 1).val = 128 * 0 + (i 1).val; omega)
theorem emb_h1 (i : S512x128.Idx) : h1.emb i = ix2 (i 0) (col 1 (i 1)) := funext fun a => Fin.ext (by
  match a with
  | ⟨0, _⟩ => show 0 + 1 * (i 0).val = (i 0).val; omega
  | ⟨1, _⟩ => show 128 + 1 * (i 1).val = 128 * 1 + (i 1).val; omega)
theorem emb_h2 (i : S512x128.Idx) : h2.emb i = ix2 (i 0) (col 2 (i 1)) := funext fun a => Fin.ext (by
  match a with
  | ⟨0, _⟩ => show 0 + 1 * (i 0).val = (i 0).val; omega
  | ⟨1, _⟩ => show 256 + 1 * (i 1).val = 128 * 2 + (i 1).val; omega)
theorem emb_h3 (i : S512x128.Idx) : h3.emb i = ix2 (i 0) (col 3 (i 1)) := funext fun a => Fin.ext (by
  match a with
  | ⟨0, _⟩ => show 0 + 1 * (i 0).val = (i 0).val; omega
  | ⟨1, _⟩ => show 384 + 1 * (i 1).val = 128 * 3 + (i 1).val; omega)

theorem ld_h0 {e : EltTy} (x : Vec Ideal S512x512 e) : View.ld x h0 = ldh x 0 := funext fun i => congrArg x (emb_h0 i)
theorem ld_h1 {e : EltTy} (x : Vec Ideal S512x512 e) : View.ld x h1 = ldh x 1 := funext fun i => congrArg x (emb_h1 i)
theorem ld_h2 {e : EltTy} (x : Vec Ideal S512x512 e) : View.ld x h2 = ldh x 2 := funext fun i => congrArg x (emb_h2 i)
theorem ld_h3 {e : EltTy} (x : Vec Ideal S512x512 e) : View.ld x h3 = ldh x 3 := funext fun i => congrArg x (emb_h3 i)

theorem at_col {e : EltTy} (P : Fin 4 → S512x128.Idx → Elt Ideal e) (g : Fin 4) (r : Fin 512) (d : Fin 128) (x : S512x128.Idx)
    (hx : x = ix2 r d) (y : S512x512.Idx) (hy : y = ix2 r (col g d)) : P g x = P (head (y 1)) (ix2 (y 0) (lane (y 1))) := by
  subst hy hx
  show P g (ix2 r d) = P (head (col g d)) (ix2 r (lane (col g d)))
  rw [head_col, lane_col]

/-- A block stored head by head, read at a head's column. -/
theorem canon_heads {e : EltTy} (P : Fin 4 → S512x128.Idx → Elt Ideal e) (g : Fin 4) (r : Fin 512) (d : Fin 128) :
    View.canon [⟨h3, P 3⟩, ⟨h2, P 2⟩, ⟨h1, P 1⟩, ⟨h0, P 0⟩] (ix2 r (col g d) : S512x512.Idx) = P g (ix2 r d) := by
  rw [View.canon_apply_of_pieces (S := S512x512) (fun y => P (head (y 1)) (ix2 (y 0) (lane (y 1)))) _ ?_ _
    (View.cover_of_tiled [⟨h3, P 3⟩, ⟨h2, P 2⟩, ⟨h1, P 1⟩, ⟨h0, P 0⟩] S512x128.size (by rfl) _)]
  · show P (head (col g d)) (ix2 r (lane (col g d))) = _
    rw [head_col, lane_col]
  · intro p hp x
    simp only [List.mem_cons, List.not_mem_nil, or_false] at hp
    rcases hp with rfl | rfl | rfl | rfl
    · exact at_col P 3 (x 0) (x 1) x (eq_ix2 x) _ (emb_h3 x)
    · exact at_col P 2 (x 0) (x 1) x (eq_ix2 x) _ (emb_h2 x)
    · exact at_col P 1 (x 0) (x 1) x (eq_ix2 x) _ (emb_h1 x)
    · exact at_col P 0 (x 0) (x 1) x (eq_ix2 x) _ (emb_h0 x)

variable {c : ℝ} (hc : Ideal.ofBits .f32 0x3DB504F3#32 = (c : EReal))
variable {t b o : Vec Ideal S512x512 .f32} {q : Vec Ideal S512x512 .bf16} {k v : Vec Ideal S2048x128 .bf16}
variable {q' t' b' : Fin 512 → Fin 512 → ℝ} {k' v' : Fin 2048 → Fin 128 → ℝ}
variable (hq : ∀ r m, q (ix2 r m) = (q' r m : EReal)) (hk : ∀ j d, k (ix2 j d) = (k' j d : EReal))
variable (hv : ∀ j d, v (ix2 j d) = (v' j d : EReal)) (ht : ∀ r m, t (ix2 r m) = (t' r m : EReal))
variable (hb : ∀ r m, b (ix2 r m) = (b' r m : EReal))

/-- The forward kernel's block, head by head. -/
theorem out0_4_heads : out0_4 q k v b = View.canon [⟨h3, k0_pay9 k v (ldh q 3)⟩, ⟨h2, k0_pay9 k v (ldh q 2)⟩,
    ⟨h1, k0_pay9 k v (ldh q 1)⟩, ⟨h0, k0_pay9 k v (ldh q 0)⟩] := by
  rw [← ld_h0, ← ld_h1, ← ld_h2, ← ld_h3]
  unfold out0_4 k0_pay11 k0_pay10
  simp only [View.ld_unit_zero (S := S2048x128) hz]
  rfl

theorem out0_5_heads : out0_5 q k v b = View.canon [⟨h3, k0_pay1 (k0_pay9 k v (ldh q 3)) (ldh b 3)⟩, ⟨h2, k0_pay1 (k0_pay9 k v (ldh q 2)) (ldh b 2)⟩,
    ⟨h1, k0_pay1 (k0_pay9 k v (ldh q 1)) (ldh b 1)⟩, ⟨h0, k0_pay1 (k0_pay9 k v (ldh q 0)) (ldh b 0)⟩] := by
  rw [← ld_h0, ← ld_h1, ← ld_h2, ← ld_h3, ← ld_h0, ← ld_h1, ← ld_h2, ← ld_h3]
  unfold out0_5 k0_pay11 k0_pay10
  simp only [View.ld_unit_zero (S := S2048x128) hz]
  rfl

include hc hq hk hv

theorem out0_4_eq (g : Fin 4) (r : Fin 512) (d : Fin 128) : out0_4 q k v b (ix2 r (col g d))
    = (AttnRow.o c (hd (q' r) g) k' v' d : EReal) := by
  rw [out0_4_heads]
  refine (canon_heads (e := .f32) (fun g => k0_pay9 k v (ldh q g)) g r d).trans ?_
  exact Head.out_eq (q' := fun r => hd (q' r) g) hc (fun r d => hq r _) hk hv r d

include hb in
theorem out0_5_eq (g : Fin 4) (r : Fin 512) (d : Fin 128) : out0_5 q k v b (ix2 r (col g d))
    = (AttnRow.y c (hd (q' r) g) k' v' (hd (b' r) g) d : EReal) := by
  rw [out0_5_heads]
  refine (canon_heads (e := .bf16) (fun g => k0_pay1 (k0_pay9 k v (ldh q g)) (ldh b g)) g r d).trans ?_
  exact Head.gated_eq (q' := fun r => hd (q' r) g) (b' := fun r => hd (b' r) g) (fun r d => hb r _)
    (Head.out_eq hc (fun r d => hq r _) hk hv) r d

variable (ho : ∀ r g d, o (ix2 r (col g d)) = (AttnRow.o c (hd (q' r) g) k' v' d : EReal))

omit hc hq hk hv in
theorem pay7 (x : Vec Ideal S512x128 .f32) : k1_pay7 x = x := shapeCast_self _ _

include ht hb ho

theorem dqBlock_eq (g : Fin 4) (r : Fin 512) (d : Fin 128) : dqBlock t o q k v b (ix2 r (col g d))
    = (AttnRow.gq c (hd (q' r) g) k' v' (hd (t' r) g) (hd (b' r) g) d : EReal) := by
  unfold dqBlock
  rw [ld_h0, ld_h1, ld_h2, ld_h3, ld_h0, ld_h1, ld_h2, ld_h3, ld_h0, ld_h1, ld_h2, ld_h3, ld_h0, ld_h1, ld_h2, ld_h3]
  refine (canon_heads (e := .f32) (fun g => dq k v (ldh t g) (ldh b g) (ldh q g) (ldh o g)) g r d).trans ?_
  dsimp only [dq]
  rw [pay7]
  exact Head.gq_eq (q' := fun r => hd (q' r) g) (t' := fun r => hd (t' r) g) (b' := fun r => hd (b' r) g) hc (fun r d => hq r _) hk hv
    (fun r d => ht r _) (fun r d => hb r _) (fun r d => ho r g d) r d

omit hc hq hk hv in
theorem dbgBlock_eq (g : Fin 4) (r : Fin 512) (d : Fin 128) : dbgBlock t o b (ix2 r (col g d))
    = (AttnRow.gb c (hd (q' r) g) k' v' (hd (t' r) g) (hd (b' r) g) d : EReal) := by
  unfold dbgBlock
  rw [ld_h0, ld_h1, ld_h2, ld_h3, ld_h0, ld_h1, ld_h2, ld_h3, ld_h0, ld_h1, ld_h2, ld_h3]
  refine (canon_heads (e := .bf16) (fun g => k1_pay8 (ldh t g) (ldh b g) (ldh o g)) g r d).trans ?_
  exact Head.gb_eq (q' := fun r => hd (q' r) g) (t' := fun r => hd (t' r) g) (b' := fun r => hd (b' r) g)
    (fun r d => ht r _) (fun r d => hb r _) (fun r d => ho r g d) r d

theorem dk_eq (g : Fin 4) (j : Fin 2048) (d : Fin 128) : dk k v (ldh t g) (ldh b g) (ldh q g) (ldh o g) (ix2 j d)
    = ((∑ r : Fin 512, AttnRow.gk c (hd (q' r) g) k' v' (hd (t' r) g) (hd (b' r) g) j d : ℝ) : EReal) := by
  dsimp only [dk]
  rw [pay7]
  exact Head.gk_eq (q' := fun r => hd (q' r) g) (t' := fun r => hd (t' r) g) (b' := fun r => hd (b' r) g) hc (fun r d => hq r _) hk hv
    (fun r d => ht r _) (fun r d => hb r _) (fun r d => ho r g d) j d

theorem dkBlock_eq (j : Fin 2048) (d : Fin 128) : dkBlock t o q k v b (ix2 j d)
    = ((∑ g : Fin 4, ∑ r : Fin 512, AttnRow.gk c (hd (q' r) g) k' v' (hd (t' r) g) (hd (b' r) g) j d : ℝ) : EReal) := by
  have h := fun g => dk_eq hc hq hk hv ht hb ho g j d
  unfold dkBlock
  rw [ld_h0, ld_h1, ld_h2, ld_h3, ld_h0, ld_h1, ld_h2, ld_h3, ld_h0, ld_h1, ld_h2, ld_h3, ld_h0, ld_h1, ld_h2, ld_h3]
  pointwise [k1_pay5]
  rw [h 0, h 1, h 2, h 3, Fin.sum_univ_four]
  simp only [EReal.coe_add, zero_add]

omit hv ho in
theorem dvBlock_eq (j : Fin 2048) (d : Fin 128) : dvBlock t q k b (ix2 j d)
    = ((∑ g : Fin 4, ∑ r : Fin 512, AttnRow.gv c (hd (q' r) g) k' (hd (t' r) g) (hd (b' r) g) j d : ℝ) : EReal) := by
  have h := fun acc g => Head.gv_eq (q' := fun r => hd (q' r) g) (t' := fun r => hd (t' r) g) (b' := fun r => hd (b' r) g)
    (q := ldh q g) (t := ldh t g) (b := ldh b g) hc (fun r d => hq r _) hk (fun r d => ht r _) (fun r d => hb r _) acc j d
  unfold dvBlock
  rw [ld_h0, ld_h1, ld_h2, ld_h3, ld_h0, ld_h1, ld_h2, ld_h3, ld_h0, ld_h1, ld_h2, ld_h3]
  dsimp only [dv]
  rw [h _ 3, h _ 2, h _ 1, h _ 0, Fin.sum_univ_four]
  have h6 : (k1_pay6 : FVec Ideal S2048x128 .f32) (ix2 j d) = 0 := by pointwise [k1_pay6]
  rw [h6]
  simp only [EReal.coe_add, zero_add]

end Cert.AttnIdeal.Blocks

end
-- ==== Proof.AttnWhole.lean ====
/- Attention with a gate, and its gradients, on whole arrays over the real numbers: 2048 rows, eight query heads of 128
   columns, two heads of keys and values; four query heads share one head of keys and values. -/
module

public import proofs.«01_k».proof.Proof.AttnRow

@[expose] public section

noncomputable section

namespace Cert.AttnWhole

/-- Column `d` of a query head, and of a head of keys and values. -/
def hcol (h : Fin 8) (d : Fin 128) : Fin 1024 := ⟨128 * h.val + d.val, by omega⟩
def kcol (p : Fin 2) (d : Fin 128) : Fin 256 := ⟨128 * p.val + d.val, by omega⟩
/-- The head a column belongs to, and its place in it. -/
def hof (m : Fin 1024) : Fin 8 := ⟨m.val / 128, by omega⟩
def lof (m : Fin 1024) : Fin 128 := ⟨m.val % 128, by omega⟩
def kof (m : Fin 256) : Fin 2 := ⟨m.val / 128, by omega⟩
def klof (m : Fin 256) : Fin 128 := ⟨m.val % 128, by omega⟩
/-- The head of keys and values a query head attends to, and its query heads. -/
def pof (h : Fin 8) : Fin 2 := ⟨h.val / 4, by omega⟩
def qh (p : Fin 2) (g : Fin 4) : Fin 8 := ⟨4 * p.val + g.val, by omega⟩

theorem hof_hcol (h : Fin 8) (d : Fin 128) : hof (hcol h d) = h := Fin.ext (by show (128 * h.val + d.val) / 128 = h.val; omega)
theorem lof_hcol (h : Fin 8) (d : Fin 128) : lof (hcol h d) = d := Fin.ext (by show (128 * h.val + d.val) % 128 = d.val; omega)
theorem kof_kcol (h : Fin 2) (d : Fin 128) : kof (kcol h d) = h := Fin.ext (by show (128 * h.val + d.val) / 128 = h.val; omega)
theorem klof_kcol (h : Fin 2) (d : Fin 128) : klof (kcol h d) = d := Fin.ext (by show (128 * h.val + d.val) % 128 = d.val; omega)
theorem pof_qh (p : Fin 2) (g : Fin 4) : pof (qh p g) = p := Fin.ext (by show (4 * p.val + g.val) / 4 = p.val; omega)
theorem hcol_of (m : Fin 1024) : hcol (hof m) (lof m) = m := Fin.ext (by show 128 * (m.val / 128) + m.val % 128 = m.val; omega)
theorem kcol_of (m : Fin 256) : kcol (kof m) (klof m) = m := Fin.ext (by show 128 * (m.val / 128) + m.val % 128 = m.val; omega)

/-- One head of a row, and one head of the keys or values. -/
def hrow (x : Fin 1024 → ℝ) (h : Fin 8) : Fin 128 → ℝ := fun d => x (hcol h d)
def kmat (x : Fin 2048 → Fin 256 → ℝ) (p : Fin 2) : Fin 2048 → Fin 128 → ℝ := fun j d => x j (kcol p d)

variable (c : ℝ) (q t b : Fin 2048 → Fin 1024 → ℝ) (k v : Fin 2048 → Fin 256 → ℝ)

/-- The attention's result, and the gated result. -/
def O (r : Fin 2048) (m : Fin 1024) : ℝ := AttnRow.o c (hrow (q r) (hof m)) (kmat k (pof (hof m))) (kmat v (pof (hof m))) (lof m)
def Y (r : Fin 2048) (m : Fin 1024) : ℝ :=
  AttnRow.y c (hrow (q r) (hof m)) (kmat k (pof (hof m))) (kmat v (pof (hof m))) (hrow (b r) (hof m)) (lof m)
/-- The gradients of the queries and of the gate's input. -/
def DQ (r : Fin 2048) (m : Fin 1024) : ℝ := AttnRow.gq c (hrow (q r) (hof m)) (kmat k (pof (hof m))) (kmat v (pof (hof m)))
  (hrow (t r) (hof m)) (hrow (b r) (hof m)) (lof m)
def DB (r : Fin 2048) (m : Fin 1024) : ℝ := AttnRow.gb c (hrow (q r) (hof m)) (kmat k (pof (hof m))) (kmat v (pof (hof m)))
  (hrow (t r) (hof m)) (hrow (b r) (hof m)) (lof m)
/-- The gradients of keys and values: summed over the rows and over the query heads that share them. -/
def DK (j : Fin 2048) (m : Fin 256) : ℝ := ∑ g : Fin 4, ∑ r : Fin 2048, AttnRow.gk c (hrow (q r) (qh (kof m) g))
  (kmat k (kof m)) (kmat v (kof m)) (hrow (t r) (qh (kof m) g)) (hrow (b r) (qh (kof m) g)) j (klof m)
def DV (j : Fin 2048) (m : Fin 256) : ℝ := ∑ g : Fin 4, ∑ r : Fin 2048, AttnRow.gv c (hrow (q r) (qh (kof m) g))
  (kmat k (kof m)) (hrow (t r) (qh (kof m) g)) (hrow (b r) (qh (kof m) g)) j (klof m)

/-- Row `r` of a block of 512 rows. -/
def row (n : Fin 4) (r : Fin 512) : Fin 2048 := ⟨512 * n.val + r.val, by omega⟩

theorem sum_rows (f : Fin 2048 → ℝ) : ∑ n : Fin 4, ∑ r : Fin 512, f (row n r) = ∑ r : Fin 2048, f r := by
  rw [← Equiv.sum_comp (finProdFinEquiv : Fin 4 × Fin 512 ≃ Fin 2048) f, Fintype.sum_prod_type]
  refine Finset.sum_congr rfl fun n _ => Finset.sum_congr rfl fun r _ => congrArg f (Fin.ext ?_)
  show 512 * n.val + r.val = r.val + 512 * n.val
  omega

/-- Four blocks of rows, summed one after another. -/
theorem sum_blocks (f : Fin 4 → Fin 2048 → ℝ) :
    (((∑ g : Fin 4, ∑ r : Fin 512, f g (row 0 r)) + ∑ g : Fin 4, ∑ r : Fin 512, f g (row 1 r))
      + ∑ g : Fin 4, ∑ r : Fin 512, f g (row 2 r)) + ∑ g : Fin 4, ∑ r : Fin 512, f g (row 3 r)
      = ∑ g : Fin 4, ∑ r : Fin 2048, f g r := by
  simp only [← sum_rows]
  have h : ∑ g : Fin 4, ∑ n : Fin 4, ∑ r : Fin 512, f g (row n r) = ∑ n : Fin 4, ∑ g : Fin 4, ∑ r : Fin 512, f g (row n r) := Finset.sum_comm
  rw [h, Fin.sum_univ_four (f := fun n => ∑ g : Fin 4, ∑ r : Fin 512, f g (row n r))]

end Cert.AttnWhole

end
-- ==== Proof.AttnRun.lean ====
/- The two attention kernels' result arrays: each block a grid point writes back is its block of one array over the real
   numbers; the gradients of keys and values are summed over the four blocks of rows of a head, and written back at the last. -/
module

public import proofs.«01_k».proof.Proof.AttnBlockValue
public import proofs.«01_k».proof.Proof.AttnWhole

@[expose] public section

set_option maxRecDepth 16384

noncomputable section

open Idealize.ShloMosaic Idealize.ShloMosaic.TcCoe Idealize.SL.Sem

namespace Cert.AttnIdeal.Run

open Cert.AttnIdeal Cert.AttnIdeal.Gen Cert.AttnIdeal.Blocks Cert.AttnWhole

variable (V : (c : Dev nD) → (b : Ref sig .tc) → Buf (Elt Ideal) ((c : Thread nD τ).loc b)) (c : Dev nD)

/-- The block of rows `n` and of heads `p` of an array of 1024 columns. -/
def bq (p : Fin 2) (n : Fin 4) (x : Fin 2048 → Fin 1024 → ℝ) : Fin 512 → Fin 512 → ℝ :=
  fun r m => x (row n r) ⟨512 * p.val + m.val, by omega⟩

theorem hd_bq (p : Fin 2) (n : Fin 4) (x : Fin 2048 → Fin 1024 → ℝ) (r : Fin 512) (g : Fin 4) :
    hd (bq p n x r) g = hrow (x (row n r)) (qh p g) := funext fun d => congrArg (x (row n r)) (Fin.ext (by
  show 512 * p.val + (128 * g.val + d.val) = 128 * (4 * p.val + g.val) + d.val; omega))

/-- Column `m` of the gate's part of the projections. -/
def gcol (m : Fin 1024) : Fin 12800 := ⟨5632 + m.val, by omega⟩

/-- A block's index is a row, a head and a column of the head. -/
theorem at_heads (y : S512x512.Idx) : ∃ (r : Fin 512) (g : Fin 4) (d : Fin 128), y = ix2 r (col g d) :=
  ⟨y 0, head (y 1), lane (y 1), (eq_ix2 y).trans (congrArg (ix2 (y 0)) (Fin.ext (by
    have h : (y 1 : Fin 512).val = (y 1 : Fin 512).val := rfl
    show (y 1 : Fin 512).val = 128 * ((y 1 : Fin 512).val / 128) + (y 1 : Fin 512).val % 128; omega)))⟩

theorem idx0 : ∀ t : Fin cfg0.N, win0_0.index t (0 : Fin 2) = t.val % 4 ∧ win0_0.index t (1 : Fin 2) = t.val / 4
    ∧ win0_1.index t (0 : Fin 2) = 0 ∧ win0_1.index t (1 : Fin 2) = t.val / 4
    ∧ win0_2.index t (0 : Fin 2) = 0 ∧ win0_2.index t (1 : Fin 2) = t.val / 4
    ∧ win0_3.index t (0 : Fin 2) = t.val % 4 ∧ win0_3.index t (1 : Fin 2) = 11 + t.val / 4
    ∧ win0_4.index t (0 : Fin 2) = t.val % 4 ∧ win0_4.index t (1 : Fin 2) = t.val / 4
    ∧ win0_5.index t (0 : Fin 2) = t.val % 4 ∧ win0_5.index t (1 : Fin 2) = t.val / 4 :=
  (by decide +kernel : ∀ t : Fin grid0.N, _)

theorem idx1 : ∀ t : Fin cfg1.N, win1_0.index t (0 : Fin 2) = t.val % 4 ∧ win1_0.index t (1 : Fin 2) = t.val / 4
    ∧ win1_1.index t (0 : Fin 2) = t.val % 4 ∧ win1_1.index t (1 : Fin 2) = t.val / 4
    ∧ win1_2.index t (0 : Fin 2) = t.val % 4 ∧ win1_2.index t (1 : Fin 2) = t.val / 4
    ∧ win1_3.index t (0 : Fin 2) = 0 ∧ win1_3.index t (1 : Fin 2) = t.val / 4
    ∧ win1_4.index t (0 : Fin 2) = 0 ∧ win1_4.index t (1 : Fin 2) = t.val / 4
    ∧ win1_5.index t (0 : Fin 2) = t.val % 4 ∧ win1_5.index t (1 : Fin 2) = 11 + t.val / 4
    ∧ win1_6.index t (0 : Fin 2) = t.val % 4 ∧ win1_6.index t (1 : Fin 2) = t.val / 4
    ∧ win1_7.index t (0 : Fin 2) = 0 ∧ win1_7.index t (1 : Fin 2) = t.val / 4
    ∧ win1_8.index t (0 : Fin 2) = 0 ∧ win1_8.index t (1 : Fin 2) = t.val / 4
    ∧ win1_9.index t (0 : Fin 2) = t.val % 4 ∧ win1_9.index t (1 : Fin 2) = 11 + t.val / 4 :=
  (by decide +kernel : ∀ t : Fin grid1.N, _)

variable {s : ℝ} (hs : Ideal.ofBits .f32 0x3DB504F3#32 = (s : EReal))
variable {q t b : Fin 2048 → Fin 1024 → ℝ} {k v : Fin 2048 → Fin 256 → ℝ}
variable (hq : ∀ r m, (V c main_arg1 : S2048x1024.Idx → EReal) (ix2 r m) = (q r m : EReal))
variable (hk : ∀ r m, (V c main_arg2 : S2048x256.Idx → EReal) (ix2 r m) = (k r m : EReal))
variable (hv : ∀ r m, (V c main_arg3 : S2048x256.Idx → EReal) (ix2 r m) = (v r m : EReal))
variable (hb : ∀ r m, (V c main_arg4 : S2048x12800.Idx → EReal) (ix2 r (gcol m)) = (b r m : EReal))
variable (ht : ∀ r m, (V c main_arg0 : S2048x1024.Idx → EReal) (ix2 r m) = (t r m : EReal))
variable (ho : ∀ r m, (V c main_v0_0 : S2048x1024.Idx → EReal) (ix2 r m) = (O s q k v r m : EReal))

/-! ## The forward kernel -/

section Forward

variable (u : Fin cfg0.N) (p : Fin 2) (n : Fin 4) (hu : u.val = 4 * p.val + n.val)

include hu

include hq in
theorem in0_q (r m : Fin 512) : iblk0 V c 0 u (ix2 r m) = (bq p n q r m : EReal) := by
  obtain ⟨a0, a1, -⟩ := idx0 u
  refine Eq.trans (congrArg (V c main_arg1 : S2048x1024.Idx → EReal) (?_ : _ = ix2 _ _)) (hq (row n r) ⟨512 * p.val + m.val, by omega⟩)
  funext a; apply Fin.ext
  match a with
  | ⟨0, _⟩ => show win0_0.index u (0 : Fin 2) * 512 + 1 * r.val = 512 * n.val + r.val; omega
  | ⟨1, _⟩ => show win0_0.index u (1 : Fin 2) * 512 + 1 * m.val = 512 * p.val + m.val; omega

include hk in
theorem in0_k (j : Fin 2048) (d : Fin 128) : iblk0 V c 1 u (ix2 j d) = (kmat k p j d : EReal) := by
  obtain ⟨-, -, a0, a1, -⟩ := idx0 u
  refine Eq.trans (congrArg (V c main_arg2 : S2048x256.Idx → EReal) (?_ : _ = ix2 _ _)) (hk j (kcol p d))
  funext a; apply Fin.ext
  match a with
  | ⟨0, _⟩ => show win0_1.index u (0 : Fin 2) * 2048 + 1 * j.val = j.val; omega
  | ⟨1, _⟩ => show win0_1.index u (1 : Fin 2) * 128 + 1 * d.val = 128 * p.val + d.val; omega

include hv in
theorem in0_v (j : Fin 2048) (d : Fin 128) : iblk0 V c 2 u (ix2 j d) = (kmat v p j d : EReal) := by
  obtain ⟨-, -, -, -, a0, a1, -⟩ := idx0 u
  refine Eq.trans (congrArg (V c main_arg3 : S2048x256.Idx → EReal) (?_ : _ = ix2 _ _)) (hv j (kcol p d))
  funext a; apply Fin.ext
  match a with
  | ⟨0, _⟩ => show win0_2.index u (0 : Fin 2) * 2048 + 1 * j.val = j.val; omega
  | ⟨1, _⟩ => show win0_2.index u (1 : Fin 2) * 128 + 1 * d.val = 128 * p.val + d.val; omega

include hb in
theorem in0_b (r m : Fin 512) : iblk0 V c 3 u (ix2 r m) = (bq p n b r m : EReal) := by
  obtain ⟨-, -, -, -, -, -, a0, a1, -⟩ := idx0 u
  refine Eq.trans (congrArg (V c main_arg4 : S2048x12800.Idx → EReal) (?_ : _ = ix2 _ _)) (hb (row n r) ⟨512 * p.val + m.val, by omega⟩)
  funext a; apply Fin.ext
  match a with
  | ⟨0, _⟩ => show win0_3.index u (0 : Fin 2) * 512 + 1 * r.val = 512 * n.val + r.val; omega
  | ⟨1, _⟩ => show win0_3.index u (1 : Fin 2) * 512 + 1 * m.val = 5632 + (512 * p.val + m.val); omega

theorem emb0_4 (r : Fin 512) (g : Fin 4) (d : Fin 128) :
    ((cfg0.win 4).blk u).view.emb (ix2 r (col g d)) = ix2 (row n r) (hcol (qh p g) d) := by
  obtain ⟨-, -, -, -, -, -, -, -, a0, a1, -⟩ := idx0 u
  funext a; apply Fin.ext
  match a with
  | ⟨0, _⟩ => show win0_4.index u (0 : Fin 2) * 512 + 1 * r.val = 512 * n.val + r.val; omega
  | ⟨1, _⟩ => show win0_4.index u (1 : Fin 2) * 512 + 1 * (128 * g.val + d.val) = 128 * (4 * p.val + g.val) + d.val; omega

theorem emb0_5 (r : Fin 512) (g : Fin 4) (d : Fin 128) :
    ((cfg0.win 5).blk u).view.emb (ix2 r (col g d)) = ix2 (row n r) (hcol (qh p g) d) := by
  obtain ⟨-, -, -, -, -, -, -, -, -, -, a0, a1⟩ := idx0 u
  funext a; apply Fin.ext
  match a with
  | ⟨0, _⟩ => show win0_5.index u (0 : Fin 2) * 512 + 1 * r.val = 512 * n.val + r.val; omega
  | ⟨1, _⟩ => show win0_5.index u (1 : Fin 2) * 512 + 1 * (128 * g.val + d.val) = 128 * (4 * p.val + g.val) + d.val; omega

end Forward

theorem split0 (u : Fin cfg0.N) : ∃ (p : Fin 2) (n : Fin 4), u.val = 4 * p.val + n.val := by
  have h : u.val < 8 := lt_of_lt_of_eq u.isLt (show cfg0.N = 8 from N_0)
  exact ⟨⟨u.val / 4, by omega⟩, ⟨u.val % 4, by omega⟩, by show u.val = 4 * (u.val / 4) + u.val % 4; omega⟩
theorem split1 (u : Fin cfg1.N) : ∃ (p : Fin 2) (n : Fin 4), u.val = 4 * p.val + n.val := by
  have h : u.val < 8 := lt_of_lt_of_eq u.isLt (show cfg1.N = 8 from N_1)
  exact ⟨⟨u.val / 4, by omega⟩, ⟨u.val % 4, by omega⟩, by show u.val = 4 * (u.val / 4) + u.val % 4; omega⟩

/-- An array over the real numbers, as the array of a result. -/
def up {R M : ℕ} (f : Fin R → Fin M → ℝ) : (⟨2, ![R, M]⟩ : Shape).Idx → EReal := fun i => (f (i 0) (i 1) : EReal)

include hs hq hk hv in
theorem flushed0_4 (hb : ∀ r m, (V c main_arg4 : S2048x12800.Idx → EReal) (ix2 r (gcol m)) = (b r m : EReal)) (u : Fin cfg0.N) :
    (dat0 V c).flushed 4 u = ((cfg0.win 4).blk u).view.read (Elt Ideal) (up (O s q k v)) := by
  obtain ⟨p, n, hu⟩ := split0 u
  show (cfg0.win 4).cut (grid0.coords u) ((dat0 V c).after 4 u) = _
  rw [after0_4]
  funext y
  obtain ⟨r, g, d, rfl⟩ := at_heads y
  show out0_4 (iblk0 V c 0 u) (iblk0 V c 1 u) (iblk0 V c 2 u) (iblk0 V c 3 u) (ix2 r (col g d))
    = up (O s q k v) (((cfg0.win 4).blk u).view.emb (ix2 r (col g d)))
  rw [emb0_4 u p n hu, out0_4_eq hs (in0_q V c hq u p n hu) (in0_k V c hk u p n hu) (in0_v V c hv u p n hu) g r d]
  show _ = (O s q k v (row n r) (hcol (qh p g) d) : EReal)
  unfold O
  rw [hof_hcol, lof_hcol, pof_qh, hd_bq]

include hs hq hk hv hb in
theorem flushed0_5 (u : Fin cfg0.N) :
    (dat0 V c).flushed 5 u = ((cfg0.win 5).blk u).view.read (Elt Ideal) (up (Y s q b k v)) := by
  obtain ⟨p, n, hu⟩ := split0 u
  show (cfg0.win 5).cut (grid0.coords u) ((dat0 V c).after 5 u) = _
  rw [after0_5]
  funext y
  obtain ⟨r, g, d, rfl⟩ := at_heads y
  show out0_5 (iblk0 V c 0 u) (iblk0 V c 1 u) (iblk0 V c 2 u) (iblk0 V c 3 u) (ix2 r (col g d))
    = up (Y s q b k v) (((cfg0.win 5).blk u).view.emb (ix2 r (col g d)))
  rw [emb0_5 u p n hu, out0_5_eq hs (in0_q V c hq u p n hu) (in0_k V c hk u p n hu) (in0_v V c hv u p n hu)
    (in0_b V c hb u p n hu) g r d]
  show _ = (Y s q b k v (row n r) (hcol (qh p g) d) : EReal)
  unfold Y
  rw [hof_hcol, lof_hcol, pof_qh, hd_bq, hd_bq]

theorem covered0_4 (i : S2048x1024.Idx) : ∃ u : Fin cfg0.N, (cfg0.win 4).flush u = true ∧ i ∈ ((cfg0.win 4).blk u).view.set := by
  have h0 : (i 0 : Nat) < 2048 := (i 0).isLt
  have h1 : (i 1 : Nat) < 1024 := (i 1).isLt
  obtain ⟨u, hu⟩ : ∃ u : Fin cfg0.N, u.val = 4 * ((i 1 : Nat) / 512) + (i 0 : Nat) / 512 := ⟨⟨_, by rw [show cfg0.N = 8 from N_0]; omega⟩, rfl⟩
  refine ⟨u, flush0_4 _, ?_⟩
  obtain ⟨-, -, -, -, -, -, -, -, c0, c1, -⟩ := idx0 u
  show i ∈ ((View.whole main_v0_0).slice (win0_4.rect u)).set
  rw [View.set_slice_whole, Rect.mem_set_unit]
  intro a
  match a with
  | ⟨0, _⟩ => show win0_4.index u (0 : Fin 2) * 512 ≤ (i 0 : Nat) ∧ (i 0 : Nat) < win0_4.index u (0 : Fin 2) * 512 + 512; omega
  | ⟨1, _⟩ => show win0_4.index u (1 : Fin 2) * 512 ≤ (i 1 : Nat) ∧ (i 1 : Nat) < win0_4.index u (1 : Fin 2) * 512 + 512; omega

theorem covered0_5 (i : S2048x1024.Idx) : ∃ u : Fin cfg0.N, (cfg0.win 5).flush u = true ∧ i ∈ ((cfg0.win 5).blk u).view.set := by
  have h0 : (i 0 : Nat) < 2048 := (i 0).isLt
  have h1 : (i 1 : Nat) < 1024 := (i 1).isLt
  obtain ⟨u, hu⟩ : ∃ u : Fin cfg0.N, u.val = 4 * ((i 1 : Nat) / 512) + (i 0 : Nat) / 512 := ⟨⟨_, by rw [show cfg0.N = 8 from N_0]; omega⟩, rfl⟩
  refine ⟨u, flush0_5 _, ?_⟩
  obtain ⟨-, -, -, -, -, -, -, -, -, -, c0, c1⟩ := idx0 u
  show i ∈ ((View.whole main_v0_1).slice (win0_5.rect u)).set
  rw [View.set_slice_whole, Rect.mem_set_unit]
  intro a
  match a with
  | ⟨0, _⟩ => show win0_5.index u (0 : Fin 2) * 512 ≤ (i 0 : Nat) ∧ (i 0 : Nat) < win0_5.index u (0 : Fin 2) * 512 + 512; omega
  | ⟨1, _⟩ => show win0_5.index u (1 : Fin 2) * 512 ≤ (i 1 : Nat) ∧ (i 1 : Nat) < win0_5.index u (1 : Fin 2) * 512 + 512; omega

include hs hq hk hv hb in
theorem final0_4 : (dat0 V c).arrAt 4 cfg0.N = up (O s q k v) :=
  (dat0 V c).arrAt_eq_of_cover 4 (up (O s q k v)) (fun u _ => flushed0_4 V c hs hq hk hv hb u) covered0_4

include hs hq hk hv hb in
theorem final0_5 : (dat0 V c).arrAt 5 cfg0.N = up (Y s q b k v) :=
  (dat0 V c).arrAt_eq_of_cover 5 (up (Y s q b k v)) (fun u _ => flushed0_5 V c hs hq hk hv hb u) covered0_5

end Cert.AttnIdeal.Run

end
-- ==== Proof.AttnBack.lean ====
/- The backward kernel's result arrays over the real numbers. -/
module

public import proofs.«01_k».proof.Proof.AttnRun

@[expose] public section

set_option maxRecDepth 16384

noncomputable section

open Idealize.ShloMosaic Idealize.ShloMosaic.TcCoe Idealize.SL.Sem

namespace Cert.AttnIdeal.Run

open Cert.AttnIdeal Cert.AttnIdeal.Gen Cert.AttnIdeal.Blocks Cert.AttnWhole

variable (V : (c : Dev nD) → (b : Ref sig .tc) → Buf (Elt Ideal) ((c : Thread nD τ).loc b)) (c : Dev nD)

variable {s : ℝ} (hs : Ideal.ofBits .f32 0x3DB504F3#32 = (s : EReal))
variable {q t b : Fin 2048 → Fin 1024 → ℝ} {k v : Fin 2048 → Fin 256 → ℝ}
variable (hq : ∀ r m, (V c main_arg1 : S2048x1024.Idx → EReal) (ix2 r m) = (q r m : EReal))
variable (hk : ∀ r m, (V c main_arg2 : S2048x256.Idx → EReal) (ix2 r m) = (k r m : EReal))
variable (hv : ∀ r m, (V c main_arg3 : S2048x256.Idx → EReal) (ix2 r m) = (v r m : EReal))
variable (hb : ∀ r m, (V c main_arg4 : S2048x12800.Idx → EReal) (ix2 r (gcol m)) = (b r m : EReal))
variable (ht : ∀ r m, (V c main_arg0 : S2048x1024.Idx → EReal) (ix2 r m) = (t r m : EReal))
variable (ho : ∀ r m, (V c main_v0_0 : S2048x1024.Idx → EReal) (ix2 r m) = (O s q k v r m : EReal))

/-! ## What the body leaves at a point -/

theorem out_6 (u : Fin cfg1.N) : (outsAt1 V c u.val u.isLt).1 = dqBlock (iblk1 V c 0 u) (iblk1 V c 1 u) (iblk1 V c 2 u) (iblk1 V c 3 u) (iblk1 V c 4 u) (iblk1 V c 5 u) := by
  by_cases h : u.val % 4 = 0
  · rw [outsAt1_A V c u h]; dsimp only; rw [out_A_6]
  · rw [outsAt1_B V c u h]; dsimp only; rw [out_B_6]

theorem out_9 (u : Fin cfg1.N) : (outsAt1 V c u.val u.isLt).2.2.2 = dbgBlock (iblk1 V c 0 u) (iblk1 V c 1 u) (iblk1 V c 5 u) := by
  by_cases h : u.val % 4 = 0
  · rw [outsAt1_A V c u h]; dsimp only; rw [out_A_9]
  · rw [outsAt1_B V c u h]; dsimp only; rw [out_B_9]

theorem first_7 (u : Fin cfg1.N) (h : u.val % 4 = 0) : (outsAt1 V c u.val u.isLt).2.1 = addf (k1_pay3 : FVec Ideal S2048x128 .f32) (dkBlock (iblk1 V c 0 u) (iblk1 V c 1 u) (iblk1 V c 2 u) (iblk1 V c 3 u) (iblk1 V c 4 u) (iblk1 V c 5 u)) := by
  rw [outsAt1_A V c u h]; dsimp only; rw [out_A_7]

theorem next_7 (u : Fin cfg1.N) (h : ¬u.val % 4 = 0) (h' : u.val - 1 < cfg1.N) : (outsAt1 V c u.val u.isLt).2.1
    = addf (outsAt1 V c (u.val - 1) h').2.1 (dkBlock (iblk1 V c 0 u) (iblk1 V c 1 u) (iblk1 V c 2 u) (iblk1 V c 3 u) (iblk1 V c 4 u) (iblk1 V c 5 u)) := by
  rw [outsAt1_B V c u h]; dsimp only; rw [out_B_7]

theorem first_8 (u : Fin cfg1.N) (h : u.val % 4 = 0) : (outsAt1 V c u.val u.isLt).2.2.1 = addf (k1_pay4 : FVec Ideal S2048x128 .f32) (dvBlock (iblk1 V c 0 u) (iblk1 V c 2 u) (iblk1 V c 3 u) (iblk1 V c 5 u)) := by
  rw [outsAt1_A V c u h]; dsimp only; rw [out_A_8]

theorem next_8 (u : Fin cfg1.N) (h : ¬u.val % 4 = 0) (h' : u.val - 1 < cfg1.N) : (outsAt1 V c u.val u.isLt).2.2.1
    = addf (outsAt1 V c (u.val - 1) h').2.2.1 (dvBlock (iblk1 V c 0 u) (iblk1 V c 2 u) (iblk1 V c 3 u) (iblk1 V c 5 u)) := by
  rw [outsAt1_B V c u h]; dsimp only; rw [out_B_8]

/-! ## The blocks the body reads -/

section Reads

variable (u : Fin cfg1.N) (p : Fin 2) (n : Fin 4) (hu : u.val = 4 * p.val + n.val)

include hu

include ht in
theorem in1_t (r m : Fin 512) : iblk1 V c 0 u (ix2 r m) = (bq p n t r m : EReal) := by
  obtain ⟨a0, a1, -⟩ := idx1 u
  refine Eq.trans (congrArg (V c main_arg0 : S2048x1024.Idx → EReal) (?_ : _ = ix2 _ _)) (ht (row n r) ⟨512 * p.val + m.val, by omega⟩)
  funext a; apply Fin.ext
  match a with
  | ⟨0, _⟩ => show win1_0.index u (0 : Fin 2) * 512 + 1 * r.val = 512 * n.val + r.val; omega
  | ⟨1, _⟩ => show win1_0.index u (1 : Fin 2) * 512 + 1 * m.val = 512 * p.val + m.val; omega

include ho in
theorem in1_o (r m : Fin 512) : iblk1 V c 1 u (ix2 r m) = (bq p n (O s q k v) r m : EReal) := by
  obtain ⟨-, -, a0, a1, -⟩ := idx1 u
  refine Eq.trans (congrArg (V c main_v0_0 : S2048x1024.Idx → EReal) (?_ : _ = ix2 _ _)) (ho (row n r) ⟨512 * p.val + m.val, by omega⟩)
  funext a; apply Fin.ext
  match a with
  | ⟨0, _⟩ => show win1_1.index u (0 : Fin 2) * 512 + 1 * r.val = 512 * n.val + r.val; omega
  | ⟨1, _⟩ => show win1_1.index u (1 : Fin 2) * 512 + 1 * m.val = 512 * p.val + m.val; omega

include hq in
theorem in1_q (r m : Fin 512) : iblk1 V c 2 u (ix2 r m) = (bq p n q r m : EReal) := by
  obtain ⟨-, -, -, -, a0, a1, -⟩ := idx1 u
  refine Eq.trans (congrArg (V c main_arg1 : S2048x1024.Idx → EReal) (?_ : _ = ix2 _ _)) (hq (row n r) ⟨512 * p.val + m.val, by omega⟩)
  funext a; apply Fin.ext
  match a with
  | ⟨0, _⟩ => show win1_2.index u (0 : Fin 2) * 512 + 1 * r.val = 512 * n.val + r.val; omega
  | ⟨1, _⟩ => show win1_2.index u (1 : Fin 2) * 512 + 1 * m.val = 512 * p.val + m.val; omega

include hk in
theorem in1_k (j : Fin 2048) (d : Fin 128) : iblk1 V c 3 u (ix2 j d) = (kmat k p j d : EReal) := by
  obtain ⟨-, -, -, -, -, -, a0, a1, -⟩ := idx1 u
  refine Eq.trans (congrArg (V c main_arg2 : S2048x256.Idx → EReal) (?_ : _ = ix2 _ _)) (hk j (kcol p d))
  funext a; apply Fin.ext
  match a with
  | ⟨0, _⟩ => show win1_3.index u (0 : Fin 2) * 2048 + 1 * j.val = j.val; omega
  | ⟨1, _⟩ => show win1_3.index u (1 : Fin 2) * 128 + 1 * d.val = 128 * p.val + d.val; omega

include hv in
theorem in1_v (j : Fin 2048) (d : Fin 128) : iblk1 V c 4 u (ix2 j d) = (kmat v p j d : EReal) := by
  obtain ⟨-, -, -, -, -, -, -, -, a0, a1, -⟩ := idx1 u
  refine Eq.trans (congrArg (V c main_arg3 : S2048x256.Idx → EReal) (?_ : _ = ix2 _ _)) (hv j (kcol p d))
  funext a; apply Fin.ext
  match a with
  | ⟨0, _⟩ => show win1_4.index u (0 : Fin 2) * 2048 + 1 * j.val = j.val; omega
  | ⟨1, _⟩ => show win1_4.index u (1 : Fin 2) * 128 + 1 * d.val = 128 * p.val + d.val; omega

include hb in
theorem in1_b (r m : Fin 512) : iblk1 V c 5 u (ix2 r m) = (bq p n b r m : EReal) := by
  obtain ⟨-, -, -, -, -, -, -, -, -, -, a0, a1, -⟩ := idx1 u
  refine Eq.trans (congrArg (V c main_arg4 : S2048x12800.Idx → EReal) (?_ : _ = ix2 _ _)) (hb (row n r) ⟨512 * p.val + m.val, by omega⟩)
  funext a; apply Fin.ext
  match a with
  | ⟨0, _⟩ => show win1_5.index u (0 : Fin 2) * 512 + 1 * r.val = 512 * n.val + r.val; omega
  | ⟨1, _⟩ => show win1_5.index u (1 : Fin 2) * 512 + 1 * m.val = 5632 + (512 * p.val + m.val); omega

include ho in
/-- The forward kernel's result, head by head. -/
theorem in1_o' (r : Fin 512) (g : Fin 4) (d : Fin 128) : iblk1 V c 1 u (ix2 r (col g d))
    = (AttnRow.o s (hd (bq p n q r) g) (kmat k p) (kmat v p) d : EReal) := by
  rw [in1_o V c ho u p n hu]
  show ((hd (bq p n (O s q k v) r) g d : ℝ) : EReal) = _
  rw [hd_bq, hd_bq]
  show ((O s q k v (row n r) (hcol (qh p g) d) : ℝ) : EReal) = _
  unfold O
  rw [hof_hcol, lof_hcol, pof_qh]

theorem emb1_6 (r : Fin 512) (g : Fin 4) (d : Fin 128) :
    ((cfg1.win 6).blk u).view.emb (ix2 r (col g d)) = ix2 (row n r) (hcol (qh p g) d) := by
  obtain ⟨-, -, -, -, -, -, -, -, -, -, -, -, a0, a1, -⟩ := idx1 u
  funext a; apply Fin.ext
  match a with
  | ⟨0, _⟩ => show win1_6.index u (0 : Fin 2) * 512 + 1 * r.val = 512 * n.val + r.val; omega
  | ⟨1, _⟩ => show win1_6.index u (1 : Fin 2) * 512 + 1 * (128 * g.val + d.val) = 128 * (4 * p.val + g.val) + d.val; omega

theorem emb1_9 (r : Fin 512) (g : Fin 4) (d : Fin 128) :
    ((cfg1.win 9).blk u).view.emb (ix2 r (col g d)) = ix2 (row n r) (gcol (hcol (qh p g) d)) := by
  obtain ⟨-, -, -, -, -, -, -, -, -, -, -, -, -, -, -, -, -, -, a0, a1⟩ := idx1 u
  funext a; apply Fin.ext
  match a with
  | ⟨0, _⟩ => show win1_9.index u (0 : Fin 2) * 512 + 1 * r.val = 512 * n.val + r.val; omega
  | ⟨1, _⟩ => show win1_9.index u (1 : Fin 2) * 512 + 1 * (128 * g.val + d.val) = 5632 + (128 * (4 * p.val + g.val) + d.val); omega

theorem emb1_7 (j : Fin 2048) (d : Fin 128) :
    ((cfg1.win 7).blk u).view.emb (ix2 j d) = ix2 j (kcol p d) := by
  obtain ⟨-, -, -, -, -, -, -, -, -, -, -, -, -, -, a0, a1, -⟩ := idx1 u
  funext a; apply Fin.ext
  match a with
  | ⟨0, _⟩ => show win1_7.index u (0 : Fin 2) * 2048 + 1 * j.val = j.val; omega
  | ⟨1, _⟩ => show win1_7.index u (1 : Fin 2) * 128 + 1 * d.val = 128 * p.val + d.val; omega

theorem emb1_8 (j : Fin 2048) (d : Fin 128) :
    ((cfg1.win 8).blk u).view.emb (ix2 j d) = ix2 j (kcol p d) := by
  obtain ⟨-, -, -, -, -, -, -, -, -, -, -, -, -, -, -, -, a0, a1, -⟩ := idx1 u
  funext a; apply Fin.ext
  match a with
  | ⟨0, _⟩ => show win1_8.index u (0 : Fin 2) * 2048 + 1 * j.val = j.val; omega
  | ⟨1, _⟩ => show win1_8.index u (1 : Fin 2) * 128 + 1 * d.val = 128 * p.val + d.val; omega

include hs hq hk hv hb ht ho in
/-- The block's part of the gradients of keys and values. -/
theorem part_k (j : Fin 2048) (d : Fin 128) : dkBlock (iblk1 V c 0 u) (iblk1 V c 1 u) (iblk1 V c 2 u) (iblk1 V c 3 u) (iblk1 V c 4 u) (iblk1 V c 5 u) (ix2 j d)
    = ((∑ g : Fin 4, ∑ r : Fin 512, AttnRow.gk s (hrow (q (row n r)) (qh p g)) (kmat k p) (kmat v p)
        (hrow (t (row n r)) (qh p g)) (hrow (b (row n r)) (qh p g)) j d : ℝ) : EReal) := by
  rw [dkBlock_eq hs (in1_q V c hq u p n hu) (in1_k V c hk u p n hu) (in1_v V c hv u p n hu) (in1_t V c ht u p n hu)
    (in1_b V c hb u p n hu) (in1_o' V c ho u p n hu) j d]
  simp only [hd_bq]

include hs hq hk hb ht in
theorem part_v (j : Fin 2048) (d : Fin 128) : dvBlock (iblk1 V c 0 u) (iblk1 V c 2 u) (iblk1 V c 3 u) (iblk1 V c 5 u) (ix2 j d)
    = ((∑ g : Fin 4, ∑ r : Fin 512, AttnRow.gv s (hrow (q (row n r)) (qh p g)) (kmat k p)
        (hrow (t (row n r)) (qh p g)) (hrow (b (row n r)) (qh p g)) j d : ℝ) : EReal) := by
  rw [dvBlock_eq hs (in1_q V c hq u p n hu) (in1_k V c hk u p n hu) (in1_t V c ht u p n hu) (in1_b V c hb u p n hu) j d]
  simp only [hd_bq]

end Reads

/-! ## The blocks written back -/

include hs hq hk hv hb ht ho in
theorem flushed1_6 (u : Fin cfg1.N) :
    (dat1 V c).flushed 6 u = ((cfg1.win 6).blk u).view.read (Elt Ideal) (up (DQ s q t b k v)) := by
  obtain ⟨p, n, hu⟩ := split1 u
  show (cfg1.win 6).cut (grid1.coords u) ((dat1 V c).after 6 u) = _
  rw [after1_6, out_6]
  funext y
  obtain ⟨r, g, d, rfl⟩ := at_heads y
  show dqBlock (iblk1 V c 0 u) (iblk1 V c 1 u) (iblk1 V c 2 u) (iblk1 V c 3 u) (iblk1 V c 4 u) (iblk1 V c 5 u) (ix2 r (col g d)) = up (DQ s q t b k v) (((cfg1.win 6).blk u).view.emb (ix2 r (col g d)))
  rw [emb1_6 u p n hu, dqBlock_eq hs (in1_q V c hq u p n hu) (in1_k V c hk u p n hu) (in1_v V c hv u p n hu) (in1_t V c ht u p n hu) (in1_b V c hb u p n hu) (in1_o' V c ho u p n hu) g r d]
  show _ = (DQ s q t b k v (row n r) (hcol (qh p g) d) : EReal)
  unfold DQ
  rw [hof_hcol, lof_hcol, pof_qh, hd_bq, hd_bq, hd_bq]

/-- An array whose gate part holds the gradient, the rest being as it was. -/
def gated (f : Fin 2048 → Fin 1024 → ℝ) (x : S2048x12800.Idx → EReal) : S2048x12800.Idx → EReal := fun i =>
  if h : 5632 ≤ (i 1 : Fin 12800).val ∧ (i 1 : Fin 12800).val < 6656 then (f (i 0) ⟨(i 1 : Fin 12800).val - 5632, by omega⟩ : EReal) else x i

theorem gated_gcol (f : Fin 2048 → Fin 1024 → ℝ) (x : S2048x12800.Idx → EReal) (r : Fin 2048) (m : Fin 1024) :
    gated f x (ix2 r (gcol m)) = (f r m : EReal) := by
  have h : 5632 ≤ (gcol m).val ∧ (gcol m).val < 6656 := by
    have := m.isLt
    show 5632 ≤ 5632 + m.val ∧ 5632 + m.val < 6656; omega
  refine (dif_pos h).trans ?_
  refine congrArg (fun z => ((f r z : ℝ) : EReal)) (Fin.ext ?_)
  show 5632 + m.val - 5632 = m.val; omega

include hb ht ho in
theorem flushed1_9 (u : Fin cfg1.N) :
    (dat1 V c).flushed 9 u = ((cfg1.win 9).blk u).view.read (Elt Ideal) (gated (DB s q t b k v) (V c main_v1_3)) := by
  obtain ⟨p, n, hu⟩ := split1 u
  show (cfg1.win 9).cut (grid1.coords u) ((dat1 V c).after 9 u) = _
  rw [after1_9, out_9]
  funext y
  obtain ⟨r, g, d, rfl⟩ := at_heads y
  show dbgBlock (iblk1 V c 0 u) (iblk1 V c 1 u) (iblk1 V c 5 u) (ix2 r (col g d)) = gated (DB s q t b k v) (V c main_v1_3) (((cfg1.win 9).blk u).view.emb (ix2 r (col g d)))
  rw [emb1_9 u p n hu, dbgBlock_eq (in1_t V c ht u p n hu) (in1_b V c hb u p n hu) (in1_o' V c ho u p n hu) g r d]
  refine Eq.trans ?_ (gated_gcol (DB s q t b k v) (V c main_v1_3) (row n r) (hcol (qh p g) d)).symm
  unfold DB
  rw [hof_hcol, lof_hcol, pof_qh, hd_bq, hd_bq, hd_bq]

include hs hq hk hv hb ht ho in
/-- The block written back at a head's last point is the sum of the four points' parts. -/
theorem last_7 (u : Fin cfg1.N) (p : Fin 2) (hu : u.val = 4 * p.val + 3) (j : Fin 2048) (d : Fin 128) :
    (outsAt1 V c u.val u.isLt).2.1 (ix2 j d) = (DK s q t b k v j (kcol p d) : EReal) := by
  have hN : cfg1.N = 8 := N_1
  obtain ⟨u2, e2⟩ : ∃ w : Fin cfg1.N, w.val = 4 * p.val + 2 := ⟨⟨_, by omega⟩, rfl⟩
  obtain ⟨u1, e1⟩ : ∃ w : Fin cfg1.N, w.val = 4 * p.val + 1 := ⟨⟨_, by omega⟩, rfl⟩
  obtain ⟨u0, e0⟩ : ∃ w : Fin cfg1.N, w.val = 4 * p.val + 0 := ⟨⟨_, by omega⟩, rfl⟩
  have same : ∀ (a b : ℕ) (ha : a < cfg1.N) (hb : b < cfg1.N), a = b → outsAt1 V c a ha = outsAt1 V c b hb := fun a b ha hb e => by subst e; rfl
  rw [next_7 V c u (by omega) (by omega), same (u.val - 1) u2.val (by omega) u2.isLt (by omega)]
  rw [next_7 V c u2 (by omega) (by omega), same (u2.val - 1) u1.val (by omega) u1.isLt (by omega)]
  rw [next_7 V c u1 (by omega) (by omega), same (u1.val - 1) u0.val (by omega) u0.isLt (by omega)]
  rw [first_7 V c u0 (by omega)]
  pointwise [k1_pay3]
  rw [part_k V c hs hq hk hv hb ht ho u0 p 0 e0, part_k V c hs hq hk hv hb ht ho u1 p 1 e1, part_k V c hs hq hk hv hb ht ho u2 p 2 e2, part_k V c hs hq hk hv hb ht ho u p 3 hu]
  rw [← EReal.coe_add, ← EReal.coe_add, ← EReal.coe_add, sum_blocks (fun g r => AttnRow.gk s (hrow (q r) (qh p g)) (kmat k p) (kmat v p)
        (hrow (t r) (qh p g)) (hrow (b r) (qh p g)) j d)]
  unfold DK
  rw [kof_kcol, klof_kcol]

include hs hq hk hv hb ht ho in
theorem flushed1_7 (u : Fin cfg1.N) (hf : (cfg1.win 7).flush u = true) :
    (dat1 V c).flushed 7 u = ((cfg1.win 7).blk u).view.read (Elt Ideal) (up (DK s q t b k v)) := by
  obtain ⟨p, n, hu⟩ := split1 u
  have h3 : u.val % 4 = 3 := (flush1_7 u).mp hf
  show (cfg1.win 7).cut (grid1.coords u) ((dat1 V c).after 7 u) = _
  rw [after1_7]
  funext y
  obtain ⟨j, d, rfl⟩ : ∃ (j : Fin 2048) (d : Fin 128), y = ix2 j d := ⟨y 0, y 1, eq_ix2 y⟩
  show (outsAt1 V c u.val u.isLt).2.1 (ix2 j d) = up (DK s q t b k v) (((cfg1.win 7).blk u).view.emb (ix2 j d))
  rw [emb1_7 u p n hu, last_7 V c hs hq hk hv hb ht ho u p (by omega) j d]
  rfl

include hs hq hk hb ht in
/-- The block written back at a head's last point is the sum of the four points' parts. -/
theorem last_8 (u : Fin cfg1.N) (p : Fin 2) (hu : u.val = 4 * p.val + 3) (j : Fin 2048) (d : Fin 128) :
    (outsAt1 V c u.val u.isLt).2.2.1 (ix2 j d) = (DV s q t b k j (kcol p d) : EReal) := by
  have hN : cfg1.N = 8 := N_1
  obtain ⟨u2, e2⟩ : ∃ w : Fin cfg1.N, w.val = 4 * p.val + 2 := ⟨⟨_, by omega⟩, rfl⟩
  obtain ⟨u1, e1⟩ : ∃ w : Fin cfg1.N, w.val = 4 * p.val + 1 := ⟨⟨_, by omega⟩, rfl⟩
  obtain ⟨u0, e0⟩ : ∃ w : Fin cfg1.N, w.val = 4 * p.val + 0 := ⟨⟨_, by omega⟩, rfl⟩
  have same : ∀ (a b : ℕ) (ha : a < cfg1.N) (hb : b < cfg1.N), a = b → outsAt1 V c a ha = outsAt1 V c b hb := fun a b ha hb e => by subst e; rfl
  rw [next_8 V c u (by omega) (by omega), same (u.val - 1) u2.val (by omega) u2.isLt (by omega)]
  rw [next_8 V c u2 (by omega) (by omega), same (u2.val - 1) u1.val (by omega) u1.isLt (by omega)]
  rw [next_8 V c u1 (by omega) (by omega), same (u1.val - 1) u0.val (by omega) u0.isLt (by omega)]
  rw [first_8 V c u0 (by omega)]
  pointwise [k1_pay4]
  rw [part_v V c hs hq hk hb ht u0 p 0 e0, part_v V c hs hq hk hb ht u1 p 1 e1, part_v V c hs hq hk hb ht u2 p 2 e2, part_v V c hs hq hk hb ht u p 3 hu]
  rw [← EReal.coe_add, ← EReal.coe_add, ← EReal.coe_add, sum_blocks (fun g r => AttnRow.gv s (hrow (q r) (qh p g)) (kmat k p)
        (hrow (t r) (qh p g)) (hrow (b r) (qh p g)) j d)]
  unfold DV
  rw [kof_kcol, klof_kcol]

include hs hq hk hb ht in
theorem flushed1_8 (u : Fin cfg1.N) (hf : (cfg1.win 8).flush u = true) :
    (dat1 V c).flushed 8 u = ((cfg1.win 8).blk u).view.read (Elt Ideal) (up (DV s q t b k)) := by
  obtain ⟨p, n, hu⟩ := split1 u
  have h3 : u.val % 4 = 3 := (flush1_8 u).mp hf
  show (cfg1.win 8).cut (grid1.coords u) ((dat1 V c).after 8 u) = _
  rw [after1_8]
  funext y
  obtain ⟨j, d, rfl⟩ : ∃ (j : Fin 2048) (d : Fin 128), y = ix2 j d := ⟨y 0, y 1, eq_ix2 y⟩
  show (outsAt1 V c u.val u.isLt).2.2.1 (ix2 j d) = up (DV s q t b k) (((cfg1.win 8).blk u).view.emb (ix2 j d))
  rw [emb1_8 u p n hu, last_8 V c hs hq hk hb ht u p (by omega) j d]
  rfl

theorem covered1_6 (i : S2048x1024.Idx) : ∃ u : Fin cfg1.N, (cfg1.win 6).flush u = true ∧ i ∈ ((cfg1.win 6).blk u).view.set := by
  have h0 : (i 0 : Nat) < 2048 := (i 0).isLt
  have h1 : (i 1 : Nat) < 1024 := (i 1).isLt
  obtain ⟨u, hu⟩ : ∃ u : Fin cfg1.N, u.val = 4 * ((i 1 : Nat) / 512) + (i 0 : Nat) / 512 := ⟨⟨_, by rw [show cfg1.N = 8 from N_1]; omega⟩, rfl⟩
  refine ⟨u, flush1_6 _, ?_⟩
  obtain ⟨-, -, -, -, -, -, -, -, -, -, -, -, c0, c1, -⟩ := idx1 u
  show i ∈ ((View.whole main_v1_0).slice (win1_6.rect u)).set
  rw [View.set_slice_whole, Rect.mem_set_unit]
  intro a
  match a with
  | ⟨0, _⟩ => show win1_6.index u (0 : Fin 2) * 512 ≤ (i 0 : Nat) ∧ (i 0 : Nat) < win1_6.index u (0 : Fin 2) * 512 + 512; omega
  | ⟨1, _⟩ => show win1_6.index u (1 : Fin 2) * 512 ≤ (i 1 : Nat) ∧ (i 1 : Nat) < win1_6.index u (1 : Fin 2) * 512 + 512; omega

theorem covered1_7 (i : S2048x256.Idx) : ∃ u : Fin cfg1.N, (cfg1.win 7).flush u = true ∧ i ∈ ((cfg1.win 7).blk u).view.set := by
  have h0 : (i 0 : Nat) < 2048 := (i 0).isLt
  have h1 : (i 1 : Nat) < 256 := (i 1).isLt
  obtain ⟨u, hu⟩ : ∃ u : Fin cfg1.N, u.val = 4 * ((i 1 : Nat) / 128) + 3 := ⟨⟨_, by rw [show cfg1.N = 8 from N_1]; omega⟩, rfl⟩
  refine ⟨u, (flush1_7 u).mpr (by omega), ?_⟩
  obtain ⟨-, -, -, -, -, -, -, -, -, -, -, -, -, -, c0, c1, -⟩ := idx1 u
  show i ∈ ((View.whole main_v1_1).slice (win1_7.rect u)).set
  rw [View.set_slice_whole, Rect.mem_set_unit]
  intro a
  match a with
  | ⟨0, _⟩ => show win1_7.index u (0 : Fin 2) * 2048 ≤ (i 0 : Nat) ∧ (i 0 : Nat) < win1_7.index u (0 : Fin 2) * 2048 + 2048; omega
  | ⟨1, _⟩ => show win1_7.index u (1 : Fin 2) * 128 ≤ (i 1 : Nat) ∧ (i 1 : Nat) < win1_7.index u (1 : Fin 2) * 128 + 128; omega

theorem covered1_8 (i : S2048x256.Idx) : ∃ u : Fin cfg1.N, (cfg1.win 8).flush u = true ∧ i ∈ ((cfg1.win 8).blk u).view.set := by
  have h0 : (i 0 : Nat) < 2048 := (i 0).isLt
  have h1 : (i 1 : Nat) < 256 := (i 1).isLt
  obtain ⟨u, hu⟩ : ∃ u : Fin cfg1.N, u.val = 4 * ((i 1 : Nat) / 128) + 3 := ⟨⟨_, by rw [show cfg1.N = 8 from N_1]; omega⟩, rfl⟩
  refine ⟨u, (flush1_8 u).mpr (by omega), ?_⟩
  obtain ⟨-, -, -, -, -, -, -, -, -, -, -, -, -, -, -, -, c0, c1, -⟩ := idx1 u
  show i ∈ ((View.whole main_v1_2).slice (win1_8.rect u)).set
  rw [View.set_slice_whole, Rect.mem_set_unit]
  intro a
  match a with
  | ⟨0, _⟩ => show win1_8.index u (0 : Fin 2) * 2048 ≤ (i 0 : Nat) ∧ (i 0 : Nat) < win1_8.index u (0 : Fin 2) * 2048 + 2048; omega
  | ⟨1, _⟩ => show win1_8.index u (1 : Fin 2) * 128 ≤ (i 1 : Nat) ∧ (i 1 : Nat) < win1_8.index u (1 : Fin 2) * 128 + 128; omega

theorem covered1_9 (i : S2048x12800.Idx) (hi : 5632 ≤ (i 1 : Nat) ∧ (i 1 : Nat) < 6656) : ∃ u : Fin cfg1.N, (cfg1.win 9).flush u = true ∧ i ∈ ((cfg1.win 9).blk u).view.set := by
  have h0 : (i 0 : Nat) < 2048 := (i 0).isLt
  have h1 : (i 1 : Nat) < 12800 := (i 1).isLt
  obtain ⟨u, hu⟩ : ∃ u : Fin cfg1.N, u.val = 4 * (((i 1 : Nat) - 5632) / 512) + (i 0 : Nat) / 512 := ⟨⟨_, by rw [show cfg1.N = 8 from N_1]; omega⟩, rfl⟩
  refine ⟨u, flush1_9 _, ?_⟩
  obtain ⟨-, -, -, -, -, -, -, -, -, -, -, -, -, -, -, -, -, -, c0, c1⟩ := idx1 u
  show i ∈ ((View.whole main_v1_3).slice (win1_9.rect u)).set
  rw [View.set_slice_whole, Rect.mem_set_unit]
  intro a
  match a with
  | ⟨0, _⟩ => show win1_9.index u (0 : Fin 2) * 512 ≤ (i 0 : Nat) ∧ (i 0 : Nat) < win1_9.index u (0 : Fin 2) * 512 + 512; omega
  | ⟨1, _⟩ => show win1_9.index u (1 : Fin 2) * 512 ≤ (i 1 : Nat) ∧ (i 1 : Nat) < win1_9.index u (1 : Fin 2) * 512 + 512; omega

include hs hq hk hv hb ht ho in
theorem final1_6 : (dat1 V c).arrAt 6 cfg1.N = up (DQ s q t b k v) :=
  (dat1 V c).arrAt_eq_of_cover 6 (up (DQ s q t b k v)) (fun u _ => flushed1_6 V c hs hq hk hv hb ht ho u) covered1_6

include hs hq hk hv hb ht ho in
theorem final1_7 : (dat1 V c).arrAt 7 cfg1.N = up (DK s q t b k v) :=
  (dat1 V c).arrAt_eq_of_cover 7 (up (DK s q t b k v)) (flushed1_7 V c hs hq hk hv hb ht ho) covered1_7

include hs hq hk hb ht in
theorem final1_8 : (dat1 V c).arrAt 8 cfg1.N = up (DV s q t b k) :=
  (dat1 V c).arrAt_eq_of_cover 8 (up (DV s q t b k)) (flushed1_8 V c hs hq hk hb ht) covered1_8

include hb ht ho in
theorem final1_9 : (dat1 V c).arrAt 9 cfg1.N = gated (DB s q t b k v) (V c main_v1_3) := by
  funext i
  rw [(dat1 V c).arrAt_eq_piecewise 9 (gated (DB s q t b k v) (V c main_v1_3)) (fun u _ => flushed1_9 V c hb ht ho u) i]
  by_cases hi : 5632 ≤ (i 1 : Fin 12800).val ∧ (i 1 : Fin 12800).val < 6656
  · rw [if_pos (covered1_9 i hi)]
  · rw [if_neg, A_eq1]
    · show V c main_v1_3 i = _; unfold gated; rw [dif_neg hi]
    · rintro ⟨u, -, hm⟩
      apply hi
      have hu : u.val < 8 := lt_of_lt_of_eq u.isLt (show cfg1.N = 8 from N_1)
      obtain ⟨-, -, -, -, -, -, -, -, -, -, -, -, -, -, -, -, -, -, c0, c1⟩ := idx1 u
      have hm : i ∈ ((View.whole main_v1_3).slice (win1_9.rect u)).set := hm
      rw [View.set_slice_whole, Rect.mem_set_unit] at hm
      have h : win1_9.index u (1 : Fin 2) * 512 ≤ (i 1 : Fin 12800).val ∧ (i 1 : Fin 12800).val < win1_9.index u (1 : Fin 2) * 512 + 512 := hm (1 : Fin 2)
      omega

end Cert.AttnIdeal.Run

end
-- ==== Proof.AttnRef.lean ====
/- The reference's attention and gradients over the real numbers: each stage of the host program, read at an index. -/
module

public import proofs.«01_k».proof.Proof.AttnRun
public import proofs.«01_k».proof.Proof.Gen.AttnRefIdeal.Read
public import Idealize.ShloMosaic.Lib.Pointwise

@[expose] public section

set_option maxRecDepth 16384

noncomputable section

open Idealize.ShloMosaic Idealize.ShloMosaic.TcCoe Idealize.SL.Sem

namespace Cert.AttnRefIdeal.Stages

open Cert.AttnRefIdeal Cert.AttnRefIdeal.Gen Cert.AttnRefIdeal.Read Cert.AttnWhole Cert.RealLift
open Cert.AttnRow (sigm silu dsilu dot e tot w gw gs)

variable {s : ℝ} (hs : Ideal.ofBits .f32 0x3DB504F3#32 = (s : EReal))
variable {x0 : S2048x1024.Idx → EReal} {x1 : S2048x1024.Idx → EReal} {x2 x3 : S2048x256.Idx → EReal} {x4 x5 : S2048x12800.Idx → EReal}
variable {q t b : Fin 2048 → Fin 1024 → ℝ} {k v : Fin 2048 → Fin 256 → ℝ}
variable (hq : ∀ r m, x1 (ix2 r m) = (q r m : EReal)) (hk : ∀ r m, x2 (ix2 r m) = (k r m : EReal))
variable (hv : ∀ r m, x3 (ix2 r m) = (v r m : EReal)) (ht : ∀ r m, x0 (ix2 r m) = (t r m : EReal))
variable (hb : ∀ (r : Fin 2048) (m : Fin 1024), x4 (ix2 r (Cert.AttnIdeal.Run.gcol m)) = (b r m : EReal))

theorem hof_eq (m : Fin 1024) : hof m = qh ⟨m.val / 512, by omega⟩ ⟨m.val / 128 % 4, by omega⟩ :=
  Fin.ext (by show m.val / 128 = 4 * (m.val / 512) + m.val / 128 % 4; omega)

/-! ## The arguments, head by head -/

include hq in
theorem s4 (r : Fin 2048) (p : Fin 2) (g : Fin 4) (d : Fin 128) :
    val_main_v4 (F := Ideal) x1 (ix4 r p g d) = (hrow (q r) (qh p g) d : EReal) := by
  pointwise [val_main_v4, val_main_v0]
  refine (congrArg x1 (congrArg (ix2 r) (Fin.ext ?_))).trans (hq r (hcol (qh p g) d))
  show p.val * 512 + g.val * 128 + d.val = 128 * (4 * p.val + g.val) + d.val; omega

include hk in
theorem s5 (j : Fin 2048) (p : Fin 2) (d : Fin 128) : val_main_v5 (F := Ideal) x2 (ix3 j p d) = (kmat k p j d : EReal) := by
  pointwise [val_main_v5, val_main_v1]
  refine (congrArg x2 (congrArg (ix2 j) (Fin.ext ?_))).trans (hk j (kcol p d))
  show p.val * 128 + d.val = 128 * p.val + d.val; omega

theorem v6_v5 (x : S2048x256.Idx → EReal) : val_main_v6 (F := Ideal) x = val_main_v5 (F := Ideal) x := rfl
theorem v26_v5 (x : S2048x256.Idx → EReal) : val_main_v26 (F := Ideal) x = val_main_v5 (F := Ideal) x := rfl
theorem v27_v5 (x : S2048x256.Idx → EReal) : val_main_v27 (F := Ideal) x = val_main_v5 (F := Ideal) x := rfl
theorem v25_v4 (x : S2048x1024.Idx → EReal) : val_main_v25 (F := Ideal) x = val_main_v4 (F := Ideal) x := rfl
theorem v31_v10 : val_main_v31 (F := Ideal) x1 x2 = val_main_v10 (F := Ideal) x1 x2 := rfl
theorem v52_v17 : val_main_v52 (F := Ideal) x1 x2 = val_main_v17 (F := Ideal) x1 x2 := rfl
theorem v56_v21 : val_main_v56 (F := Ideal) x1 x2 = val_main_v21 (F := Ideal) x1 x2 := rfl
theorem v62_v24 : val_main_v62 (F := Ideal) x1 x2 x3 = val_main_v24 (F := Ideal) x1 x2 x3 := by
  have h : val_main_v60 (F := Ideal) x1 x2 x3 = val_main_v22 (F := Ideal) x1 x2 x3 := by
    unfold val_main_v60 val_main_v22
    rw [v56_v21, v27_v5, v6_v5]
  unfold val_main_v62 val_main_v24 val_main_v61 val_main_v23
  rw [h]

/-! ## Forward -/

include hs hq hk in
theorem s10 (p : Fin 2) (g : Fin 4) (r j : Fin 2048) :
    val_main_v10 (F := Ideal) x1 x2 (ix4 p g r j) = ((dot (hrow (q r) (qh p g)) (kmat k p) j * s : ℝ) : EReal) := by
  pointwise [val_main_v10, val_main_v9, val_main_v8, val_main_v7, val_main_cst]
  refine mul_eq_coe ((sum_eq_coe _ fun d => mul_eq_coe (s5 hk j p d) (s4 hq r p g d)).trans (congrArg _ ?_)) hs
  exact Finset.sum_congr rfl fun d _ => mul_comm _ _

theorem bits_neg_inf : Ideal.ofBits .f32 0xFF800000#32 = ⊥ := by simp [Ideal.ofBits, Ideal.ieee]

theorem v11_fold (p : Fin 2) (g : Fin 4) (r : Fin 2048) : val_main_v11 (F := Ideal) x1 x2 (ix3 p g r)
    = Finset.fold max (Ideal.ofBits .f32 0xFF800000#32) (fun j : Fin 2048 => val_main_v10 (F := Ideal) x1 x2 (ix4 p g r j)) Finset.univ := by
  unfold val_main_v11
  generalize val_main_v10 (F := Ideal) x1 x2 = y
  rw [Host.reduce_eq_fold_single _ y _ reducesTo_S2x4x2048x2048_S2x4x2048_d3 (by decide)]
  refine congrArg (fun f => Finset.fold max (Ideal.ofBits .f32 0xFF800000#32) f Finset.univ) (funext fun j => ?_)
  exact congrArg y (funext fun a => Fin.ext (by match a with | ⟨0, _⟩ => rfl | ⟨1, _⟩ => rfl | ⟨2, _⟩ => rfl | ⟨3, _⟩ => rfl))

theorem v13_max (p : Fin 2) (g : Fin 4) (r : Fin 2048) : val_main_v13 (F := Ideal) x1 x2 (ix3 p g r)
    = max (Ideal.ofBits .f32 0xFF800000#32) (val_main_v11 (F := Ideal) x1 x2 (ix3 p g r)) := by
  rw [val_main_v13_apply]
  rfl

include hs hq hk in
theorem s13 (p : Fin 2) (g : Fin 4) (r : Fin 2048) : ∃ M : ℝ, val_main_v13 (F := Ideal) x1 x2 (ix3 p g r) = (M : EReal) := by
  obtain ⟨M, hM⟩ := fold_max_eq_coe (Ideal.ofBits .f32 0xFF800000#32) neg_inf_lt_top (by omega) _ (s10 hs hq hk p g r)
  refine ⟨M, ?_⟩
  rw [v13_max, v11_fold, hM, bits_neg_inf]
  exact max_eq_right bot_le

theorem v17_exp (p : Fin 2) (g : Fin 4) (r j : Fin 2048) : val_main_v17 (F := Ideal) x1 x2 (ix4 p g r j)
    = Ideal.exp (val_main_v10 (F := Ideal) x1 x2 (ix4 p g r j) - val_main_v13 (F := Ideal) x1 x2 (ix3 p g r)) := by
  pointwise [val_main_v17, val_main_v16, val_main_v15, val_main_v14]

include hs hq hk in
/-- The exponentials, up to one factor per row. -/
theorem s17 : ∃ M : Fin 2 → Fin 4 → Fin 2048 → ℝ, ∀ p g r j, val_main_v17 (F := Ideal) x1 x2 (ix4 p g r j)
    = ((e s (hrow (q r) (qh p g)) (kmat k p) j * Real.exp (-(M p g r)) : ℝ) : EReal) := by
  choose M hM using s13 hs hq hk
  refine ⟨M, fun p g r j => ?_⟩
  rw [← AttnRow.exp_shift', v17_exp]
  exact exp_eq_coe (sub_eq_coe (s10 hs hq hk p g r j) (hM p g r))

variable {M : Fin 2 → Fin 4 → Fin 2048 → ℝ}
variable (hM : ∀ p g r j, val_main_v17 (F := Ideal) x1 x2 (ix4 p g r j)
    = ((e s (hrow (q r) (qh p g)) (kmat k p) j * Real.exp (-(M p g r)) : ℝ) : EReal))

include hM in
theorem s18 (p : Fin 2) (g : Fin 4) (r : Fin 2048) : val_main_v18 (F := Ideal) x1 x2 (ix3 p g r)
    = ((tot s (hrow (q r) (qh p g)) (kmat k p) * Real.exp (-(M p g r)) : ℝ) : EReal) := by
  pointwise [val_main_v18, val_main_cst_2]
  rw [sum_eq_coe _ (hM p g r), AttnRow.sum_shift]

theorem norm_ne (c : ℝ) (q : Fin 128 → ℝ) (k : Fin 2048 → Fin 128 → ℝ) (m : ℝ) : tot c q k * Real.exp (-m) ≠ 0 :=
  (mul_pos (AttnRow.tot_pos c q k) (Real.exp_pos _)).ne'

include hM in
theorem s21 (p : Fin 2) (g : Fin 4) (r j : Fin 2048) : val_main_v21 (F := Ideal) x1 x2 (ix4 p g r j)
    = ((w s (hrow (q r) (qh p g)) (kmat k p) j : ℝ) : EReal) := by
  pointwise [val_main_v21, val_main_v20, val_main_v19]
  rw [div_eq_coe (norm_ne _ _ _ _) (hM p g r j) (s18 hM p g r), AttnRow.weight_shift]

include hM hv in
theorem s24 (r : Fin 2048) (m : Fin 1024) : val_main_v24 (F := Ideal) x1 x2 x3 (ix2 r m) = (O s q k v r m : EReal) := by
  pointwise [val_main_v24, val_main_v23, val_main_v22]
  unfold O
  rw [hof_eq, pof_qh]
  rw [v6_v5, sum_eq_coe _ fun j => mul_eq_coe (s5 hv j _ _) (s21 hM _ _ r j)]
  congr 1
  exact Finset.sum_congr rfl fun j _ => mul_comm _ _

/-! ## The gate -/

include hb in
theorem s3 (r : Fin 2048) (m : Fin 1024) : val_main_v3 (F := Ideal) x4 (ix2 r m) = (b r m : EReal) := by
  pointwise [val_main_v3]
  exact hb r m

include hb in
theorem ssig (r : Fin 2048) (m : Fin 1024) : val_main_v63_2 (F := Ideal) x4 (ix2 r m) = (sigm (b r m) : EReal) := by
  have h := s3 hb r m
  pointwise [val_main_v63_2, val_main_call0_v4, val_main_call0_cst_0, val_main_call0_v3, val_main_call0_v2, val_main_call0_cst,
    val_main_call0_v1, val_main_call0_v0]
  rw [h, ← EReal.coe_neg]
  exact div_eq_coe (AttnRow.one_add_exp_ne _) EReal.coe_one.symm (add_eq_coe EReal.coe_one.symm (exp_eq_coe rfl))

include hb in
theorem ssilu (r : Fin 2048) (m : Fin 1024) : val_main_v63_0 (F := Ideal) x4 (ix2 r m) = (silu (b r m) : EReal) :=
  mul_eq_coe (s3 hb r m) (ssig hb r m)

include hM hv hb in
theorem s95 (r : Fin 2048) (m : Fin 1024) : val_main_v95 (F := Ideal) x1 x2 x3 x4 (ix2 r m) = (Y s q b k v r m : EReal) := by
  refine (show _ = _ from (mul_eq_coe (s24 hv hM r m) (ssilu hb r m))).trans ?_
  unfold Y AttnRow.y O
  rw [show hrow (b r) (hof m) (lof m) = b r m from congrArg (b r) (hcol_of m)]

include hM hv hb ht in
theorem s97 (r : Fin 2048) (m : Fin 1024) : val_main_v97 (F := Ideal) x0 x1 x2 x3 x4 (ix2 r m) = (DB s q t b k v r m : EReal) := by
  have ho : val_main_v65 (F := Ideal) x0 x1 x2 x3 (ix2 r m) = ((O s q k v r m * t r m : ℝ) : EReal) := by
    unfold val_main_v65
    rw [v62_v24]
    exact mul_eq_coe (s24 hv hM r m) (ht r m)
  have h1 : val_main_call0_v7 (F := Ideal) x4 (ix2 r m) = ((1 - sigm (b r m) : ℝ) : EReal) := by
    have h := ssig hb r m
    pointwise [val_main_call0_v7, val_main_call0_v6, val_main_call0_cst_1]
    exact sub_eq_coe EReal.coe_one.symm h
  refine (show _ = _ from add_eq_coe (mul_eq_coe ho (ssig hb r m)) (mul_eq_coe (mul_eq_coe (s3 hb r m) ho) (mul_eq_coe (ssig hb r m) h1))).trans ?_
  congr 1
  unfold DB AttnRow.gb dsilu O
  rw [show hrow (b r) (hof m) (lof m) = b r m from congrArg (b r) (hcol_of m),
    show hrow (t r) (hof m) (lof m) = t r m from congrArg (t r) (hcol_of m)]
  ring

/-! ## Backward -/

include hb ht in
theorem s69 (p : Fin 2) (d : Fin 128) (g : Fin 4) (r : Fin 2048) : val_main_v69 (F := Ideal) x0 x4 (ix4 p d g r)
    = (AttnRow.go (hrow (t r) (qh p g)) (hrow (b r) (qh p g)) d : EReal) := by
  have h : val_main_v66 (F := Ideal) x0 x4 (ix2 r (hcol (qh p g) d)) = ((AttnRow.go (hrow (t r) (qh p g)) (hrow (b r) (qh p g)) d : ℝ) : EReal) :=
    mul_eq_coe (ht r _) (ssilu hb r _)
  pointwise [val_main_v69, val_main_v68]
  refine (congrArg (val_main_v66 (F := Ideal) x0 x4) (congrArg (ix2 r) (Fin.ext ?_))).trans h
  show p.val * 512 + g.val * 128 + d.val = 128 * (4 * p.val + g.val) + d.val; omega

include hb ht hv in
theorem s70 (p : Fin 2) (g : Fin 4) (r j : Fin 2048) : val_main_v70 (F := Ideal) x0 x3 x4 (ix4 p g r j)
    = (gw (kmat v p) (hrow (t r) (qh p g)) (hrow (b r) (qh p g)) j : EReal) := by
  pointwise [val_main_v70]
  exact sum_eq_coe _ fun d => mul_eq_coe (s69 ht hb p d g r) (s5 hv j p d)

include hb ht hM in
theorem s92 (j : Fin 2048) (m : Fin 256) : val_main_v92 (F := Ideal) x0 x1 x2 x4 (ix2 j m) = (DV s q t b k j m : EReal) := by
  pointwise [val_main_v92, val_main_v72, val_main_v71]
  rw [v56_v21]
  refine (sum_eq_coe _ fun g => sum_eq_coe _ fun r => mul_eq_coe (s69 ht hb _ _ g r) (s21 hM _ g r j)).trans ?_
  congr 1
  exact Finset.sum_congr rfl fun g _ => Finset.sum_congr rfl fun r _ => mul_comm _ _

/-- The gradient of a score as the quotient rule writes it. -/
theorem score_grad (c : ℝ) (q : Fin 128 → ℝ) (k v : Fin 2048 → Fin 128 → ℝ) (t b : Fin 128 → ℝ) (m : ℝ) (j : Fin 2048) :
    (gw v t b j / (tot c q k * Real.exp (-m))
      + -∑ i : Fin 2048, gw v t b i * (1 / ((tot c q k * Real.exp (-m)) * (tot c q k * Real.exp (-m)))) * (e c q k i * Real.exp (-m)))
      * (e c q k j * Real.exp (-m)) = gs c q k v t b j := by
  have hl := norm_ne c q k m
  have h : ∀ i, e c q k i * Real.exp (-m) = w c q k i * (tot c q k * Real.exp (-m)) := fun i => by
    rw [← AttnRow.weight_shift c q k m i, div_mul_cancel₀ _ hl]
  simp only [h]
  unfold gs
  rw [AttnRow.mean_gw]
  generalize tot c q k * Real.exp (-m) = l at hl
  have h2 : ∑ i : Fin 2048, gw v t b i * (1 / (l * l)) * (w c q k i * l) = (∑ i : Fin 2048, w c q k i * gw v t b i) / l := by
    rw [Finset.sum_div]
    refine Finset.sum_congr rfl fun i _ => ?_
    field_simp
  rw [h2]
  field_simp
  ring

include hb ht hv hM in
theorem s84 (p : Fin 2) (g : Fin 4) (r j : Fin 2048) : val_main_v84 (F := Ideal) x0 x1 x2 x3 x4 (ix4 p g r j)
    = (gs s (hrow (q r) (qh p g)) (kmat k p) (kmat v p) (hrow (t r) (qh p g)) (hrow (b r) (qh p g)) j : EReal) := by
  have h54 : val_main_v53 (F := Ideal) x1 x2 (ix3 p g r) = _ := s18 hM p g r
  have h59 : val_main_v59 (F := Ideal) x1 x2 (ix4 p g r 0) = ((1 / ((tot s (hrow (q r) (qh p g)) (kmat k p) * Real.exp (-(M p g r)))
      * (tot s (hrow (q r) (qh p g)) (kmat k p) * Real.exp (-(M p g r)))) : ℝ) : EReal) := by
    pointwise [val_main_v59, val_main_v58, val_main_cst_13, val_main_v57, val_main_v54]
    exact div_eq_coe (mul_ne_zero (norm_ne _ _ _ _) (norm_ne _ _ _ _)) EReal.coe_one.symm (mul_eq_coe h54 h54)
  have h75 : ∀ i, val_main_v75 (F := Ideal) x0 x1 x2 x3 x4 (ix4 p g r i)
      = ((gw (kmat v p) (hrow (t r) (qh p g)) (hrow (b r) (qh p g)) i * (1 / ((tot s (hrow (q r) (qh p g)) (kmat k p) * Real.exp (-(M p g r)))
        * (tot s (hrow (q r) (qh p g)) (kmat k p) * Real.exp (-(M p g r)))))
        * (e s (hrow (q r) (qh p g)) (kmat k p) i * Real.exp (-(M p g r))) : ℝ) : EReal) := fun i => by
    pointwise [val_main_v75, val_main_v74, val_main_v73]
    rw [v52_v17]
    exact mul_eq_coe (mul_eq_coe (s70 hv ht hb p g r i) h59) (hM p g r i)
  have h82 : val_main_v82 (F := Ideal) x0 x1 x2 x3 x4 (ix4 p g r j)
      = ((-∑ i : Fin 2048, gw (kmat v p) (hrow (t r) (qh p g)) (hrow (b r) (qh p g)) i
        * (1 / ((tot s (hrow (q r) (qh p g)) (kmat k p) * Real.exp (-(M p g r)))
        * (tot s (hrow (q r) (qh p g)) (kmat k p) * Real.exp (-(M p g r)))))
        * (e s (hrow (q r) (qh p g)) (kmat k p) i * Real.exp (-(M p g r))) : ℝ) : EReal) := by
    pointwise [val_main_v82, val_main_v81, val_main_cst_15, val_main_v78, val_main_v77, val_main_v76, val_main_cst_14]
    rw [sum_eq_coe _ h75, ← EReal.coe_neg, Fin.sum_univ_one]
  have h80 : val_main_v80 (F := Ideal) x0 x1 x2 x3 x4 (ix4 p g r j)
      = ((gw (kmat v p) (hrow (t r) (qh p g)) (hrow (b r) (qh p g)) j / (tot s (hrow (q r) (qh p g)) (kmat k p) * Real.exp (-(M p g r))) : ℝ) : EReal) := by
    pointwise [val_main_v80, val_main_v79, val_main_v54]
    exact div_eq_coe (norm_ne _ _ _ _) (s70 hv ht hb p g r j) h54
  rw [← score_grad s (hrow (q r) (qh p g)) (kmat k p) (kmat v p) (hrow (t r) (qh p g)) (hrow (b r) (qh p g)) (M p g r) j]
  exact mul_eq_coe (add_eq_coe h80 h82) (hM p g r j)

include hs hb ht hv hM in
theorem s87 (p : Fin 2) (j r : Fin 2048) (g : Fin 4) : val_main_v87 (F := Ideal) x0 x1 x2 x3 x4 (ix4 p j r g)
    = ((gs s (hrow (q r) (qh p g)) (kmat k p) (kmat v p) (hrow (t r) (qh p g)) (hrow (b r) (qh p g)) j * s : ℝ) : EReal) := by
  pointwise [val_main_v87, val_main_v86, val_main_v85, val_main_cst_16]
  exact mul_eq_coe (s84 hv ht hb hM p g r j) hs

include hs hk hb ht hv hM in
theorem s94 (r : Fin 2048) (m : Fin 1024) : val_main_v94 (F := Ideal) x0 x1 x2 x3 x4 (ix2 r m) = (DQ s q t b k v r m : EReal) := by
  pointwise [val_main_v94, val_main_v89, val_main_v88]
  rw [v26_v5]
  refine (sum_eq_coe _ fun j => mul_eq_coe (s87 hs hv ht hb hM _ j r _) (s5 hk j _ _)).trans ?_
  congr 1
  unfold DQ AttnRow.gq
  rw [hof_eq, pof_qh, Finset.sum_mul]
  refine Finset.sum_congr rfl fun j _ => ?_
  show _ * s * _ = _ * _ * s
  rw [mul_right_comm]; rfl

include hs hq hb ht hv hM in
theorem s93 (j : Fin 2048) (m : Fin 256) : val_main_v93 (F := Ideal) x0 x1 x2 x3 x4 (ix2 j m) = (DK s q t b k v j m : EReal) := by
  pointwise [val_main_v93, val_main_v91, val_main_v90]
  rw [v25_v4]
  refine (sum_eq_coe _ fun r => sum_eq_coe _ fun g => mul_eq_coe (s87 hs hv ht hb hM _ j r g) (s4 hq r _ g _)).trans ?_
  congr 1
  rw [Finset.sum_comm]
  refine Finset.sum_congr rfl fun g _ => Finset.sum_congr rfl fun r _ => ?_
  show _ * s * _ = _ * (_ * s)
  rw [mul_assoc, mul_comm s]; rfl

end Cert.AttnRefIdeal.Stages

end
-- ==== Proof.AttnValue.lean ====
/- The attention kernel's claims: its frames, and its six results against the reference, where the arguments are finite. -/
module

public import proofs.«01_k».proof.Proof.AttnBack
public import proofs.«01_k».proof.Proof.AttnRef
public import proofs.«01_k».proof.Proof.Gen.Attn
public import proofs.«01_k».proof.Proof.Gen.Pre_attn_finite
public import proofs.«01_k».proof.Defs

@[expose] public section

set_option maxRecDepth 16384

noncomputable section

namespace Cert.AttnIdeal.Whole

open Cert.AttnIdeal Cert.AttnIdeal.Gen

section Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Both kernels run, and every buffer outside them ends at the contents of the last boundary. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
        ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Launch

open Idealize.ShloMosaic Idealize.ShloMosaic.TcCoe Idealize.SL.Sem
open Cert.AttnIdeal.Run Cert.AttnWhole Cert.RealLift Cert.AttnRefIdeal.Read Cert.AttnRefIdeal.Stages

/-! ## The arguments over the real numbers -/

theorem finite_of {x : EReal} (h : Ideal.cmp .olt (max x (-x)) (Ideal.ofBits .f32 0x7F800000#32) = 1#1) : ∃ r : ℝ, x = (r : EReal) := by
  rw [pos_inf] at h
  exact exists_coe ((Ideal.cmp_olt_eq_one _ _).mp h)

variable (m : (ℓ : Loc nD τ sig) → Buf (Elt Ideal) ℓ) (ρ : Dev nD → PrngReg)

theorem gate_read (x : S2048x12800.Idx → EReal) (r : Fin 2048) (n : Fin 1024) :
    Cert.AttnRefIdeal.Read.val_main_v3 (F := Ideal) x (ix2 r n) = x (ix2 r (gcol n)) := by
  pointwise [Cert.AttnRefIdeal.Read.val_main_v3]
  rfl

/-! ## The contents at the boundaries -/

theorem V2_arg (c : Dev nD) (a : Ref sig .tc) (ha : a ∈ argRefs) : V2 m ρ c a = m ((c : Thread nD τ).loc a) := W2_args m ρ c a ha

theorem V2_copy (c : Dev nD) : V2 m ρ c main_v1_3 = m ((c : Thread nD τ).loc main_arg5) := by
  refine Eq.trans ?_ (W1_args m ρ c main_arg5 (by decide))
  show StableHlo.after hostOps1 (W1 m ρ c) _ = _
  simp only [hostOps1]
  after_results_simp
  rfl

theorem W3_o (c : Dev nD) : W3 m ρ c (Proc.devRef .tc main_v0_0) = (dat0 (V0 m ρ) c).arrAt 4 cfg0.N :=
  ((W3_of m ρ c main_v0_0 (by decide)).trans (W2_of m ρ c main_v0_0 (by decide))).trans (W1_arr m ρ c 4)

theorem V2_o (c : Dev nD) : V2 m ρ c main_v0_0 = (dat0 (V0 m ρ) c).arrAt 4 cfg0.N :=
  (W2_of m ρ c main_v0_0 (by decide)).trans (W1_arr m ρ c 4)

theorem W3_y (c : Dev nD) : W3 m ρ c (Proc.devRef .tc main_v0_1) = (dat0 (V0 m ρ) c).arrAt 5 cfg0.N :=
  ((W3_of_ne m ρ c main_v0_1 (by decide)).trans (W2_of m ρ c main_v0_1 (by decide))).trans (W1_arr m ρ c 5)

theorem up_ext {R M : ℕ} {x : (⟨2, ![R, M]⟩ : Shape).Idx → EReal} {f : Fin R → Fin M → ℝ} (h : ∀ r n, x (ix2 r n) = (f r n : EReal)) :
    x = up f := funext fun i => (congrArg x (eq_ix2 i)).trans (h (i 0) (i 1))

theorem gated_ref {x0 x1 : S2048x1024.Idx → EReal} {x2 x3 : S2048x256.Idx → EReal} {x4 x5 : S2048x12800.Idx → EReal}
    {f : Fin 2048 → Fin 1024 → ℝ} (h : ∀ r n, val_main_v97 (F := Ideal) x0 x1 x2 x3 x4 (ix2 r n) = (f r n : EReal)) :
    val_main_v99 (F := Ideal) x0 x1 x2 x3 x4 x5 = gated f x5 := by
  funext i
  have key : ∀ (r : Fin 2048) (n : Fin 12800), val_main_v99 (F := Ideal) x0 x1 x2 x3 x4 x5 (ix2 r n)
      = if h : 5632 ≤ n.val ∧ n.val < 6656 then (f r ⟨n.val - 5632, by omega⟩ : EReal) else x5 (ix2 r n) := fun r n => by
    pointwise [val_main_v99, val_main_v96, val_main_v98]
    by_cases h1 : n.val < 5632
    · rw [dif_pos h1, dif_neg (by omega)]
    · rw [dif_neg h1]
      by_cases h2 : n.val - 5632 < 1024
      · rw [dif_pos h2, dif_pos (by omega), h]
      · rw [dif_neg h2, dif_neg (by omega)]
        exact congrArg x5 (congrArg (ix2 r) (Fin.ext (by show 6656 + (n.val - 5632 - 1024) = n.val; omega)))
  rw [eq_ix2 i]
  exact key (i 0) (i 1)

/-- The six results are the reference's, device by device. -/
theorem agree (hpre : Cert.Pre_AttnIdeal_attn_finite m) (c : Dev nD) :
    W3 m ρ c (Proc.devRef .tc main_v0_0) = val_main_v24 (F := Ideal) (m ((c : Thread nD τ).loc main_arg1)) (m ((c : Thread nD τ).loc main_arg2)) (m ((c : Thread nD τ).loc main_arg3))
    ∧ W3 m ρ c (Proc.devRef .tc main_v0_1) = val_main_v95 (F := Ideal) (m ((c : Thread nD τ).loc main_arg1)) (m ((c : Thread nD τ).loc main_arg2)) (m ((c : Thread nD τ).loc main_arg3)) (m ((c : Thread nD τ).loc main_arg4))
    ∧ W3 m ρ c (Proc.devRef .tc main_v1_0) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ W3 m ρ c (Proc.devRef .tc main_v1_1) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ W3 m ρ c (Proc.devRef .tc main_v1_2) = val_main_v92 (F := Ideal) (m ((c : Thread nD τ).loc main_arg0)) (m ((c : Thread nD τ).loc main_arg1)) (m ((c : Thread nD τ).loc main_arg2)) (m ((c : Thread nD τ).loc main_arg4))
    ∧ W3 m ρ c (Proc.devRef .tc main_v1_3) = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨p0, p1, p2, p3, p4⟩ := hpre c
  obtain ⟨s, hs⟩ := scale_coe
  have h0 : ∀ (r : Fin 2048) (n : Fin 1024), ∃ x : ℝ, (m ((c : Thread nD τ).loc main_arg0) : S2048x1024.Idx → EReal) (ix2 r n) = (x : EReal) :=
    fun r n => finite_of (congrFun p0 (ix2 r n))
  have h1 : ∀ (r : Fin 2048) (n : Fin 1024), ∃ x : ℝ, (m ((c : Thread nD τ).loc main_arg1) : S2048x1024.Idx → EReal) (ix2 r n) = (x : EReal) :=
    fun r n => finite_of (congrFun p1 (ix2 r n))
  have h2 : ∀ (r : Fin 2048) (n : Fin 256), ∃ x : ℝ, (m ((c : Thread nD τ).loc main_arg2) : S2048x256.Idx → EReal) (ix2 r n) = (x : EReal) :=
    fun r n => finite_of (congrFun p2 (ix2 r n))
  have h3 : ∀ (r : Fin 2048) (n : Fin 256), ∃ x : ℝ, (m ((c : Thread nD τ).loc main_arg3) : S2048x256.Idx → EReal) (ix2 r n) = (x : EReal) :=
    fun r n => finite_of (congrFun p3 (ix2 r n))
  have h4 : ∀ (r : Fin 2048) (n : Fin 1024), ∃ x : ℝ, (m ((c : Thread nD τ).loc main_arg4) : S2048x12800.Idx → EReal) (ix2 r (gcol n)) = (x : EReal) :=
    fun r n => by
      rw [← gate_read (m ((c : Thread nD τ).loc main_arg4)) r n]
      exact finite_of (congrFun p4 (ix2 r n))
  choose t ht using h0
  choose q hq using h1
  choose k hk using h2
  choose v hv using h3
  choose b hb using h4
  have e4 := final0_4 (V0 m ρ) c hs hq hk hv hb
  have e5 := final0_5 (V0 m ρ) c hs hq hk hv hb
  have ht2 : ∀ r n, (V2 m ρ c main_arg0 : S2048x1024.Idx → EReal) (ix2 r n) = (t r n : EReal) := fun r n => by
    rw [V2_arg m ρ c main_arg0 (by decide)]; exact ht r n
  have hq2 : ∀ r n, (V2 m ρ c main_arg1 : S2048x1024.Idx → EReal) (ix2 r n) = (q r n : EReal) := fun r n => by
    rw [V2_arg m ρ c main_arg1 (by decide)]; exact hq r n
  have hk2 : ∀ r n, (V2 m ρ c main_arg2 : S2048x256.Idx → EReal) (ix2 r n) = (k r n : EReal) := fun r n => by
    rw [V2_arg m ρ c main_arg2 (by decide)]; exact hk r n
  have hv2 : ∀ r n, (V2 m ρ c main_arg3 : S2048x256.Idx → EReal) (ix2 r n) = (v r n : EReal) := fun r n => by
    rw [V2_arg m ρ c main_arg3 (by decide)]; exact hv r n
  have hb2 : ∀ r n, (V2 m ρ c main_arg4 : S2048x12800.Idx → EReal) (ix2 r (gcol n)) = (b r n : EReal) := fun r n => by
    rw [V2_arg m ρ c main_arg4 (by decide)]; exact hb r n
  have ho2 : ∀ r n, (V2 m ρ c main_v0_0 : S2048x1024.Idx → EReal) (ix2 r n) = (O s q k v r n : EReal) := fun r n => by
    rw [V2_o, e4]; rfl
  obtain ⟨M, hM⟩ := s17 hs hq hk
  refine ⟨?_, ?_, ?_, ?_, ?_, ?_⟩
  · rw [W3_o, e4]; exact (up_ext (s24 hv hM)).symm
  · rw [W3_y, e5]; exact (up_ext (s95 hv hb hM)).symm
  · refine (W3_arr m ρ c 6).trans ?_
    rw [final1_6 (V2 m ρ) c hs hq2 hk2 hv2 hb2 ht2 ho2]; exact (up_ext (s94 hs hk hv ht hb hM)).symm
  · refine (W3_arr m ρ c 7).trans ?_
    rw [final1_7 (V2 m ρ) c hs hq2 hk2 hv2 hb2 ht2 ho2]; exact (up_ext (s93 hs hq hv ht hb hM)).symm
  · refine (W3_arr m ρ c 8).trans ?_
    rw [final1_8 (V2 m ρ) c hs hq2 hk2 hb2 ht2]; exact (up_ext (s92 ht hb hM)).symm
  · refine (W3_arr m ρ c 9).trans ?_
    rw [final1_9 (V2 m ρ) c hb2 ht2 ho2, V2_copy]; exact (gated_ref (s97 hv ht hb hM)).symm

end Cert.AttnIdeal.Whole

namespace Cert.Proof

open Idealize.ShloMosaic Idealize.ShloMosaic.TcCoe Idealize.SL.Sem
open Cert.AttnIdeal.Whole Cert.AttnRefIdeal.Read

theorem bodies_Attn : Cert.Attn.defs₀ (F := Bits) = Cert.AttnIdeal.defs₀ (F := Bits) :=
  congrArg (Defs.onTc (Λ := Cert.Attn.Λ₀)) (funext fun l => funext fun a => match l, a with
    | 0, _ => rfl
    | 1, _ => rfl
    | ⟨_ + 2, h⟩, _ => absurd h (by omega))

theorem defs_Attn : Cert.Attn.defs (F := Bits) = Cert.AttnIdeal.defs (F := Bits) :=
  congrArg (Pipeline.defs Cert.Attn.pcfgs) bodies_Attn

/-- One run for both texts of the kernels, which are generic in the float operations. -/
theorem frame_Attn : Cert.quiescent_Attn := fun m ρ _ => by
  rw [defs_Attn]; exact Cert.AttnIdeal.Gen.frame (F := Bits) m ρ

theorem frame_AttnIdeal : Cert.quiescent_AttnIdeal := fun m ρ _ => Cert.AttnIdeal.Gen.frame (F := Ideal) m ρ

theorem frame_AttnIdeal_pre : Cert.quiescent_AttnIdeal_pre_attn_finite := fun m ρ _ => Cert.AttnIdeal.Gen.frame (F := Ideal) m ρ

/-- The reference is a straight-line host program that declares no semaphore. -/
theorem frame_AttnRefIdeal : Cert.quiescent_AttnRefIdeal := fun m ρ _ =>
  (θ_run Cert.AttnRefIdeal.defs _ _).mono (fun r h => ⟨fun c => (h c).2.2.2.2.2.2, sem_eq_zero_of_no_sems (by decide) r.2⟩)
    (Cert.AttnRefIdeal.Value.run (F := Ideal) m ρ)

theorem frame_AttnRefIdeal_pre : Cert.quiescent_AttnRefIdeal_pre_attn_finite := fun m ρ _ =>
  (θ_run Cert.AttnRefIdeal.defs _ _).mono (fun r h => ⟨fun c => (h c).2.2.2.2.2.2, sem_eq_zero_of_no_sems (by decide) r.2⟩)
    (Cert.AttnRefIdeal.Value.run (F := Ideal) m ρ)

theorem algebraic_Attn : Cert.algebraic_AttnIdeal_AttnRefIdeal_pre_attn_finite := fun m g m' g' hpre hagree =>
  ⟨fun c => _, fun c => _, fun c => _, fun c => _, fun c => _, fun c => _,
    (θ_run Cert.AttnIdeal.defs _ _).mono (fun r h c =>
      ⟨(h c _ (Cert.AttnIdeal.Gen.mem_uc Cert.AttnIdeal.main_v0_0 (by decide))).trans (agree m g hpre c).1,
       (h c _ (Cert.AttnIdeal.Gen.mem_uc Cert.AttnIdeal.main_v0_1 (by decide))).trans (agree m g hpre c).2.1,
       (h c _ (Cert.AttnIdeal.Gen.mem_uc Cert.AttnIdeal.main_v1_0 (by decide))).trans (agree m g hpre c).2.2.1,
       (h c _ (Cert.AttnIdeal.Gen.mem_uc Cert.AttnIdeal.main_v1_1 (by decide))).trans (agree m g hpre c).2.2.2.1,
       (h c _ (Cert.AttnIdeal.Gen.mem_uc Cert.AttnIdeal.main_v1_2 (by decide))).trans (agree m g hpre c).2.2.2.2.1,
       (h c _ (Cert.AttnIdeal.Gen.mem_uc Cert.AttnIdeal.main_v1_3 (by decide))).trans (agree m g hpre c).2.2.2.2.2,
       (h c _ (Cert.AttnIdeal.Gen.mem_uc Cert.AttnIdeal.main_arg0 (by decide))).trans (Cert.AttnIdeal.Gen.W3_main_arg0 m g c),
       (h c _ (Cert.AttnIdeal.Gen.mem_uc Cert.AttnIdeal.main_arg1 (by decide))).trans (Cert.AttnIdeal.Gen.W3_main_arg1 m g c),
       (h c _ (Cert.AttnIdeal.Gen.mem_uc Cert.AttnIdeal.main_arg2 (by decide))).trans (Cert.AttnIdeal.Gen.W3_main_arg2 m g c),
       (h c _ (Cert.AttnIdeal.Gen.mem_uc Cert.AttnIdeal.main_arg3 (by decide))).trans (Cert.AttnIdeal.Gen.W3_main_arg3 m g c),
       (h c _ (Cert.AttnIdeal.Gen.mem_uc Cert.AttnIdeal.main_arg4 (by decide))).trans (Cert.AttnIdeal.Gen.W3_main_arg4 m g c),
       (h c _ (Cert.AttnIdeal.Gen.mem_uc Cert.AttnIdeal.main_arg5 (by decide))).trans (Cert.AttnIdeal.Gen.W3_main_arg5 m g c)⟩)
      (Cert.AttnIdeal.Whole.run (F := Ideal) m g),
    (θ_run Cert.AttnRefIdeal.defs _ _).mono (fun r h c => by
      obtain ⟨a0, a1, a2, a3, a4, a5⟩ := hagree c
      obtain ⟨r0, r1, r2, r3, r4, r5, ra⟩ := h c
      refine ⟨?_, ?_, ?_, ?_, ?_, ?_, ra⟩
      · refine (r0.trans (val_main_v24_eq _ _ _)).trans ?_
        rw [a1, a2, a3]
      · refine (r1.trans (val_main_v95_eq _ _ _ _)).trans ?_
        rw [a1, a2, a3, a4]
      · refine (r2.trans (val_main_v94_eq m' c)).trans ?_
        rw [a0, a1, a2, a3, a4]
      · refine (r3.trans (val_main_v93_eq m' c)).trans ?_
        rw [a0, a1, a2, a3, a4]
      · refine (r4.trans (val_main_v92_eq _ _ _ _)).trans ?_
        rw [a0, a1, a2, a4]
      · refine (r5.trans (val_main_v99_eq m' c)).trans ?_
        rw [a0, a1, a2, a3, a4, a5])
      (Cert.AttnRefIdeal.Value.run m' g')⟩

end Cert.Proof

end
-- ==== Proof.DwinValue.lean ====
/- The gradient of the input projection's weight: `dproj` transposed times `h`, in blocks of 1280 rows of the result. -/
module

public import proofs.«01_k».proof.Defs
public import proofs.«01_k».proof.Proof.Gen.Dwin
public import proofs.«01_k».proof.Proof.Gen.DwinIdeal.Value
public import proofs.«01_k».proof.Proof.Gen.DwinRefIdeal.Read
public import Idealize.ShloMosaic.Lib.Pointwise

@[expose] public section

set_option maxRecDepth 16384

noncomputable section

open Idealize.ShloMosaic Idealize.ShloMosaic.TcCoe Idealize.SL.Sem

namespace Cert.DwinIdeal.Sum

open Cert.DwinIdeal Cert.DwinIdeal.Gen Cert.DwinIdeal.Value

/-- Entry `(r, e)` of the gradient: the sum over the rows `k` of `d k r * h k e`. -/
def G (h : S2048x1024.Idx → EReal) (d : S2048x12800.Idx → EReal) : S12800x1024.Idx → EReal :=
  fun i => ∑ k : Fin 2048, d (ix2 k (i 0)) * h (ix2 k (i 1))

theorem hz : (![0, 0] : Fin 2 → Nat) = fun _ => 0 := funext fun a => by match a with | ⟨0, _⟩ => rfl | ⟨1, _⟩ => rfl

variable (m : (ℓ : Loc nD τ sig) → Buf (Elt Ideal) ℓ) (ρ : Dev nD → PrngReg)

theorem idx : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem out_apply (x0 : Vec Ideal S2048x1280 .bf16) (x1 : Vec Ideal S2048x1024 .bf16) (i : S1280x1024.Idx) :
    out0_2 x0 x1 i = ∑ k : Fin 2048, x0 (ix2 k (i 0)) * x1 (ix2 k (i 1)) := by
  unfold out0_2
  rw [View.canon_unit_zero hz, View.ld_unit_zero hz, View.ld_unit_zero hz]
  pointwise [k0_pay1]

theorem flushed_eq (c : Dev nD) (t : Fin cfg0.N) :
    (dats m 0 c).flushed 2 t = ((cfg0.win 2).blk t).view.read (Elt Ideal) (G (V m c main_arg0) (V m c main_arg1)) := by
  obtain ⟨a0, a1, b0, b1, c0, c1⟩ := idx t
  rw [flushed2]
  funext y
  show out0_2 (iblk m c 0 t) (iblk m c 1 t) y = G (V m c main_arg0) (V m c main_arg1) (((cfg0.win 2).blk t).view.emb y)
  rw [out_apply]
  unfold G
  refine Finset.sum_congr rfl fun k _ => ?_
  refine congr (congrArg HMul.hMul (?_ : (V m c main_arg1 : S2048x12800.Idx → EReal) (((cfg0.win 0).blk t).view.emb (ix2 k (y 0))) = _))
    (?_ : (V m c main_arg0 : S2048x1024.Idx → EReal) (((cfg0.win 1).blk t).view.emb (ix2 k (y 1))) = _)
  · congr 1; funext a; apply Fin.ext
    match a with
    | ⟨0, _⟩ => show win0_0.index t (0 : Fin 2) * 2048 + 1 * k.val = k.val; omega
    | ⟨1, _⟩ => show win0_0.index t (1 : Fin 2) * 1280 + 1 * (y 0).val = win0_2.index t (0 : Fin 2) * 1280 + 1 * (y 0).val; omega
  · congr 1; funext a; apply Fin.ext
    match a with
    | ⟨0, _⟩ => show win0_1.index t (0 : Fin 2) * 2048 + 1 * k.val = k.val; omega
    | ⟨1, _⟩ => show win0_1.index t (1 : Fin 2) * 1024 + 1 * (y 1).val = win0_2.index t (1 : Fin 2) * 1024 + 1 * (y 1).val; omega

theorem covered (i : S12800x1024.Idx) :
    ∃ t : Fin cfg0.N, (cfg0.win 2).flush t = true ∧ i ∈ ((cfg0.win 2).blk t).view.set := by
  have h0 : (i 0 : Nat) < 12800 := (i 0).isLt
  have h1 : (i 1 : Nat) < 1024 := (i 1).isLt
  obtain ⟨t, ht⟩ : ∃ t : Fin cfg0.N, t.val = (i 0 : Nat) / 1280 := ⟨⟨_, by rw [show cfg0.N = 10 from N_0]; omega⟩, rfl⟩
  refine ⟨t, flush0_2 _, ?_⟩
  obtain ⟨-, -, -, -, c0, c1⟩ := idx t
  show i ∈ ((View.whole main_v0).slice (win0_2.rect t)).set
  rw [View.set_slice_whole, Rect.mem_set_unit]
  intro a
  match a with
  | ⟨0, _⟩ => show win0_2.index t (0 : Fin 2) * 1280 ≤ (i 0 : Nat) ∧ (i 0 : Nat) < win0_2.index t (0 : Fin 2) * 1280 + 1280; omega
  | ⟨1, _⟩ => show win0_2.index t (1 : Fin 2) * 1024 ≤ (i 1 : Nat) ∧ (i 1 : Nat) < win0_2.index t (1 : Fin 2) * 1024 + 1024; omega

theorem final (c : Dev nD) : (dats m 0 c).arrAt 2 cfg0.N
    = G (m ((c : Thread nD τ).loc main_arg0)) (m ((c : Thread nD τ).loc main_arg1)) :=
  (dats m 0 c).arrAt_eq_of_cover 2 (G (V m c main_arg0) (V m c main_arg1)) (fun t _ => flushed_eq m c t) covered

end Cert.DwinIdeal.Sum

namespace Cert.DwinRefIdeal.Sum

open Cert.DwinRefIdeal Cert.DwinRefIdeal.Gen Cert.DwinRefIdeal.Read

theorem ref_eq (h : S2048x1024.Idx → EReal) (d : S2048x12800.Idx → EReal) :
    val_main_v8 (F := Ideal) h d = Cert.DwinIdeal.Sum.G h d := by
  funext i
  rw [val_main_v8_apply, val_main_v7_apply, val_main_v6_apply, val_main_v5_apply]
  refine Finset.sum_congr rfl fun k _ => ?_
  rw [val_main_v4_apply, val_main_v1_apply]
  show d _ * h _ = _
  congr 2 <;> (congr 1; funext a; match a with | ⟨0, _⟩ => rfl | ⟨1, _⟩ => rfl)

end Cert.DwinRefIdeal.Sum

namespace Cert.Proof

open Cert.DwinIdeal.Sum

theorem bodies_Dwin : Cert.Dwin.defs₀ (F := Bits) = Cert.DwinIdeal.defs₀ (F := Bits) :=
  congrArg (Defs.onTc (Λ := Cert.Dwin.Λ₀)) (funext fun l => funext fun a => match l, a with
    | 0, _ => rfl
    | ⟨_ + 1, h⟩, _ => absurd h (by omega))

theorem defs_Dwin : Cert.Dwin.defs (F := Bits) = Cert.DwinIdeal.defs (F := Bits) :=
  congrArg (Pipeline.defs Cert.Dwin.pcfgs) bodies_Dwin

/-- One run for both texts of the kernel, which is generic in the float operations. -/
theorem frame_Dwin : Cert.quiescent_Dwin := fun m ρ _ => by
  rw [defs_Dwin]; exact Cert.DwinIdeal.Gen.frame (F := Bits) m ρ

theorem frame_DwinIdeal : Cert.quiescent_DwinIdeal := fun m ρ _ => Cert.DwinIdeal.Gen.frame (F := Ideal) m ρ

/-- The reference is a straight-line host program that declares no semaphore. -/
theorem frame_DwinRefIdeal : Cert.quiescent_DwinRefIdeal := fun m ρ _ =>
  (θ_run Cert.DwinRefIdeal.defs _ _).mono (fun r h => ⟨fun c => (h c).2, sem_eq_zero_of_no_sems (by decide) r.2⟩)
    (Cert.DwinRefIdeal.Value.run (F := Ideal) m ρ)

theorem algebraic_Dwin : Cert.algebraic_DwinIdeal_DwinRefIdeal := fun m g m' g' _ hagree =>
  ⟨fun c => G (m ((c.tc : Thread Cert.DwinIdeal.nD Cert.DwinIdeal.τ).loc Cert.DwinIdeal.main_arg0))
      (m ((c.tc : Thread Cert.DwinIdeal.nD Cert.DwinIdeal.τ).loc Cert.DwinIdeal.main_arg1)),
    (θ_run Cert.DwinIdeal.defs _ _).mono (fun r h c => ⟨(h c).1.trans (final m c), (h c).2⟩) (Cert.DwinIdeal.Value.run_blocks m g),
    (θ_run Cert.DwinRefIdeal.defs _ _).mono (fun r h c => ⟨(h c).1.trans (by
        rw [(hagree c).1, (hagree c).2]; exact Cert.DwinRefIdeal.Sum.ref_eq _ _), (h c).2⟩)
      (Cert.DwinRefIdeal.Value.run m' g')⟩

end Cert.Proof

end
-- ==== Proof.DsqValue.lean ====
/- The gradient of a square projection's weight: `a` transposed times `b`, in blocks of 512 rows of the result. -/
module

public import proofs.«01_k».proof.Defs
public import proofs.«01_k».proof.Proof.Gen.Dsq
public import proofs.«01_k».proof.Proof.Gen.DsqIdeal.Value
public import proofs.«01_k».proof.Proof.Gen.DsqRefIdeal.Read
public import Idealize.ShloMosaic.Lib.Pointwise

@[expose] public section

set_option maxRecDepth 16384

noncomputable section

open Idealize.ShloMosaic Idealize.ShloMosaic.TcCoe Idealize.SL.Sem

namespace Cert.DsqIdeal.Sum

open Cert.DsqIdeal Cert.DsqIdeal.Gen Cert.DsqIdeal.Value

/-- Entry `(r, e)` of the gradient: the sum over the rows `k` of `d k r * h k e`. -/
def G (d : S2048x1024.Idx → EReal) (h : S2048x1024.Idx → EReal) : S1024x1024.Idx → EReal :=
  fun i => ∑ k : Fin 2048, d (ix2 k (i 0)) * h (ix2 k (i 1))

theorem hz : (![0, 0] : Fin 2 → Nat) = fun _ => 0 := funext fun a => by match a with | ⟨0, _⟩ => rfl | ⟨1, _⟩ => rfl

variable (m : (ℓ : Loc nD τ sig) → Buf (Elt Ideal) ℓ) (ρ : Dev nD → PrngReg)

theorem idx : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem out_apply (x0 : Vec Ideal S2048x512 .bf16) (x1 : Vec Ideal S2048x1024 .bf16) (i : S512x1024.Idx) :
    out0_2 x0 x1 i = ∑ k : Fin 2048, x0 (ix2 k (i 0)) * x1 (ix2 k (i 1)) := by
  unfold out0_2
  rw [View.canon_unit_zero hz, View.ld_unit_zero hz, View.ld_unit_zero hz]
  pointwise [k0_pay1]

theorem flushed_eq (c : Dev nD) (t : Fin cfg0.N) :
    (dats m 0 c).flushed 2 t = ((cfg0.win 2).blk t).view.read (Elt Ideal) (G (V m c main_arg0) (V m c main_arg1)) := by
  obtain ⟨a0, a1, b0, b1, c0, c1⟩ := idx t
  rw [flushed2]
  funext y
  show out0_2 (iblk m c 0 t) (iblk m c 1 t) y = G (V m c main_arg0) (V m c main_arg1) (((cfg0.win 2).blk t).view.emb y)
  rw [out_apply]
  unfold G
  refine Finset.sum_congr rfl fun k _ => ?_
  refine congr (congrArg HMul.hMul (?_ : (V m c main_arg0 : S2048x1024.Idx → EReal) (((cfg0.win 0).blk t).view.emb (ix2 k (y 0))) = _))
    (?_ : (V m c main_arg1 : S2048x1024.Idx → EReal) (((cfg0.win 1).blk t).view.emb (ix2 k (y 1))) = _)
  · congr 1; funext a; apply Fin.ext
    match a with
    | ⟨0, _⟩ => show win0_0.index t (0 : Fin 2) * 2048 + 1 * k.val = k.val; omega
    | ⟨1, _⟩ => show win0_0.index t (1 : Fin 2) * 512 + 1 * (y 0).val = win0_2.index t (0 : Fin 2) * 512 + 1 * (y 0).val; omega
  · congr 1; funext a; apply Fin.ext
    match a with
    | ⟨0, _⟩ => show win0_1.index t (0 : Fin 2) * 2048 + 1 * k.val = k.val; omega
    | ⟨1, _⟩ => show win0_1.index t (1 : Fin 2) * 1024 + 1 * (y 1).val = win0_2.index t (1 : Fin 2) * 1024 + 1 * (y 1).val; omega

theorem covered (i : S1024x1024.Idx) :
    ∃ t : Fin cfg0.N, (cfg0.win 2).flush t = true ∧ i ∈ ((cfg0.win 2).blk t).view.set := by
  have h0 : (i 0 : Nat) < 1024 := (i 0).isLt
  have h1 : (i 1 : Nat) < 1024 := (i 1).isLt
  obtain ⟨t, ht⟩ : ∃ t : Fin cfg0.N, t.val = (i 0 : Nat) / 512 := ⟨⟨_, by rw [show cfg0.N = 2 from N_0]; omega⟩, rfl⟩
  refine ⟨t, flush0_2 _, ?_⟩
  obtain ⟨-, -, -, -, c0, c1⟩ := idx t
  show i ∈ ((View.whole main_v0).slice (win0_2.rect t)).set
  rw [View.set_slice_whole, Rect.mem_set_unit]
  intro a
  match a with
  | ⟨0, _⟩ => show win0_2.index t (0 : Fin 2) * 512 ≤ (i 0 : Nat) ∧ (i 0 : Nat) < win0_2.index t (0 : Fin 2) * 512 + 512; omega
  | ⟨1, _⟩ => show win0_2.index t (1 : Fin 2) * 1024 ≤ (i 1 : Nat) ∧ (i 1 : Nat) < win0_2.index t (1 : Fin 2) * 1024 + 1024; omega

theorem final (c : Dev nD) : (dats m 0 c).arrAt 2 cfg0.N
    = G (m ((c : Thread nD τ).loc main_arg0)) (m ((c : Thread nD τ).loc main_arg1)) :=
  (dats m 0 c).arrAt_eq_of_cover 2 (G (V m c main_arg0) (V m c main_arg1)) (fun t _ => flushed_eq m c t) covered

end Cert.DsqIdeal.Sum

namespace Cert.DsqRefIdeal.Sum

open Cert.DsqRefIdeal Cert.DsqRefIdeal.Gen Cert.DsqRefIdeal.Read

theorem ref_eq (d h : S2048x1024.Idx → EReal) :
    val_main_v6 (F := Ideal) d h = Cert.DsqIdeal.Sum.G d h := by
  funext i
  rw [val_main_v6_apply, val_main_v5_apply, val_main_v4_apply]
  refine Finset.sum_congr rfl fun k _ => ?_
  rw [val_main_v3_apply, val_main_v1_apply]
  show h _ * d _ = _
  rw [mul_comm]
  congr 2 <;> (congr 1; funext a; match a with | ⟨0, _⟩ => rfl | ⟨1, _⟩ => rfl)

end Cert.DsqRefIdeal.Sum

namespace Cert.Proof

open Cert.DsqIdeal.Sum

theorem bodies_Dsq : Cert.Dsq.defs₀ (F := Bits) = Cert.DsqIdeal.defs₀ (F := Bits) :=
  congrArg (Defs.onTc (Λ := Cert.Dsq.Λ₀)) (funext fun l => funext fun a => match l, a with
    | 0, _ => rfl
    | ⟨_ + 1, h⟩, _ => absurd h (by omega))

theorem defs_Dsq : Cert.Dsq.defs (F := Bits) = Cert.DsqIdeal.defs (F := Bits) :=
  congrArg (Pipeline.defs Cert.Dsq.pcfgs) bodies_Dsq

/-- One run for both texts of the kernel, which is generic in the float operations. -/
theorem frame_Dsq : Cert.quiescent_Dsq := fun m ρ _ => by
  rw [defs_Dsq]; exact Cert.DsqIdeal.Gen.frame (F := Bits) m ρ

theorem frame_DsqIdeal : Cert.quiescent_DsqIdeal := fun m ρ _ => Cert.DsqIdeal.Gen.frame (F := Ideal) m ρ

/-- The reference is a straight-line host program that declares no semaphore. -/
theorem frame_DsqRefIdeal : Cert.quiescent_DsqRefIdeal := fun m ρ _ =>
  (θ_run Cert.DsqRefIdeal.defs _ _).mono (fun r h => ⟨fun c => (h c).2, sem_eq_zero_of_no_sems (by decide) r.2⟩)
    (Cert.DsqRefIdeal.Value.run (F := Ideal) m ρ)

theorem algebraic_Dsq : Cert.algebraic_DsqIdeal_DsqRefIdeal := fun m g m' g' _ hagree =>
  ⟨fun c => G (m ((c.tc : Thread Cert.DsqIdeal.nD Cert.DsqIdeal.τ).loc Cert.DsqIdeal.main_arg0))
      (m ((c.tc : Thread Cert.DsqIdeal.nD Cert.DsqIdeal.τ).loc Cert.DsqIdeal.main_arg1)),
    (θ_run Cert.DsqIdeal.defs _ _).mono (fun r h c => ⟨(h c).1.trans (final m c), (h c).2⟩) (Cert.DsqIdeal.Value.run_blocks m g),
    (θ_run Cert.DsqRefIdeal.defs _ _).mono (fun r h c => ⟨(h c).1.trans (by
        rw [(hagree c).1, (hagree c).2]; exact Cert.DsqRefIdeal.Sum.ref_eq _ _), (h c).2⟩)
      (Cert.DsqRefIdeal.Value.run m' g')⟩

end Cert.Proof

end
-- ==== Proof.ProjRun.lean ====
/- The normed input projection: the kernel's body as memory operations over named values, and what it leaves at a grid point. -/
module

public import proofs.«01_k».proof.Proof.Gen.ProjIdeal.Frame
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option synthInstance.maxSize 4096
set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The values the body computes -/

/-- A block of rows divided by their root mean squares and scaled by the gain, rounded to bf16. -/
noncomputable def hPay (v7 : Vec F S1024x1024 .f32) (v18 : Vec F S1x1024 .f32) : FVec F S1024x1024 .bf16 :=
  have v8 : FVec F S1024x1024 .f32 := mulf v7 v7
  have v9 : FVec F S1024 .f32 := multiReduction .add [1] S1024 v8 0x00000000#32 reduces_S1024x1024_S1024 (.inl rfl) rfl
  have v10 : FVec F S1024x1 .f32 := shapeCast S1024x1 v9 shapeCasts_S1024_S1024x1
  have cst_9 : F .f32 := Scalar.ofBits .f32 0x44800000#32
  have v11 : FVec F S1024x1 .f32 := broadcast S1024x1 cst_9
  have v12 : FVec F S1024x1 .f32 := divf v10 v11
  have cst_10 : F .f32 := Scalar.ofBits .f32 0x358637BD#32
  have v13 : FVec F S1024x1 .f32 := broadcast S1024x1 cst_10
  have v14 : FVec F S1024x1 .f32 := addf v12 v13
  have v15 : FVec F S1024x1 .f32 := rsqrt v14
  have v16 : FVec F S1024x1024 .f32 := broadcastTo S1024x1024 v15 broadcasts_S1024x1_S1024x1024
  have v17 : FVec F S1024x1024 .f32 := mulf v7 v16
  have v19 : FVec F S1024x1024 .f32 := broadcastTo S1024x1024 v18 broadcasts_S1x1024_S1024x1024
  have v20 : FVec F S1024x1024 .f32 := mulf v17 v19
  have v21 : FVec F S1024x1024 .bf16 := truncf .bf16 v20 bitsLt_bf16_f32
  v21

/-- The copy of it kept for the other columns of the same rows. -/
noncomputable def hCopy (v7 : Vec F S1024x1024 .f32) (v18 : Vec F S1x1024 .f32) : FVec F S1024x1024 .bf16 :=
  shapeCast S1024x1024 (hPay v7 v18) shapeCasts_S1024x1024_S1024x1024

theorem hCopy_eq (v7 : Vec F S1024x1024 .f32) (v18 : Vec F S1x1024 .f32) : hCopy v7 v18 = hPay v7 v18 := shapeCast_self _ _

/-- A block of the projection: the rows times a block of the weight, transposed. -/
noncomputable def mmPay (v3 : Vec F S1024x1024 .bf16) (v4 : Vec F S2560x1024 .bf16) : FVec F S1024x2560 .f32 :=
  have cst : FVec F S1024x2560 .f32 := constant S1024x2560 .f32 0x00000000#32
  have v5 : FVec F S1024x2560 .f32 := matmul dot_S1024x1024_S2560x1024_S1024x2560_1_1_0_0_n_n none v3 v4 cst
  v5

/-- The body over these values. -/
noncomputable def body (i : grid0.Coords) (arg2 : Memref sig .tc .vmem S1024x1024 .f32) (harg2 : arg2.IsWhole) (arg3 : Memref sig .tc .vmem S1x1024 .f32) (harg3 : arg3.IsWhole) (arg4 : Memref sig .tc .vmem S2560x1024 .bf16) (harg4 : arg4.IsWhole) (arg5 : Memref sig .tc .vmem S1024x2560 .f32) (harg5 : arg5.IsWhole) (arg6 : Memref sig .tc .vmem S1024x1024 .bf16) (harg6 : arg6.IsWhole) (arg7 : Memref sig .tc .vmem S1024x1024 .bf16) (harg7 : arg7.IsWhole) :
    Prog (TpuEff nD τ sig (Elt F) Λ₀ .tc) PUnit := do
  if k0_h1 : k0_cond1 i = 1#1 then do
    let v7 : Vec F S1024x1024 .f32 ← Prog.lift (.load arg2 (Rect.unit (s := S1024x1024) ![0, 0] S1024x1024.size inb_S1024x1024_S1024x1024_0_0).toLoadRect (View.loadsAt_vmem h_S1024x1024))
    let v18 : Vec F S1x1024 .f32 ← Prog.lift (.load arg3 (Rect.unit (s := S1x1024) ![0, 0] S1x1024.size inb_S1x1024_S1x1024_0_0).toLoadRect (View.loadsAt_vmem h_S1x1024))
    let v22 : Vec F S1024x1024 .bf16 ← Prog.lift (.load arg7 (Rect.unit (s := S1024x1024) ![0, 0] S1024x1024.size inb_S1024x1024_S1024x1024_0_0).toLoadRect (View.loadsAt_vmem h_S1024x1024))
    Prog.lift (.store arg7 (Rect.unit (s := S1024x1024) ![0, 0] S1024x1024.size inb_S1024x1024_S1024x1024_0_0) (hCopy v7 v18) Finset.univ (View.stores_vmem h_S1024x1024 (harg7.storeExact_slice rfl _ packedbf16_S1024x1024_S1024x1024_0_0) (fun _ => rfl)) (.inl rfl))
    let v25 : Vec F S1024x1024 .bf16 ← Prog.lift (.load arg6 (Rect.unit (s := S1024x1024) ![0, 0] S1024x1024.size inb_S1024x1024_S1024x1024_0_0).toLoadRect (View.loadsAt_vmem h_S1024x1024))
    Prog.lift (.store arg6 (Rect.unit (s := S1024x1024) ![0, 0] S1024x1024.size inb_S1024x1024_S1024x1024_0_0) (hPay v7 v18) Finset.univ (View.stores_vmem h_S1024x1024 (harg6.storeExact_slice rfl _ packedbf16_S1024x1024_S1024x1024_0_0) (fun _ => rfl)) (.inl rfl))
    pure ⟨⟩
  else do
    pure ⟨⟩
  let v3 : Vec F S1024x1024 .bf16 ← Prog.lift (.load arg7 (Rect.unit (s := S1024x1024) ![0, 0] S1024x1024.size inb_S1024x1024_S1024x1024_0_0).toLoadRect (View.loadsAt_vmem h_S1024x1024))
  let v4 : Vec F S2560x1024 .bf16 ← Prog.lift (.load arg4 (Rect.unit (s := S2560x1024) ![0, 0] S2560x1024.size inb_S2560x1024_S2560x1024_0_0).toLoadRect (View.loadsAt_vmem h_S2560x1024))
  let v6 : Vec F S1024x2560 .f32 ← Prog.lift (.load arg5 (Rect.unit (s := S1024x2560) ![0, 0] S1024x2560.size inb_S1024x2560_S1024x2560_0_0).toLoadRect (View.loadsAt_vmem h_S1024x2560))
  Prog.lift (.store arg5 (Rect.unit (s := S1024x2560) ![0, 0] S1024x2560.size inb_S1024x2560_S1024x2560_0_0) (mmPay v3 v4) Finset.univ (View.stores_vmem_bits_univ h_S1024x2560 rfl) (.inl rfl))
  pure ⟨⟩

set_option maxRecDepth 65536 in
theorem cc0_proj_eq : cc0_proj (F := F) = body (F := F) := rfl

/-! ## What it leaves -/

/-- The point is the first of its block of rows. -/
abbrev cond (i : grid0.Coords) : Prop := k0_cond1 i = 1#1

theorem hz : (![0, 0] : Fin 2 → Nat) = fun _ => 0 := funext fun a => by match a with | ⟨0, _⟩ => rfl | ⟨1, _⟩ => rfl

set_option maxHeartbeats 1000000 in
/-- At the first point of a block of rows the body normalises the rows, keeps them, and multiplies. -/
theorem runA (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S2560x1024 .bf16) (harg4 : arg4.IsWhole) (arg5 : Memref sig .tc .vmem S1024x2560 .f32) (harg5 : arg5.IsWhole) (arg6 : Memref sig .tc .vmem S1024x1024 .bf16) (harg6 : arg6.IsWhole) (arg7 : Memref sig .tc .vmem S1024x1024 .bf16) (harg7 : arg7.IsWhole) (hc0 : cond i)
    (x0 : Vec F S1024x1024 .f32) (x1 : Vec F S1x1024 .f32) (x2 : Vec F S2560x1024 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (mmPay (hPay x0 x1) x2) ∗ owns (c : Thread nD τ) arg6 fullShare (hPay x0 x1) ∗ owns (c : Thread nD τ) arg7 fullShare (hPay x0 x1)) -∗ K ⟨⟩))
      ⊢ wp frame (wpE (defs₀ (F := F)) Variants.none c none) E (cc0_proj i arg2 harg2 arg3 harg3 arg4 harg4 arg5 harg5 arg6 harg6 arg7 harg7) K := by
  simp only [cc0_proj_eq]; unfold body
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (View.cover_of_tiledL _ S1024x2560.size (by sl_kernel_rfl))]
    rw [View.canon_unit_zero (S := S1024x2560) hz]
    unfold runA.sl.v3 runA.sl.HS0_1
    rw [View.readCov_unit_zero (S := S1024x1024) _ hz, hCopy_eq]
    simp only [View.readAt_eq_ld, harg2.read_unread, harg3.read_unread, harg4.read_unread, View.ld_unit_zero (S := S1024x1024) hz,
      View.ld_unit_zero (S := S1x1024) hz, View.ld_unit_zero (S := S2560x1024) hz]
  isplitl [H4]
  · iexists _; isplitr
    swap; · iexact H4
    ipureintro
    rw [View.read_writes_eq_canon _ _ _ (View.cover_of_tiledL _ S1024x1024.size (by sl_kernel_rfl))]
    rw [View.canon_unit_zero (S := S1024x1024) hz]
    simp only [View.readAt_eq_ld, harg2.read_unread, harg3.read_unread, View.ld_unit_zero (S := S1024x1024) hz, View.ld_unit_zero (S := S1x1024) hz]
  · iexists _; isplitr
    swap; · iexact HS0
    ipureintro
    unfold runA.sl.HS0_1
    rw [View.read_writes_eq_canon _ _ _ (View.cover_of_tiledL _ S1024x1024.size (by sl_kernel_rfl))]
    rw [View.canon_unit_zero (S := S1024x1024) hz, hCopy_eq]
    simp only [View.readAt_eq_ld, harg2.read_unread, harg3.read_unread, View.ld_unit_zero (S := S1024x1024) hz, View.ld_unit_zero (S := S1x1024) hz]

set_option maxHeartbeats 1000000 in
/-- At the other points it multiplies the rows kept, and leaves them as they are. -/
theorem runB (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S2560x1024 .bf16) (harg4 : arg4.IsWhole) (arg5 : Memref sig .tc .vmem S1024x2560 .f32) (harg5 : arg5.IsWhole) (arg6 : Memref sig .tc .vmem S1024x1024 .bf16) (harg6 : arg6.IsWhole) (arg7 : Memref sig .tc .vmem S1024x1024 .bf16) (harg7 : arg7.IsWhole) (hc0 : ¬cond i)
    (x0 : Vec F S1024x1024 .f32) (x1 : Vec F S1x1024 .f32) (x2 : Vec F S2560x1024 .bf16) (d4 s : Vec F S1024x1024 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare d4 ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare (mmPay s x2) ∗ owns (c : Thread nD τ) arg6 fullShare d4 ∗ owns (c : Thread nD τ) arg7 fullShare s) -∗ K ⟨⟩))
      ⊢ wp frame (wpE (defs₀ (F := F)) Variants.none c none) E (cc0_proj i arg2 harg2 arg3 harg3 arg4 harg4 arg5 harg5 arg6 harg6 arg7 harg7) K := by
  simp only [cc0_proj_eq]; unfold body
  unfold owns
  iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
  obtain rfl := harg2.eq_unread hf0; obtain rfl := harg3.eq_unread hf1; obtain rfl := harg4.eq_unread hf2; obtain rfl := harg6.eq_unread hf4; obtain rfl := harg7.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (View.cover_of_tiledL _ S1024x2560.size (by sl_kernel_rfl))]
    rw [View.canon_unit_zero (S := S1024x2560) hz]
    simp only [View.readAt_eq_ld, harg7.read_unread, harg4.read_unread, View.ld_unit_zero (S := S1024x1024) hz, View.ld_unit_zero (S := S2560x1024) hz]
  isplitl [H4]
  · iexists _; isplitr; · ipureintro; exact harg6.read_unread _
    iexact H4
  iexists _; isplitr; · ipureintro; exact harg7.read_unread _
  iexact HS0

end Cert.ProjIdeal.Hand

end
-- ==== Proof.ProjFrame.lean ====
/- The normed input projection: the pipeline's data, the body at every grid point, the run, and the frame. -/
module

public import proofs.«01_k».proof.Proof.ProjRun
public import Idealize.ShloMosaic.Lib.Claim

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The grid -/

/-- The first point of a block of rows: the points divisible by 5. -/
theorem hcond : ∀ t : Fin cfg0.N, cond (grid0.coords t) ↔ t.val % 5 = 0 :=
  (fun t => by
    have ht : t.val < 10 := Nat.lt_of_lt_of_eq t.isLt N_0
    have e0 : (grid0.coords t 0).val = t.val / 5 % 2 := Pipeline.Grid.coords_val t 0 (by decide) rfl
    have e1 : (grid0.coords t 1).val = t.val / 1 % 5 := Pipeline.Grid.coords_val t 1 (by decide) rfl
    simp only [cond, k0_cond1, e0, e1]
    word_cmp
   : ∀ t : Fin grid0.N, cond (grid0.coords t) ↔ t.val % 5 = 0)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cond (grid0.coords t) → cfg0.idle 4 (grid0.coords t) = false := by decide +kernel
theorem idle4 : ∀ t : Fin cfg0.N, ¬cond (grid0.coords t) → cfg0.idle 4 (grid0.coords t) = true := by decide +kernel

/-- The buffer of the normed rows holds nothing at the first point of each block of rows. -/
def freshTab (n : ℕ) : Bool := n % 5 == 0

theorem freshTab_step : ∀ t : Fin cfg0.N,
    freshTab (t.val + 1) = ((cfg0.win 4).flush t || (cfg0.idle 4 (cfg0.grid.coords t) && freshTab t.val)) := by decide +kernel

theorem fresh4 (t : Fin cfg0.N) : cfg0.fresh 4 t.val = freshTab t.val :=
  Pipeline.Cfg.fresh_tab cfg0 4 freshTab rfl freshTab_step t.val (Nat.le_of_lt t.isLt)

/-! ## The staging buffers -/

abbrev ms0 (t : Fin cfg0.N) : Memref sig .tc .vmem S1024x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S2560x1024 .bf16 := win0_2.stage (cfg0.slots t 2)
abbrev ms3 (t : Fin cfg0.N) : Memref sig .tc .vmem S1024x2560 .f32 := win0_3.stage (cfg0.slots t 3)
abbrev ms4 (t : Fin cfg0.N) : Memref sig .tc .vmem S1024x1024 .bf16 := win0_4.stage (cfg0.slots t 4)
abbrev scr : Memref sig .tc .vmem S1024x1024 .bf16 := Memref.whole cc0_scratch0

theorem rest_eq (c : Dev nD) :
    (Pipeline.ΦA spec0 c : sProp (MT nD τ sig Unit (Elt F) ℕ (UR sig nD τ) ℕ))
      = iprop((∃ d, owns (c : Thread nD τ) scr fullShare d) ∗ (∃ r, prngReg c r)) := by
  unfold Pipeline.ΦA; rw [scopedRest0_eq]; simp only [scr, owns_whole]; try rfl

/-! ## The rows kept from point to point -/

/-- The normed rows of the block the point `n` is in. -/
def St (c : Dev nD) : (n : ℕ) → n < cfg0.N → Vec F S1024x1024 .bf16
  | 0, h => hPay (iblk m c 0 ⟨0, h⟩) (iblk m c 1 ⟨0, h⟩)
  | n + 1, h => if (n + 1) % 5 = 0 then hPay (iblk m c 0 ⟨n + 1, h⟩) (iblk m c 1 ⟨n + 1, h⟩) else St c n (Nat.lt_of_succ_lt h)

theorem St_first (c : Dev nD) (t : Fin cfg0.N) (h0 : t.val % 5 = 0) : St m c t.val t.isLt = hPay (iblk m c 0 t) (iblk m c 1 t) := by
  obtain ⟨n, hn⟩ := t
  cases n with
  | zero => rfl
  | succ n => exact if_pos h0

theorem St_next (c : Dev nD) (t : Fin cfg0.N) (h0 : ¬t.val % 5 = 0) :
    St m c t.val t.isLt = St m c (t.val - 1) (Nat.lt_of_le_of_lt (Nat.sub_le _ _) t.isLt) := by
  obtain ⟨n, hn⟩ := t
  cases n with
  | zero => exact absurd (Nat.zero_mod _) h0
  | succ n => exact if_neg h0

/-- Between the points: the kept rows and the generator's register. -/
def Kept (c : Dev nD) : (n : ℕ) → n ≤ cfg0.N → sProp (MT nD τ sig Unit (Elt F) ℕ (UR sig nD τ) ℕ)
  | 0, _ => Pipeline.ΦA spec0 c
  | n + 1, hn => iprop(owns (c : Thread nD τ) scr fullShare (St m c n hn) ∗ (∃ r, prngReg c r))

theorem Kept_zero (c : Dev nD) (n : ℕ) (h : n ≤ cfg0.N) (hz : n = 0) : Kept m c n h = Pipeline.ΦA spec0 c := by
  subst hz; rfl

theorem Kept_succ (c : Dev nD) (n : ℕ) (hn : n < cfg0.N) :
    Kept m c (n + 1) hn = iprop(owns (c : Thread nD τ) scr fullShare (St m c n hn) ∗ (∃ r, prngReg c r)) := rfl

theorem Kept_pos (c : Dev nD) (n : ℕ) (h : n ≤ cfg0.N) (hz : n ≠ 0) :
    Kept m c n h = iprop(owns (c : Thread nD τ) scr fullShare (St m c (n - 1) (by omega)) ∗ (∃ r, prngReg c r)) := by
  cases n with
  | zero => exact absurd rfl hz
  | succ n => rfl

/-! ## The pipeline's data -/

/-- After the point `t` an input's buffer holds its block, the two outputs' the projection's block and the normed rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => mmPay (St m c t.val t.isLt) (iblk m c 2 t)
    | ⟨4, _⟩ => St m c t.val t.isLt
  Φ t := Kept m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Kept m c t.val (Nat.le_of_lt t.isLt) := by
  dsimp only [dats]; exact Pipeline.Dat.Φ_castSucc (Kept m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = mmPay (St m c t.val t.isLt) (iblk m c 2 t) := by dsimp only [dats]
theorem after4 (c : Dev nD) (t : Fin cfg0.N) : (dats m 0 c).after 4 t = St m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- Through the points that leave the normed rows alone they stay what they were. -/
theorem carry4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [after4, after4]
  by_cases h0 : t.val % 5 = 0
  · rw [live4 t ((hcond t).mpr h0)] at hi
    exact absurd hi Bool.false_ne_true
  · exact St_next m c t h0

/-- So at such a point the body finds them as the point leaves them. -/
theorem before4 (c : Dev nD) (t : Fin cfg0.N) (h0 : ¬t.val % 5 = 0) (d) : (dats m 0 c).before 4 t d = St m c t.val t.isLt := by
  rw [Dat.before_out_traj _ 4 rfl (fun _ _ => rfl) (carry4 m c) t.val t rfl d,
    if_neg (by rw [fresh4 t]; unfold freshTab; simp [h0])]
  exact (after4 m c _).trans (St_next m c t h0).symm

/-! ## The body at a point -/

/-- What the body is called with, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it gives back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t
    = owns (c : Thread nD τ) (ms3 t) fullShare (mmPay (St m c t.val t.isLt) (iblk m c 2 t)) := by
  unfold Dat.leavesExact; rw [live3 t, after3]
theorem leaves4_first (c : Dev nD) (t : Fin cfg0.N) (h0 : t.val % 5 = 0) : (dats m 0 c).leavesExact 4 t
    = owns (c : Thread nD τ) (ms4 t) fullShare (St m c t.val t.isLt) := by
  unfold Dat.leavesExact; rw [live4 t ((hcond t).mpr h0), after4]

/-- The normed rows, found and left as they are, whether they are written back at the point or not. -/
theorem leaves4_next (c : Dev nD) (t : Fin cfg0.N) (h0 : ¬t.val % 5 = 0) (d) :
    owns (c : Thread nD τ) (ms4 t) fullShare ((dats m 0 c).before 4 t d) ⊢ (dats m 0 c).leavesExact 4 t := by
  cases hf : (cfg0.win 4).flush t with
  | false =>
    rw [Dat.leavesExact_idle (dats m 0 c) 4 t (idle4 t fun h => h0 ((hcond t).mp h)) hf]
    iintro H; iexists _; iexact H
  | true =>
    rw [before4 m c t h0]
    unfold Dat.leavesExact; rw [idle4 t fun h => h0 ((hcond t).mp h), hf, after4]

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = Kept m c (t.val + 1) t.isLt from rfl, Kept_succ]
  rw [leaves0, leaves1, leaves2, leaves3]
  by_cases h0 : t.val % 5 = 0
  · rw [leaves4_first m c t h0, St_first m c t h0]
    have start : (dats m 0 c).Φ t.castSucc ⊢ iprop((∃ d, owns (c : Thread nD τ) scr fullShare d) ∗ (∃ r, prngReg c r)) := by
      by_cases hz : t.val = 0
      · rw [Phi_castSucc m c t, Kept_zero m c _ _ hz, rest_eq]
      · rw [Phi_castSucc m c t, Kept_pos m c _ _ hz]
        iintro ⟨HS, Hg⟩
        isplitl [HS]; · iexists _; iexact HS
        iexact Hg
    iintro ⟨HΦ, Ho, ⟨%d0, H0⟩, ⟨%d1, H1⟩, ⟨%d2, H2⟩, ⟨%d3, H3⟩, ⟨%d4, H4⟩⟩
    ihave HΦ' := start $$ HΦ
    icases HΦ' with ⟨HS, Hg⟩
    iapply (runA c (grid0.coords t) _ _ _ _ _ _ _ _ _ _ _ _ ((hcond t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have hz : t.val ≠ 0 := fun h => h0 (by rw [h])
    rw [Phi_castSucc m c t, Kept_pos m c _ _ hz, ← St_next m c t h0]
    iintro ⟨⟨HS, Hg⟩, Ho, ⟨%d0, H0⟩, ⟨%d1, H1⟩, ⟨%d2, H2⟩, ⟨%d3, H3⟩, ⟨%d4, H4⟩⟩
    iapply (runB c (grid0.coords t) _ _ _ _ _ _ _ _ _ _ _ _ (fun h => h0 ((hcond t).mp h)) (iblk m c 0 t) (iblk m c 1 t) (iblk m c 2 t)
      ((dats m 0 c).before 4 t d4) (St m c t.val t.isLt) Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leaves4_next m c t h0 d4)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Kept m c 0 (Nat.zero_le _) from rfl, Kept_zero m c 0 _ rfl]

theorem hout (c : Dev nD) : (dats m 0 c).Φ (Fin.last cfg0.N) ⊢ Pipeline.ΦA spec0 c := by
  rw [show (dats m 0 c).Φ (Fin.last cfg0.N) = Kept m c (Fin.last cfg0.N).val (Nat.le_of_lt_succ (Fin.last cfg0.N).isLt) from rfl,
    Kept_pos m c _ _ (by rw [Fin.val_last]; have : cfg0.N = 10 := N_0; omega), rest_eq]
  iintro ⟨HS, Hg⟩
  isplitl [HS]
  · iexists _; iexact HS
  iexact Hg

/-! ## The run -/

set_option backward.isDefEq.respectTransparency.types false in
/-- Every execution ends, with the arrays as the data say and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- The two results by name, the arguments as they were. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ProjIdeal.Hand

end
-- ==== Proof.ProjValue.lean ====
/- The normed input projection: rows divided by their root mean squares and scaled by the gain, then multiplied by the
   weight, in blocks of 1024 rows by 2560 columns. The normed rows are a result too. -/
module

public import proofs.«01_k».proof.Defs
public import proofs.«01_k».proof.Proof.ProjFrame
public import proofs.«01_k».proof.Proof.Gen.Proj
public import proofs.«01_k».proof.Proof.Gen.ProjRefIdeal.Run
public import proofs.«01_k».proof.Proof.Gen.ProjRefIdeal.Read
public import Idealize.ShloMosaic.Lib.Pointwise

@[expose] public section

set_option maxRecDepth 16384

noncomputable section

open Idealize.ShloMosaic Idealize.ShloMosaic.TcCoe Idealize.SL.Sem

namespace Cert.ProjIdeal.Sum

open Cert.ProjIdeal Cert.ProjIdeal.Gen Cert.ProjIdeal.Hand

/-- Entry `n` of the row `x` divided by its root mean square and scaled by the gain. -/
def hRow (x g : Fin 1024 → EReal) (n : Fin 1024) : EReal :=
  x n * Ideal.rsqrt (Ideal.div (∑ k : Fin 1024, x k * x k) (Ideal.ofBits .f32 0x44800000#32) + Ideal.ofBits .f32 0x358637BD#32) * g n

/-- The normed rows. -/
def H (x : S2048x1024.Idx → EReal) (g : S1x1024.Idx → EReal) : S2048x1024.Idx → EReal :=
  fun i => hRow (fun k => x (ix2 (i 0) k)) (fun k => g (ix2 0 k)) (i 1)

/-- The projection: each normed row times each row of the weight. -/
def P (x : S2048x1024.Idx → EReal) (g : S1x1024.Idx → EReal) (w : S12800x1024.Idx → EReal) : S2048x12800.Idx → EReal :=
  fun i => ∑ k : Fin 1024, H x g (ix2 (i 0) k) * w (ix2 (i 1) k)

theorem hPay_apply (x : Vec Ideal S1024x1024 .f32) (g : Vec Ideal S1x1024 .f32) (r k : Fin 1024) :
    hPay (F := Ideal) x g (ix2 r k) = hRow (fun n => x (ix2 r n)) (fun n => g (ix2 0 n)) k := by
  pointwise [hPay]
  rfl

theorem mmPay_apply (h : Vec Ideal S1024x1024 .bf16) (w : Vec Ideal S2560x1024 .bf16) (i : S1024x2560.Idx) :
    mmPay (F := Ideal) h w i = ∑ k : Fin 1024, h (ix2 (i 0) k) * w (ix2 (i 1) k) := by
  pointwise [mmPay]

variable (m : (ℓ : Loc nD τ sig) → Buf (Elt Ideal) ℓ) (ρ : Dev nD → PrngReg)

theorem idx : ∀ t : Fin cfg0.N, win0_0.index t (0 : Fin 2) = t.val / 5 ∧ win0_0.index t (1 : Fin 2) = 0
    ∧ win0_1.index t (0 : Fin 2) = 0 ∧ win0_1.index t (1 : Fin 2) = 0
    ∧ win0_2.index t (0 : Fin 2) = t.val % 5 ∧ win0_2.index t (1 : Fin 2) = 0
    ∧ win0_3.index t (0 : Fin 2) = t.val / 5 ∧ win0_3.index t (1 : Fin 2) = t.val % 5
    ∧ win0_4.index t (0 : Fin 2) = t.val / 5 ∧ win0_4.index t (1 : Fin 2) = 0 :=
  (by decide +kernel : ∀ t : Fin grid0.N, _)

/-- The rows normed at a point, by their places among all rows. -/
theorem first_apply (c : Dev nD) (t : Fin cfg0.N) (r k : Fin 1024) (R : Fin 2048) (hR : R.val = t.val / 5 * 1024 + r.val) :
    hPay (F := Ideal) (iblk m c 0 t) (iblk m c 1 t) (ix2 r k) = H (V m c main_arg0) (V m c main_arg1) (ix2 R k) := by
  obtain ⟨a0, a1, b0, b1, -⟩ := idx t
  rw [hPay_apply]
  have hx : (fun n : Fin 1024 => iblk m c 0 t (ix2 r n)) = fun n => (V m c main_arg0 : S2048x1024.Idx → EReal) (ix2 R n) := by
    funext n
    refine congrArg (V m c main_arg0 : S2048x1024.Idx → EReal) (?_ : ((cfg0.win 0).blk t).view.emb (ix2 r n) = ix2 R n)
    funext a; apply Fin.ext
    match a with
    | ⟨0, _⟩ => show win0_0.index t (0 : Fin 2) * 1024 + 1 * r.val = R.val; omega
    | ⟨1, _⟩ => show win0_0.index t (1 : Fin 2) * 1024 + 1 * n.val = n.val; omega
  have hg : (fun n : Fin 1024 => iblk m c 1 t (ix2 0 n)) = fun n => (V m c main_arg1 : S1x1024.Idx → EReal) (ix2 0 n) := by
    funext n
    refine congrArg (V m c main_arg1 : S1x1024.Idx → EReal) (?_ : ((cfg0.win 1).blk t).view.emb (ix2 0 n) = ix2 0 n)
    funext a; apply Fin.ext
    match a with
    | ⟨0, _⟩ => show win0_1.index t (0 : Fin 2) * 1 + 1 * 0 = 0; omega
    | ⟨1, _⟩ => show win0_1.index t (1 : Fin 2) * 1024 + 1 * n.val = n.val; omega
  rw [hx, hg]
  rfl

/-- The rows kept, at any point of the block of rows. -/
theorem St_apply (c : Dev nD) : ∀ (n : ℕ) (h : n < cfg0.N) (r k : Fin 1024) (R : Fin 2048), R.val = n / 5 * 1024 + r.val →
    St m c n h (ix2 r k) = H (V m c main_arg0) (V m c main_arg1) (ix2 R k) := by
  intro n
  induction n with
  | zero => intro h r k R hR; exact first_apply m c ⟨0, h⟩ r k R hR
  | succ n ih =>
    intro h r k R hR
    by_cases h0 : (n + 1) % 5 = 0
    · rw [St_first m c ⟨n + 1, h⟩ h0]; exact first_apply m c ⟨n + 1, h⟩ r k R hR
    · rw [St_next m c ⟨n + 1, h⟩ h0]; exact ih (Nat.lt_of_succ_lt h) r k R (by omega)

theorem flushed_H (c : Dev nD) (t : Fin cfg0.N) :
    (dats m 0 c).flushed 4 t = ((cfg0.win 4).blk t).view.read (Elt Ideal) (H (V m c main_arg0) (V m c main_arg1)) := by
  obtain ⟨-, -, -, -, -, -, -, -, e0, e1⟩ := idx t
  have ht : t.val < 10 := Nat.lt_of_lt_of_eq t.isLt N_0
  show (cfg0.win 4).cut (grid0.coords t) ((dats m 0 c).after 4 t) = _
  rw [after4]
  funext y
  obtain ⟨r, k, rfl⟩ : ∃ (r k : Fin 1024), y = ix2 r k := ⟨y 0, y 1, eq_ix2 y⟩
  show St m c t.val t.isLt (ix2 r k) = H (V m c main_arg0) (V m c main_arg1) (((cfg0.win 4).blk t).view.emb (ix2 r k))
  rw [St_apply m c t.val t.isLt r k ⟨t.val / 5 * 1024 + r.val, by omega⟩ rfl]
  refine congrArg (H (V m c main_arg0) (V m c main_arg1)) ?_
  funext a; apply Fin.ext
  match a with
  | ⟨0, _⟩ => show t.val / 5 * 1024 + r.val = win0_4.index t (0 : Fin 2) * 1024 + 1 * r.val; omega
  | ⟨1, _⟩ => show k.val = win0_4.index t (1 : Fin 2) * 1024 + 1 * k.val; omega

theorem covered_H (i : S2048x1024.Idx) :
    ∃ t : Fin cfg0.N, (cfg0.win 4).flush t = true ∧ i ∈ ((cfg0.win 4).blk t).view.set := by
  have h0 : (i 0 : Nat) < 2048 := (i 0).isLt
  have h1 : (i 1 : Nat) < 1024 := (i 1).isLt
  obtain ⟨t, ht⟩ : ∃ t : Fin cfg0.N, t.val = (i 0 : Nat) / 1024 * 5 + 4 := ⟨⟨_, by rw [show cfg0.N = 10 from N_0]; omega⟩, rfl⟩
  refine ⟨t, (flush0_4 _).mpr (by omega), ?_⟩
  obtain ⟨-, -, -, -, -, -, -, -, e0, e1⟩ := idx t
  show i ∈ ((View.whole main_v0_1).slice (win0_4.rect t)).set
  rw [View.set_slice_whole, Rect.mem_set_unit]
  intro a
  match a with
  | ⟨0, _⟩ => show win0_4.index t (0 : Fin 2) * 1024 ≤ (i 0 : Nat) ∧ (i 0 : Nat) < win0_4.index t (0 : Fin 2) * 1024 + 1024; omega
  | ⟨1, _⟩ => show win0_4.index t (1 : Fin 2) * 1024 ≤ (i 1 : Nat) ∧ (i 1 : Nat) < win0_4.index t (1 : Fin 2) * 1024 + 1024; omega

theorem final_H (c : Dev nD) : (dats m 0 c).arrAt 4 cfg0.N
    = H (m ((c : Thread nD τ).loc main_arg0)) (m ((c : Thread nD τ).loc main_arg1)) :=
  (dats m 0 c).arrAt_eq_of_cover 4 (H (V m c main_arg0) (V m c main_arg1)) (fun t _ => flushed_H m c t) covered_H

theorem flushed_P (c : Dev nD) (t : Fin cfg0.N) :
    (dats m 0 c).flushed 3 t = ((cfg0.win 3).blk t).view.read (Elt Ideal) (P (V m c main_arg0) (V m c main_arg1) (V m c main_arg2)) := by
  obtain ⟨-, -, -, -, c0, c1, d0, d1, -⟩ := idx t
  have ht : t.val < 10 := Nat.lt_of_lt_of_eq t.isLt N_0
  show (cfg0.win 3).cut (grid0.coords t) ((dats m 0 c).after 3 t) = _
  rw [after3]
  funext y
  obtain ⟨r, n, rfl⟩ : ∃ (r : Fin 1024) (n : Fin 2560), y = ix2 r n := ⟨y 0, y 1, eq_ix2 y⟩
  show mmPay (F := Ideal) (St m c t.val t.isLt) (iblk m c 2 t) (ix2 r n)
    = P (V m c main_arg0) (V m c main_arg1) (V m c main_arg2) (((cfg0.win 3).blk t).view.emb (ix2 r n))
  rw [mmPay_apply]
  unfold P
  refine Finset.sum_congr rfl fun k _ => ?_
  refine congr (congrArg HMul.hMul (St_apply m c t.val t.isLt r k (((cfg0.win 3).blk t).view.emb (ix2 r n) 0) ?_))
    (?_ : (V m c main_arg2 : S12800x1024.Idx → EReal) (((cfg0.win 2).blk t).view.emb (ix2 n k)) = _)
  · show win0_3.index t (0 : Fin 2) * 1024 + 1 * r.val = _; omega
  · congr 1; funext a; apply Fin.ext
    match a with
    | ⟨0, _⟩ => show win0_2.index t (0 : Fin 2) * 2560 + 1 * n.val = win0_3.index t (1 : Fin 2) * 2560 + 1 * n.val; omega
    | ⟨1, _⟩ => show win0_2.index t (1 : Fin 2) * 1024 + 1 * k.val = k.val; omega

theorem covered_P (i : S2048x12800.Idx) :
    ∃ t : Fin cfg0.N, (cfg0.win 3).flush t = true ∧ i ∈ ((cfg0.win 3).blk t).view.set := by
  have h0 : (i 0 : Nat) < 2048 := (i 0).isLt
  have h1 : (i 1 : Nat) < 12800 := (i 1).isLt
  obtain ⟨t, ht⟩ : ∃ t : Fin cfg0.N, t.val = (i 0 : Nat) / 1024 * 5 + (i 1 : Nat) / 2560 :=
    ⟨⟨_, by rw [show cfg0.N = 10 from N_0]; omega⟩, rfl⟩
  refine ⟨t, flush0_3 _, ?_⟩
  obtain ⟨-, -, -, -, -, -, d0, d1, -⟩ := idx t
  show i ∈ ((View.whole main_v0_0).slice (win0_3.rect t)).set
  rw [View.set_slice_whole, Rect.mem_set_unit]
  intro a
  match a with
  | ⟨0, _⟩ => show win0_3.index t (0 : Fin 2) * 1024 ≤ (i 0 : Nat) ∧ (i 0 : Nat) < win0_3.index t (0 : Fin 2) * 1024 + 1024; omega
  | ⟨1, _⟩ => show win0_3.index t (1 : Fin 2) * 2560 ≤ (i 1 : Nat) ∧ (i 1 : Nat) < win0_3.index t (1 : Fin 2) * 2560 + 2560; omega

theorem final_P (c : Dev nD) : (dats m 0 c).arrAt 3 cfg0.N
    = P (m ((c : Thread nD τ).loc main_arg0)) (m ((c : Thread nD τ).loc main_arg1)) (m ((c : Thread nD τ).loc main_arg2)) :=
  (dats m 0 c).arrAt_eq_of_cover 3 (P (V m c main_arg0) (V m c main_arg1) (V m c main_arg2)) (fun t _ => flushed_P m c t) covered_P

end Cert.ProjIdeal.Sum

namespace Cert.ProjRefIdeal.Sum

open Cert.ProjRefIdeal Cert.ProjRefIdeal.Gen Cert.ProjRefIdeal.Read

theorem normed (x : S2048x1024.Idx → EReal) (g : S1x1024.Idx → EReal) (r : Fin 2048) (k : Fin 1024) :
    val_main_v11 (F := Ideal) x g (ix2 r k) = Cert.ProjIdeal.Sum.H x g (ix2 r k) := by
  pointwise [val_main_v11, val_main_v10, val_main_v9, val_main_v8, val_main_v7, val_main_v6, val_main_v5, val_main_v4, val_main_v3,
    val_main_v2, val_main_v1, val_main_v0, val_main_cst, val_main_cst_0, val_main_cst_1]
  rfl

theorem ref_H (x : S2048x1024.Idx → EReal) (g : S1x1024.Idx → EReal) :
    val_main_v15 (F := Ideal) x g = Cert.ProjIdeal.Sum.H x g := by
  funext i
  obtain ⟨r, k, rfl⟩ : ∃ (r : Fin 2048) (k : Fin 1024), i = ix2 r k := ⟨i 0, i 1, eq_ix2 i⟩
  exact normed x g r k

theorem ref_P (x : S2048x1024.Idx → EReal) (g : S1x1024.Idx → EReal) (w : S12800x1024.Idx → EReal) :
    val_main_v14 (F := Ideal) x g w = Cert.ProjIdeal.Sum.P x g w := by
  funext i
  obtain ⟨r, n, rfl⟩ : ∃ (r : Fin 2048) (n : Fin 12800), i = ix2 r n := ⟨i 0, i 1, eq_ix2 i⟩
  pointwise [val_main_v14, val_main_v13, val_main_v12]
  exact Finset.sum_congr rfl fun k _ => congrArg (· * w (ix2 n k)) (normed x g r k)

end Cert.ProjRefIdeal.Sum

namespace Cert.Proof

open Cert.ProjIdeal.Sum

theorem bodies_Proj : Cert.Proj.defs₀ (F := Bits) = Cert.ProjIdeal.defs₀ (F := Bits) :=
  congrArg (Defs.onTc (Λ := Cert.Proj.Λ₀)) (funext fun l => funext fun a => match l, a with
    | 0, _ => rfl
    | ⟨_ + 1, h⟩, _ => absurd h (by omega))

theorem defs_Proj : Cert.Proj.defs (F := Bits) = Cert.ProjIdeal.defs (F := Bits) :=
  congrArg (Pipeline.defs Cert.Proj.pcfgs) bodies_Proj

/-- One run for both texts of the kernel, which is generic in the float operations. -/
theorem frame_Proj : Cert.quiescent_Proj := fun m ρ _ => by
  rw [defs_Proj]; exact Cert.ProjIdeal.Hand.frame (F := Bits) m ρ

theorem frame_ProjIdeal : Cert.quiescent_ProjIdeal := fun m ρ _ => Cert.ProjIdeal.Hand.frame (F := Ideal) m ρ

/-- The reference is a straight-line host program that declares no semaphore. -/
theorem frame_ProjRefIdeal : Cert.quiescent_ProjRefIdeal := fun m ρ _ =>
  (θ_run Cert.ProjRefIdeal.defs _ _).mono (fun r h => ⟨fun c => (h c).2.2, sem_eq_zero_of_no_sems (by decide) r.2⟩)
    (Cert.ProjRefIdeal.Value.run (F := Ideal) m ρ)

theorem algebraic_Proj : Cert.algebraic_ProjIdeal_ProjRefIdeal := fun m g m' g' _ hagree =>
  ⟨fun c => P (m ((c.tc : Thread Cert.ProjIdeal.nD Cert.ProjIdeal.τ).loc Cert.ProjIdeal.main_arg0))
      (m ((c.tc : Thread Cert.ProjIdeal.nD Cert.ProjIdeal.τ).loc Cert.ProjIdeal.main_arg1))
      (m ((c.tc : Thread Cert.ProjIdeal.nD Cert.ProjIdeal.τ).loc Cert.ProjIdeal.main_arg2)),
    fun c => H (m ((c.tc : Thread Cert.ProjIdeal.nD Cert.ProjIdeal.τ).loc Cert.ProjIdeal.main_arg0))
      (m ((c.tc : Thread Cert.ProjIdeal.nD Cert.ProjIdeal.τ).loc Cert.ProjIdeal.main_arg1)),
    (θ_run Cert.ProjIdeal.defs _ _).mono (fun r h c => ⟨(h c).1.trans (final_P m c), (h c).2.1.trans (final_H m c), (h c).2.2⟩)
      (Cert.ProjIdeal.Hand.run_blocks m g),
    (θ_run Cert.ProjRefIdeal.defs _ _).mono (fun r h c => by
        obtain ⟨a0, a1, a2⟩ := hagree c
        obtain ⟨r0, r1, ra⟩ := h c
        refine ⟨?_, ?_, ra⟩
        · refine (r0.trans (Cert.ProjRefIdeal.Read.val_main_v14_eq _ _ _)).trans ?_
          rw [a0, a1, a2]; exact Cert.ProjRefIdeal.Sum.ref_P _ _ _
        · refine (r1.trans (Cert.ProjRefIdeal.Read.val_main_v15_eq _ _)).trans ?_
          rw [a0, a1]; exact Cert.ProjRefIdeal.Sum.ref_H _ _)
      (Cert.ProjRefIdeal.Value.run m' g')⟩

end Cert.Proof

end
-- ==== Proof.DhBlocks.lean ====
/- What the body of the normed projection's gradient leaves in its accumulator and its output buffers. -/
module

public import proofs.«01_k».proof.Proof.Gen.DhIdeal.Value
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.DhIdeal.Blocks

open Cert.DhIdeal Cert.DhIdeal.Gen

variable {F : FTy → Type} [FloatOps F]

theorem hz : (![0, 0] : Fin 2 → Nat) = fun _ => 0 := funext fun a => by match a with | ⟨0, _⟩ => rfl | ⟨1, _⟩ => rfl

variable (x0 : Vec F S1024x2560 .bf16) (x1 : Vec F S2560x1024 .bf16) (x2 x3 : Vec F S1024x1024 .f32) (x4 : Vec F S1x1024 .f32)

set_option maxHeartbeats 2000000 in
theorem sout_A_0 (c : Dev nD) (i : grid0.Coords) (arg2 : Memref sig .tc .vmem S1024x2560 .bf16) (harg2 : arg2.IsWhole) (arg3 : Memref sig .tc .vmem S2560x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (hc0 : cond0_0 i) (hc1 : cond0_1 i) (hc2 : ¬cond0_2 i) :
    sout0_A_0 c i arg2 harg2 arg3 harg3 arg4 harg4 arg5 harg5 arg6 harg6 arg7 harg7 arg8 harg8 arg9 harg9 hc0 hc1 hc2 x0 x1 x2 x3 x4 = k0_pay2 k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_cons_unit_zero (S := S1024x1024) hz, View.readCov_unit_zero (S := S1024x1024) _ hz]
  simp only [View.readAt_eq_ld, harg2.read_unread, harg3.read_unread, harg4.read_unread, harg5.read_unread, harg6.read_unread, harg8.read_unread, harg9.read_unread, View.ld_unit_zero (S := S1024x1024) hz, View.ld_unit_zero (S := S1x1024) hz, View.ld_unit_zero (S := S1024x2560) hz, View.ld_unit_zero (S := S2560x1024) hz]

set_option maxHeartbeats 2000000 in
theorem sout_B_0 (c : Dev nD) (i : grid0.Coords) (arg2 : Memref sig .tc .vmem S1024x2560 .bf16) (harg2 : arg2.IsWhole) (arg3 : Memref sig .tc .vmem S2560x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (hc0 : ¬cond0_0 i) (hc1 : ¬cond0_1 i) (hc2 : ¬cond0_2 i) (xs : Vec F S1024x1024 .f32) :
    sout0_B_0 c i arg2 harg2 arg3 harg3 arg4 harg4 arg5 harg5 arg6 harg6 arg7 harg7 arg8 harg8 arg9 harg9 hc0 hc1 hc2 x0 x1 x2 x3 x4 xs = k0_pay2 xs x0 x1 := by
  unfold sout0_B_0
  rw [View.read_writes_eq_canon _ _ _ (scover0_B_0 c i arg2 harg2 arg3 harg3 arg4 harg4 arg5 harg5 arg6 harg6 arg7 harg7 arg8 harg8 arg9 harg9 hc0 hc1 hc2 x0 x1 x2 x3 x4 xs)]
  unfold kernelRun0_B
  dsimp only
  sl_unfold_words
  rw [View.canon_unit_zero (S := S1024x1024) hz]
  simp only [View.readAt_eq_ld, harg2.read_unread, harg3.read_unread, harg4.read_unread, harg5.read_unread, harg6.read_unread, harg8.read_unread, harg9.read_unread, View.ld_unit_zero (S := S1024x1024) hz, View.ld_unit_zero (S := S1x1024) hz, View.ld_unit_zero (S := S1024x2560) hz, View.ld_unit_zero (S := S2560x1024) hz]

set_option maxHeartbeats 2000000 in
theorem sout_C_0 (c : Dev nD) (i : grid0.Coords) (arg2 : Memref sig .tc .vmem S1024x2560 .bf16) (harg2 : arg2.IsWhole) (arg3 : Memref sig .tc .vmem S2560x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (hc0 : ¬cond0_0 i) (hc1 : ¬cond0_1 i) (hc2 : cond0_2 i) (xo : Vec F S1x1024 .f32) (xs : Vec F S1024x1024 .f32) :
    sout0_C_0 c i arg2 harg2 arg3 harg3 arg4 harg4 arg5 harg5 arg6 harg6 arg7 harg7 arg8 harg8 arg9 harg9 hc0 hc1 hc2 x0 x1 x2 x3 x4 xo xs = k0_pay2 xs x0 x1 := by
  unfold sout0_C_0
  rw [View.read_writes_eq_canon _ _ _ (scover0_C_0 c i arg2 harg2 arg3 harg3 arg4 harg4 arg5 harg5 arg6 harg6 arg7 harg7 arg8 harg8 arg9 harg9 hc0 hc1 hc2 x0 x1 x2 x3 x4 xo xs)]
  unfold kernelRun0_C
  dsimp only
  sl_unfold_words
  rw [View.canon_unit_zero (S := S1024x1024) hz]
  simp only [View.readAt_eq_ld, harg2.read_unread, harg3.read_unread, harg4.read_unread, harg5.read_unread, harg6.read_unread, harg8.read_unread, harg9.read_unread, View.ld_unit_zero (S := S1024x1024) hz, View.ld_unit_zero (S := S1x1024) hz, View.ld_unit_zero (S := S1024x2560) hz, View.ld_unit_zero (S := S2560x1024) hz]

set_option maxHeartbeats 2000000 in
theorem sout_D_0 (c : Dev nD) (i : grid0.Coords) (arg2 : Memref sig .tc .vmem S1024x2560 .bf16) (harg2 : arg2.IsWhole) (arg3 : Memref sig .tc .vmem S2560x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (hc0 : cond0_0 i) (hc1 : ¬cond0_1 i) (hc2 : ¬cond0_2 i) :
    sout0_D_0 c i arg2 harg2 arg3 harg3 arg4 harg4 arg5 harg5 arg6 harg6 arg7 harg7 arg8 harg8 arg9 harg9 hc0 hc1 hc2 x0 x1 x2 x3 x4 = k0_pay2 k0_pay1 x0 x1 := by
  unfold sout0_D_0
  rw [View.read_writes_eq_canon _ _ _ (scover0_D_0 c i arg2 harg2 arg3 harg3 arg4 harg4 arg5 harg5 arg6 harg6 arg7 harg7 arg8 harg8 arg9 harg9 hc0 hc1 hc2 x0 x1 x2 x3 x4)]
  unfold kernelRun0_D
  dsimp only
  sl_unfold_words
  rw [View.canon_cons_unit_zero (S := S1024x1024) hz, View.readCov_unit_zero (S := S1024x1024) _ hz]
  simp only [View.readAt_eq_ld, harg2.read_unread, harg3.read_unread, harg4.read_unread, harg5.read_unread, harg6.read_unread, harg8.read_unread, harg9.read_unread, View.ld_unit_zero (S := S1024x1024) hz, View.ld_unit_zero (S := S1x1024) hz, View.ld_unit_zero (S := S1024x2560) hz, View.ld_unit_zero (S := S2560x1024) hz]

set_option maxHeartbeats 2000000 in
theorem out_A_6 (c : Dev nD) (i : grid0.Coords) (arg2 : Memref sig .tc .vmem S1024x2560 .bf16) (harg2 : arg2.IsWhole) (arg3 : Memref sig .tc .vmem S2560x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (hc0 : cond0_0 i) (hc1 : cond0_1 i) (hc2 : ¬cond0_2 i) :
    out0_A_6 c i arg2 harg2 arg3 harg3 arg4 harg4 arg5 harg5 arg6 harg6 arg7 harg7 arg8 harg8 arg9 harg9 hc0 hc1 hc2 x0 x1 x2 x3 x4 = k0_pay3 := by
  unfold out0_A_6
  rw [View.read_writes_eq_canon _ _ _ (cover0_A_6 c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_unit_zero (S := S1x1024) hz]

set_option maxHeartbeats 2000000 in
theorem out_C_6 (c : Dev nD) (i : grid0.Coords) (arg2 : Memref sig .tc .vmem S1024x2560 .bf16) (harg2 : arg2.IsWhole) (arg3 : Memref sig .tc .vmem S2560x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (hc0 : ¬cond0_0 i) (hc1 : ¬cond0_1 i) (hc2 : cond0_2 i) (xo : Vec F S1x1024 .f32) (xs : Vec F S1024x1024 .f32) :
    out0_C_6 c i arg2 harg2 arg3 harg3 arg4 harg4 arg5 harg5 arg6 harg6 arg7 harg7 arg8 harg8 arg9 harg9 hc0 hc1 hc2 x0 x1 x2 x3 x4 xo xs = k0_pay6 x2 (k0_pay2 xs x0 x1) xo := by
  unfold out0_C_6
  rw [View.read_writes_eq_canon _ _ _ (cover0_C_6 c i arg2 harg2 arg3 harg3 arg4 harg4 arg5 harg5 arg6 harg6 arg7 harg7 arg8 harg8 arg9 harg9 hc0 hc1 hc2 x0 x1 x2 x3 x4 xo xs)]
  unfold kernelRun0_C
  dsimp only
  sl_unfold_words
  rw [View.canon_unit_zero (S := S1x1024) hz, View.readCov_unit_zero (S := S1024x1024) _ hz]
  simp only [View.readAt_eq_ld, harg2.read_unread, harg3.read_unread, harg4.read_unread, harg5.read_unread, harg6.read_unread, harg8.read_unread, harg9.read_unread, View.ld_unit_zero (S := S1024x1024) hz, View.ld_unit_zero (S := S1x1024) hz, View.ld_unit_zero (S := S1024x2560) hz, View.ld_unit_zero (S := S2560x1024) hz]

set_option maxHeartbeats 2000000 in
theorem out_C_5 (c : Dev nD) (i : grid0.Coords) (arg2 : Memref sig .tc .vmem S1024x2560 .bf16) (harg2 : arg2.IsWhole) (arg3 : Memref sig .tc .vmem S2560x1024 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (hc0 : ¬cond0_0 i) (hc1 : ¬cond0_1 i) (hc2 : cond0_2 i) (xo : Vec F S1x1024 .f32) (xs : Vec F S1024x1024 .f32) :
    out0_C_5 c i arg2 harg2 arg3 harg3 arg4 harg4 arg5 harg5 arg6 harg6 arg7 harg7 arg8 harg8 arg9 harg9 hc0 hc1 hc2 x0 x1 x2 x3 x4 xo xs = k0_pay7 x2 (k0_pay2 xs x0 x1) x4 x3 := by
  unfold out0_C_5
  rw [View.read_writes_eq_canon _ _ _ (cover0_C_5 c i arg2 harg2 arg3 harg3 arg4 harg4 arg5 harg5 arg6 harg6 arg7 harg7 arg8 harg8 arg9 harg9 hc0 hc1 hc2 x0 x1 x2 x3 x4 xo xs)]
  unfold kernelRun0_C
  dsimp only
  sl_unfold_words
  rw [View.canon_unit_zero (S := S1024x1024) hz, View.readCov_unit_zero (S := S1024x1024) _ hz]
  simp only [View.readAt_eq_ld, harg2.read_unread, harg3.read_unread, harg4.read_unread, harg5.read_unread, harg6.read_unread, harg8.read_unread, harg9.read_unread, View.ld_unit_zero (S := S1024x1024) hz, View.ld_unit_zero (S := S1x1024) hz, View.ld_unit_zero (S := S1024x2560) hz, View.ld_unit_zero (S := S2560x1024) hz]

/-! ## Point by point -/

variable (m : (ℓ : Loc nD τ sig) → Buf (Elt F) ℓ) (c : Dev nD)

/-- The accumulator after a point: the point's product on zeros at the first of five columns' blocks, on what the point before left later. -/
theorem acc_first (t : Fin cfg0.N) (h : t.val % 5 = 0) : (outsAt0 m c t.val t.isLt).2.2 = k0_pay2 k0_pay1 (iblk m c 0 t) (iblk m c 1 t) := by
  by_cases h1 : t.val % 10 = 0
  · rw [outsAt0_A m c t h h1 (by omega)]; dsimp only; rw [sout_A_0]
  · rw [outsAt0_D m c t h h1 (by omega)]; dsimp only; rw [sout_D_0]

theorem acc_next (t : Fin cfg0.N) (h : ¬t.val % 5 = 0) (h' : t.val - 1 < cfg0.N) : (outsAt0 m c t.val t.isLt).2.2
    = k0_pay2 (outsAt0 m c (t.val - 1) h').2.2 (iblk m c 0 t) (iblk m c 1 t) := by
  by_cases h2 : t.val % 5 = 4
  · rw [outsAt0_C m c t h (by omega) h2]; dsimp only; rw [sout_C_0]
  · rw [outsAt0_B m c t h (by omega) h2]; dsimp only; rw [sout_B_0]

theorem dx_last (t : Fin cfg0.N) (h : t.val % 5 = 4) : (outsAt0 m c t.val t.isLt).1
    = k0_pay7 (iblk m c 2 t) (outsAt0 m c t.val t.isLt).2.2 (iblk m c 4 t) (iblk m c 3 t) := by
  rw [outsAt0_C m c t (by omega) (by omega) h]; dsimp only; rw [sout_C_0, out_C_5]

/-- The gain's gradient after a point: zeros at the first, more at the last of five, kept between. -/
theorem dg_first (t : Fin cfg0.N) (h : t.val % 10 = 0) : (outsAt0 m c t.val t.isLt).2.1 = k0_pay3 := by
  rw [outsAt0_A m c t (by omega) h (by omega)]; dsimp only; rw [out_A_6]

theorem dg_keep (t : Fin cfg0.N) (h : ¬t.val % 10 = 0) (h2 : ¬t.val % 5 = 4) (h' : t.val - 1 < cfg0.N) :
    (outsAt0 m c t.val t.isLt).2.1 = (outsAt0 m c (t.val - 1) h').2.1 := by
  by_cases h0 : t.val % 5 = 0
  · rw [outsAt0_D m c t h0 h h2]; rfl
  · rw [outsAt0_B m c t h0 h h2]; rfl

theorem dg_last (t : Fin cfg0.N) (h : t.val % 5 = 4) (h' : t.val - 1 < cfg0.N) : (outsAt0 m c t.val t.isLt).2.1
    = k0_pay6 (iblk m c 2 t) (outsAt0 m c t.val t.isLt).2.2 (outsAt0 m c (t.val - 1) h').2.1 := by
  rw [outsAt0_C m c t (by omega) (by omega) h]; dsimp only; rw [sout_C_0, out_C_6]

end Cert.DhIdeal.Blocks

end
-- ==== Proof.NormRow.lean ====
/- One row of a root-mean-square norm with a gain, and of its gradients, over the real numbers. The row `x` has 1024
   columns, `g` is the gain, `u` the cotangent of the normed row, `e` the number added under the root. -/
module

public import proofs.«01_k».proof.Proof.RealLift

@[expose] public section

noncomputable section

namespace Cert.NormRow

open Idealize.ShloMosaic Cert.RealLift

variable (e : ℝ) (x g u : Fin 1024 → ℝ)

/-- The mean square with the number added, and its inverse root. -/
def v : ℝ := (∑ i : Fin 1024, x i * x i) / 1024 + e
def r : ℝ := (Real.sqrt (v e x))⁻¹
/-- The gradient of the row, and the row's part of the gradient of the gain. -/
def gx (n : Fin 1024) : ℝ := r e x * (u n * g n - x n * r e x * ((∑ i : Fin 1024, u i * g i * (x i * r e x)) / 1024))
def gg (n : Fin 1024) : ℝ := u n * (x n * r e x)

theorem v_pos (he : 0 < e) : 0 < v e x := by
  unfold v
  have : 0 ≤ ∑ i : Fin 1024, x i * x i := Finset.sum_nonneg fun i _ => mul_self_nonneg _
  positivity

theorem r_cube (he : 0 < e) : r e x / v e x = r e x * r e x * r e x := by
  have hv := v_pos e x he
  have hs : Real.sqrt (v e x) * Real.sqrt (v e x) = v e x := Real.mul_self_sqrt hv.le
  have hn : Real.sqrt (v e x) ≠ 0 := (Real.sqrt_pos.mpr hv).ne'
  unfold r
  generalize Real.sqrt (v e x) = a at hs hn ⊢
  rw [← hs]
  field_simp

/-- The gradient as the chain rule writes it: through the row, and twice through its square's mean. -/
theorem gx_chain (he : 0 < e) (n : Fin 1024) :
    u n * g n * r e x
      + (x n * (((∑ i : Fin 1024, x i * (u i * g i)) * ((-1 / 2) * (r e x / v e x))) / 1024)
        + (((∑ i : Fin 1024, x i * (u i * g i)) * ((-1 / 2) * (r e x / v e x))) / 1024) * x n) = gx e x g u n := by
  have h : ∑ i : Fin 1024, u i * g i * (x i * r e x) = (∑ i : Fin 1024, x i * (u i * g i)) * r e x := by
    rw [Finset.sum_mul]; exact Finset.sum_congr rfl fun i _ => by ring
  unfold gx
  rw [h, r_cube e x he]
  ring

theorem rsqrt_eq_coe (he : 0 < e) {y : EReal} (h : y = (v e x : EReal)) : Ideal.rsqrt y = (r e x : EReal) := by
  rw [h, Ideal.rsqrt_coe, if_neg (not_lt.mpr (v_pos e x he).le), if_neg (v_pos e x he).ne']; rfl

theorem thousand : Ideal.ofBits .f32 0x44800000#32 = ((1024 : ℝ) : EReal) := by
  simp [Ideal.ofBits, Ideal.ieee, -EReal.coe_mul]; norm_num

theorem neg_half : Ideal.ofBits .f32 0xBF000000#32 = ((-1 / 2 : ℝ) : EReal) := by
  simp [Ideal.ofBits, Ideal.ieee, -EReal.coe_mul, -EReal.coe_neg]; norm_num

theorem eps_coe : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

end Cert.NormRow

end
-- ==== Proof.DhRef.lean ====
/- The reference's gradients through the normed projection over the real numbers: each stage of the host program at an index. -/
module

public import proofs.«01_k».proof.Proof.NormRow
public import proofs.«01_k».proof.Proof.Gen.DhRefIdeal.Read
public import Idealize.ShloMosaic.Lib.Pointwise

@[expose] public section

set_option maxRecDepth 16384

noncomputable section

open Idealize.ShloMosaic Idealize.ShloMosaic.TcCoe Idealize.SL.Sem

namespace Cert.DhRefIdeal.Stages

open Cert.DhRefIdeal Cert.DhRefIdeal.Gen Cert.DhRefIdeal.Read Cert.RealLift

variable {e : ℝ} (he : 0 < e) (hs : Ideal.ofBits .f32 0x358637BD#32 = (e : EReal))
variable {d : S2048x12800.Idx → EReal} {w : S12800x1024.Idx → EReal} {xi dout : S2048x1024.Idx → EReal} {gi : S1x1024.Idx → EReal}
variable {p : Fin 2048 → Fin 12800 → ℝ} {q : Fin 12800 → Fin 1024 → ℝ} {x : Fin 2048 → Fin 1024 → ℝ} {g : Fin 1024 → ℝ}
variable (hp : ∀ r k, d (ix2 r k) = (p r k : EReal)) (hq : ∀ k n, w (ix2 k n) = (q k n : EReal))
variable (hx : ∀ r n, xi (ix2 r n) = (x r n : EReal)) (hg : ∀ n, gi (ix2 0 n) = (g n : EReal))

/-- The cotangent of the normed rows. -/
def U (p : Fin 2048 → Fin 12800 → ℝ) (q : Fin 12800 → Fin 1024 → ℝ) (r : Fin 2048) (n : Fin 1024) : ℝ := ∑ k : Fin 12800, p r k * q k n

include hs hx in
theorem s6 (r : Fin 2048) : val_main_v6 (F := Ideal) xi (ix2 r 0) = (NormRow.v e (x r) : EReal) := by
  pointwise [val_main_v6, val_main_v5, val_main_v4, val_main_v3, val_main_v2, val_main_v1, val_main_v0, val_main_cst_0, val_main_cst_1, val_main_cst]
  exact add_eq_coe (div_eq_coe (by norm_num) (sum_eq_coe _ fun i => mul_eq_coe (hx r i) (hx r i)) NormRow.thousand) hs

include he hs hx in
theorem s7 (r : Fin 2048) : val_main_v7 (F := Ideal) xi (ix2 r 0) = (NormRow.r e (x r) : EReal) := by
  pointwise [val_main_v7]
  exact NormRow.rsqrt_eq_coe e (x r) he (s6 hs hx r)

include he hs hx in
theorem s10 (r : Fin 2048) : val_main_v10 (F := Ideal) xi (ix2 r 0) = ((-1 / 2 * (NormRow.r e (x r) / NormRow.v e (x r)) : ℝ) : EReal) := by
  pointwise [val_main_v10, val_main_v9, val_main_v8, val_main_cst_2]
  exact mul_eq_coe NormRow.neg_half (div_eq_coe (NormRow.v_pos e (x r) he).ne' (s7 he hs hx r) (s6 hs hx r))

include he hs hx in
theorem s12 (r : Fin 2048) (n : Fin 1024) : val_main_v12 (F := Ideal) xi (ix2 r n) = ((x r n * NormRow.r e (x r) : ℝ) : EReal) := by
  pointwise [val_main_v12, val_main_v11]
  exact mul_eq_coe (hx r n) (s7 he hs hx r)

include hp hq in
theorem s19 (r : Fin 2048) (n : Fin 1024) : val_main_v19 (F := Ideal) d w (ix2 r n) = (U p q r n : EReal) := by
  pointwise [val_main_v19, val_main_v18, val_main_v16, val_main_v15]
  exact sum_eq_coe _ fun k => mul_eq_coe (hp r k) (hq k n)

include hp hq hg in
theorem s24 (r : Fin 2048) (n : Fin 1024) : val_main_v24 (F := Ideal) d w gi (ix2 r n) = ((U p q r n * g n : ℝ) : EReal) := by
  pointwise [val_main_v24, val_main_v23]
  exact mul_eq_coe (s19 hp hq r n) (hg n)

include hp hq he hs hx in
/-- The gradient of the gain. -/
theorem s22 (n : Fin 1024) : val_main_v22 (F := Ideal) d w xi (ix2 0 n) = ((∑ r : Fin 2048, NormRow.gg e (x r) (U p q r) n : ℝ) : EReal) := by
  pointwise [val_main_v22, val_main_v21, val_main_v20, val_main_cst_3]
  exact sum_eq_coe _ fun r => (mul_eq_coe (s12 he hs hx r n) (s19 hp hq r n)).trans (congrArg _ (mul_comm _ _))

include hp hq hg he hs hx in
theorem s35 (r : Fin 2048) (n : Fin 1024) : val_main_v35 (F := Ideal) d w xi gi (ix2 r n)
    = (((∑ i : Fin 1024, x r i * (U p q r i * g i)) * (-1 / 2 * (NormRow.r e (x r) / NormRow.v e (x r))) / 1024 : ℝ) : EReal) := by
  pointwise [val_main_v35, val_main_v34, val_main_v33, val_main_v32, val_main_v31, val_main_v27, val_main_v26, val_main_v25, val_main_cst_6, val_main_cst_5, val_main_cst_4]
  rw [Fin.sum_univ_one]
  exact div_eq_coe (by norm_num) (mul_eq_coe (sum_eq_coe _ fun i => mul_eq_coe (hx r i) (s24 hp hq hg r i)) (s10 he hs hx r)) NormRow.thousand

include hp hq hg he hs hx in
/-- The gradient of a row, on top of what arrives along the residual. -/
theorem s39 (r : Fin 2048) (n : Fin 1024) : val_main_v39 (F := Ideal) d w xi dout gi (ix2 r n)
    = dout (ix2 r n) + (NormRow.gx e (x r) g (U p q r) n : EReal) := by
  pointwise [val_main_v39, val_main_v38, val_main_v37, val_main_v36, val_main_v30, val_main_v29, val_main_v28]
  rw [add_assoc, add_assoc]
  refine congrArg (dout (ix2 r n) + ·) ?_
  rw [← NormRow.gx_chain e (x r) g (U p q r) he n]
  exact add_eq_coe (mul_eq_coe (s24 hp hq hg r n) (s7 he hs hx r))
    (add_eq_coe (mul_eq_coe (hx r n) (s35 he hs hp hq hx hg r n)) (mul_eq_coe (s35 he hs hp hq hx hg r n) (hx r n)))

end Cert.DhRefIdeal.Stages

end
-- ==== Proof.DhValue.lean ====
/- The gradients through the normed projection: the kernel's two results over the real numbers, and its claims. -/
module

public import proofs.«01_k».proof.Proof.DhBlocks
public import proofs.«01_k».proof.Proof.DhRef
public import proofs.«01_k».proof.Proof.Gen.Dh
public import proofs.«01_k».proof.Proof.Gen.Pre_dh_finite
public import proofs.«01_k».proof.Defs

@[expose] public section

set_option maxRecDepth 16384

noncomputable section

open Idealize.ShloMosaic Idealize.ShloMosaic.TcCoe Idealize.SL.Sem

namespace Cert.DhIdeal.Whole

open Cert.DhIdeal Cert.DhIdeal.Gen Cert.DhIdeal.Value Cert.DhIdeal.Blocks Cert.RealLift
open Cert.DhRefIdeal.Stages (U)

/-! ## One block over the real numbers -/

section Block

theorem pay2_apply (acc : Vec Ideal S1024x1024 .f32) (x0 : Vec Ideal S1024x2560 .bf16) (x1 : Vec Ideal S2560x1024 .bf16) (r n : Fin 1024) :
    k0_pay2 acc x0 x1 (ix2 r n) = acc (ix2 r n) + ∑ k : Fin 2560, x0 (ix2 r k) * x1 (ix2 k n) := by
  pointwise [k0_pay2]

variable {e : ℝ} (he : 0 < e) (hs : Ideal.ofBits .f32 0x358637BD#32 = (e : EReal))
variable {x2 acc x3 : Vec Ideal S1024x1024 .f32} {x4 dg : Vec Ideal S1x1024 .f32}
variable {x u : Fin 1024 → Fin 1024 → ℝ} {g : Fin 1024 → ℝ}
variable (hx : ∀ r n, x2 (ix2 r n) = (x r n : EReal)) (hu : ∀ r n, acc (ix2 r n) = (u r n : EReal)) (hg : ∀ n, x4 (ix2 0 n) = (g n : EReal))

include he hs hx in
theorem pay4_eq (r : Fin 1024) : k0_pay4 x2 (ix2 r 0) = (NormRow.r e (x r) : EReal) := by
  pointwise [k0_pay4]
  exact NormRow.rsqrt_eq_coe e (x r) he (add_eq_coe (div_eq_coe (by norm_num) (sum_eq_coe _ fun i => mul_eq_coe (hx r i) (hx r i)) NormRow.thousand) hs)

include he hs hx in
theorem pay5_eq (r n : Fin 1024) : k0_pay5 x2 (ix2 r n) = ((x r n * NormRow.r e (x r) : ℝ) : EReal) := by
  pointwise [k0_pay5]
  exact mul_eq_coe (hx r n) (pay4_eq he hs hx r)

include he hs hx hu in
/-- The block's part of the gain's gradient, on top of what is there. -/
theorem pay6_eq (n : Fin 1024) : k0_pay6 x2 acc dg (ix2 0 n) = dg (ix2 0 n) + ((∑ r : Fin 1024, NormRow.gg e (x r) (u r) n : ℝ) : EReal) := by
  pointwise [k0_pay6]
  exact congrArg (dg (ix2 0 n) + ·) (sum_eq_coe _ fun r => mul_eq_coe (hu r n) (pay5_eq he hs hx r n))

include he hs hx hu hg in
/-- The block's rows' gradient, on top of what arrives along the residual. -/
theorem pay7_eq (r n : Fin 1024) : k0_pay7 x2 acc x4 x3 (ix2 r n) = x3 (ix2 r n) + (NormRow.gx e (x r) g (u r) n : EReal) := by
  pointwise [k0_pay7]
  refine congrArg (x3 (ix2 r n) + ·) ?_
  exact mul_eq_coe (pay4_eq he hs hx r) (sub_eq_coe (mul_eq_coe (hu r n) (hg n)) (mul_eq_coe (pay5_eq he hs hx r n)
    (div_eq_coe (by norm_num) (sum_eq_coe _ fun i => mul_eq_coe (mul_eq_coe (hu r i) (hg i)) (pay5_eq he hs hx r i)) NormRow.thousand)))

end Block

/-! ## Rows and columns of the blocks -/

def row (b : Fin 2) (r : Fin 1024) : Fin 2048 := ⟨1024 * b.val + r.val, by omega⟩
def col (s : Fin 5) (j : Fin 2560) : Fin 12800 := ⟨2560 * s.val + j.val, by omega⟩

theorem sum_rows (f : Fin 2048 → ℝ) : ∑ b : Fin 2, ∑ r : Fin 1024, f (row b r) = ∑ r : Fin 2048, f r := by
  rw [← Equiv.sum_comp (finProdFinEquiv : Fin 2 × Fin 1024 ≃ Fin 2048) f, Fintype.sum_prod_type]
  refine Finset.sum_congr rfl fun n _ => Finset.sum_congr rfl fun r _ => congrArg f (Fin.ext ?_)
  show 1024 * n.val + r.val = r.val + 1024 * n.val
  omega

theorem sum_cols (f : Fin 12800 → ℝ) : ∑ s : Fin 5, ∑ j : Fin 2560, f (col s j) = ∑ k : Fin 12800, f k := by
  rw [← Equiv.sum_comp (finProdFinEquiv : Fin 5 × Fin 2560 ≃ Fin 12800) f, Fintype.sum_prod_type]
  refine Finset.sum_congr rfl fun n _ => Finset.sum_congr rfl fun r _ => congrArg f (Fin.ext ?_)
  show 2560 * n.val + r.val = r.val + 2560 * n.val
  omega

/-! ## The run over the real numbers -/

variable (m : (ℓ : Loc nD τ sig) → Buf (Elt Ideal) ℓ) (ρ : Dev nD → PrngReg) (c : Dev nD)

variable {e : ℝ} (he : 0 < e) (hs : Ideal.ofBits .f32 0x358637BD#32 = (e : EReal))
variable {p : Fin 2048 → Fin 12800 → ℝ} {q : Fin 12800 → Fin 1024 → ℝ} {x : Fin 2048 → Fin 1024 → ℝ} {g : Fin 1024 → ℝ}
variable (hp : ∀ r k, (V m c main_arg0 : S2048x12800.Idx → EReal) (ix2 r k) = (p r k : EReal))
variable (hq : ∀ k n, (V m c main_arg1 : S12800x1024.Idx → EReal) (ix2 k n) = (q k n : EReal))
variable (hx : ∀ r n, (V m c main_arg2 : S2048x1024.Idx → EReal) (ix2 r n) = (x r n : EReal))
variable (hg : ∀ n, (V m c main_arg4 : S1x1024.Idx → EReal) (ix2 0 n) = (g n : EReal))

theorem idx : ∀ t : Fin cfg0.N, win0_0.index t (0 : Fin 2) = t.val / 5 ∧ win0_0.index t (1 : Fin 2) = t.val % 5
    ∧ win0_1.index t (0 : Fin 2) = t.val % 5 ∧ win0_1.index t (1 : Fin 2) = 0
    ∧ win0_2.index t (0 : Fin 2) = t.val / 5 ∧ win0_2.index t (1 : Fin 2) = 0
    ∧ win0_3.index t (0 : Fin 2) = t.val / 5 ∧ win0_3.index t (1 : Fin 2) = 0
    ∧ win0_4.index t (0 : Fin 2) = 0 ∧ win0_4.index t (1 : Fin 2) = 0
    ∧ win0_5.index t (0 : Fin 2) = t.val / 5 ∧ win0_5.index t (1 : Fin 2) = 0
    ∧ win0_6.index t (0 : Fin 2) = 0 ∧ win0_6.index t (1 : Fin 2) = 0 :=
  (by decide +kernel : ∀ t : Fin grid0.N, _)

section Reads

variable (t : Fin cfg0.N) (b : Fin 2) (s : Fin 5) (ht : t.val = 5 * b.val + s.val)

include ht

include hp in
theorem in_p (r : Fin 1024) (j : Fin 2560) : iblk m c 0 t (ix2 r j) = (p (row b r) (col s j) : EReal) := by
  obtain ⟨a0, a1, -⟩ := idx t
  refine Eq.trans (congrArg (V m c main_arg0 : S2048x12800.Idx → EReal) (?_ : _ = ix2 _ _)) (hp (row b r) (col s j))
  funext a; apply Fin.ext
  match a with
  | ⟨0, _⟩ => show win0_0.index t (0 : Fin 2) * 1024 + 1 * r.val = 1024 * b.val + r.val; omega
  | ⟨1, _⟩ => show win0_0.index t (1 : Fin 2) * 2560 + 1 * j.val = 2560 * s.val + j.val; omega

include hq in
theorem in_q (j : Fin 2560) (n : Fin 1024) : iblk m c 1 t (ix2 j n) = (q (col s j) n : EReal) := by
  obtain ⟨-, -, a0, a1, -⟩ := idx t
  refine Eq.trans (congrArg (V m c main_arg1 : S12800x1024.Idx → EReal) (?_ : _ = ix2 _ _)) (hq (col s j) n)
  funext a; apply Fin.ext
  match a with
  | ⟨0, _⟩ => show win0_1.index t (0 : Fin 2) * 2560 + 1 * j.val = 2560 * s.val + j.val; omega
  | ⟨1, _⟩ => show win0_1.index t (1 : Fin 2) * 1024 + 1 * n.val = n.val; omega

include hx in
theorem in_x (r n : Fin 1024) : iblk m c 2 t (ix2 r n) = (x (row b r) n : EReal) := by
  obtain ⟨-, -, -, -, a0, a1, -⟩ := idx t
  refine Eq.trans (congrArg (V m c main_arg2 : S2048x1024.Idx → EReal) (?_ : _ = ix2 _ _)) (hx (row b r) n)
  funext a; apply Fin.ext
  match a with
  | ⟨0, _⟩ => show win0_2.index t (0 : Fin 2) * 1024 + 1 * r.val = 1024 * b.val + r.val; omega
  | ⟨1, _⟩ => show win0_2.index t (1 : Fin 2) * 1024 + 1 * n.val = n.val; omega

theorem in_dout (r n : Fin 1024) : iblk m c 3 t (ix2 r n) = (V m c main_arg3 : S2048x1024.Idx → EReal) (ix2 (row b r) n) := by
  obtain ⟨-, -, -, -, -, -, a0, a1, -⟩ := idx t
  refine congrArg (V m c main_arg3 : S2048x1024.Idx → EReal) (?_ : _ = ix2 _ _)
  funext a; apply Fin.ext
  match a with
  | ⟨0, _⟩ => show win0_3.index t (0 : Fin 2) * 1024 + 1 * r.val = 1024 * b.val + r.val; omega
  | ⟨1, _⟩ => show win0_3.index t (1 : Fin 2) * 1024 + 1 * n.val = n.val; omega

include hg in
theorem in_g (n : Fin 1024) : iblk m c 4 t (ix2 0 n) = (g n : EReal) := by
  obtain ⟨-, -, -, -, -, -, -, -, a0, a1, -⟩ := idx t
  refine Eq.trans (congrArg (V m c main_arg4 : S1x1024.Idx → EReal) (?_ : _ = ix2 _ _)) (hg n)
  funext a; apply Fin.ext
  match a with
  | ⟨0, _⟩ => show win0_4.index t (0 : Fin 2) * 1 + 1 * 0 = 0; omega
  | ⟨1, _⟩ => show win0_4.index t (1 : Fin 2) * 1024 + 1 * n.val = n.val; omega

theorem emb5 (r n : Fin 1024) : ((cfg0.win 5).blk t).view.emb (ix2 r n) = ix2 (row b r) n := by
  obtain ⟨-, -, -, -, -, -, -, -, -, -, a0, a1, -⟩ := idx t
  funext a; apply Fin.ext
  match a with
  | ⟨0, _⟩ => show win0_5.index t (0 : Fin 2) * 1024 + 1 * r.val = 1024 * b.val + r.val; omega
  | ⟨1, _⟩ => show win0_5.index t (1 : Fin 2) * 1024 + 1 * n.val = n.val; omega

include hp hq in
/-- The point's product. -/
theorem part (acc : Vec Ideal S1024x1024 .f32) (r n : Fin 1024) : k0_pay2 acc (iblk m c 0 t) (iblk m c 1 t) (ix2 r n)
    = acc (ix2 r n) + ((∑ j : Fin 2560, p (row b r) (col s j) * q (col s j) n : ℝ) : EReal) := by
  rw [pay2_apply]
  exact congrArg (acc (ix2 r n) + ·) (sum_eq_coe _ fun j => mul_eq_coe (in_p m c hp t b s ht r j) (in_q m c hq t b s ht j n))

end Reads

theorem same {a b : ℕ} (ha : a < cfg0.N) (hb : b < cfg0.N) (e : a = b) : outsAt0 m c a ha = outsAt0 m c b hb := by subst e; rfl

include hp hq in
/-- After five points the accumulator holds the whole product of the block's rows. -/
theorem acc_last (t : Fin cfg0.N) (b : Fin 2) (ht : t.val = 5 * b.val + 4) (r n : Fin 1024) :
    (outsAt0 m c t.val t.isLt).2.2 (ix2 r n) = (U p q (row b r) n : EReal) := by
  have hN : cfg0.N = 10 := N_0
  obtain ⟨t3, e3⟩ : ∃ w : Fin cfg0.N, w.val = 5 * b.val + 3 := ⟨⟨_, by omega⟩, rfl⟩
  obtain ⟨t2, e2⟩ : ∃ w : Fin cfg0.N, w.val = 5 * b.val + 2 := ⟨⟨_, by omega⟩, rfl⟩
  obtain ⟨t1, e1⟩ : ∃ w : Fin cfg0.N, w.val = 5 * b.val + 1 := ⟨⟨_, by omega⟩, rfl⟩
  obtain ⟨t0, e0⟩ : ∃ w : Fin cfg0.N, w.val = 5 * b.val + 0 := ⟨⟨_, by omega⟩, rfl⟩
  rw [acc_next m c t (by omega) (by omega), part m c hp hq t b 4 ht, same m c (by omega) t3.isLt (by omega)]
  rw [acc_next m c t3 (by omega) (by omega), part m c hp hq t3 b 3 e3, same m c (by omega) t2.isLt (by omega)]
  rw [acc_next m c t2 (by omega) (by omega), part m c hp hq t2 b 2 e2, same m c (by omega) t1.isLt (by omega)]
  rw [acc_next m c t1 (by omega) (by omega), part m c hp hq t1 b 1 e1, same m c (by omega) t0.isLt (by omega)]
  rw [acc_first m c t0 (by omega), part m c hp hq t0 b 0 e0]
  have z : (k0_pay1 : FVec Ideal S1024x1024 .f32) (ix2 r n) = 0 := by pointwise [k0_pay1]
  rw [z, zero_add, ← EReal.coe_add, ← EReal.coe_add, ← EReal.coe_add, ← EReal.coe_add]
  unfold U
  rw [← sum_cols (fun k => p (row b r) k * q k n), Fin.sum_univ_five]

include hp hq he hs hx in
/-- The gain's gradient after a block's last point. -/
theorem dg_block (t : Fin cfg0.N) (b : Fin 2) (ht : t.val = 5 * b.val + 4) (h' : t.val - 1 < cfg0.N) (n : Fin 1024) :
    (outsAt0 m c t.val t.isLt).2.1 (ix2 0 n)
      = (outsAt0 m c (t.val - 1) h').2.1 (ix2 0 n) + ((∑ r : Fin 1024, NormRow.gg e (x (row b r)) (U p q (row b r)) n : ℝ) : EReal) := by
  rw [dg_last m c t (by omega) h']
  exact pay6_eq he hs (fun r n => in_x m c hx t b 4 ht r n) (fun r n => acc_last m c hp hq t b ht r n) n

/-- Between its stores the gain's gradient is kept. -/
theorem dg_kept (a b : ℕ) (ha : a < cfg0.N) (hb : b < cfg0.N) (hab : a ≤ b) (hk : ∀ k, a < k → k ≤ b → ¬k % 10 = 0 ∧ ¬k % 5 = 4) :
    (outsAt0 m c b hb).2.1 = (outsAt0 m c a ha).2.1 := by
  induction b with
  | zero => rw [same m c ha hb (by omega)]
  | succ b ih =>
    by_cases h : a = b + 1
    · rw [same m c ha hb h]
    · have k := hk (b + 1) (by omega) (le_refl _)
      refine (dg_keep m c ⟨b + 1, hb⟩ k.1 k.2 (by show b + 1 - 1 < _; omega)).trans ?_
      exact ih (by omega) (by omega) fun k h1 h2 => hk k h1 (by omega)

include hp hq he hs hx in
theorem dg_end (h9 : 9 < cfg0.N) (n : Fin 1024) :
    (outsAt0 m c 9 h9).2.1 (ix2 0 n) = ((∑ r : Fin 2048, NormRow.gg e (x r) (U p q r) n : ℝ) : EReal) := by
  have hN : cfg0.N = 10 := N_0
  refine (dg_block m c he hs hp hq hx ⟨9, h9⟩ 1 rfl (by show 9 - 1 < _; omega) n).trans ?_
  rw [show (outsAt0 m c ((⟨9, h9⟩ : Fin cfg0.N).val - 1) (by show 9 - 1 < _; omega)).2.1 = (outsAt0 m c 4 (by omega)).2.1 from
    dg_kept m c 4 8 (by omega) (by omega) (by omega) fun k h1 h2 => by omega]
  have h4 : (outsAt0 m c 4 (by omega)).2.1 (ix2 0 n) = ((∑ r : Fin 1024, NormRow.gg e (x (row 0 r)) (U p q (row 0 r)) n : ℝ) : EReal) := by
    refine (dg_block m c he hs hp hq hx ⟨4, by omega⟩ 0 rfl (by show 4 - 1 < _; omega) n).trans ?_
    rw [show (outsAt0 m c ((⟨4, by omega⟩ : Fin cfg0.N).val - 1) (by show 4 - 1 < _; omega)).2.1 = (outsAt0 m c 0 (by omega)).2.1 from
      dg_kept m c 0 3 (by omega) (by omega) (by omega) fun k h1 h2 => by omega]
    rw [show (outsAt0 m c 0 (by omega)).2.1 = (k0_pay3 : FVec Ideal S1x1024 .f32) from dg_first m c ⟨0, by omega⟩ rfl]
    have z : (k0_pay3 : FVec Ideal S1x1024 .f32) (ix2 0 n) = 0 := by pointwise [k0_pay3]
    rw [z, zero_add]
  rw [h4, ← EReal.coe_add, ← sum_rows (fun r => NormRow.gg e (x r) (U p q r) n), Fin.sum_univ_two]

/-! ## The two arrays -/

def DX (e : ℝ) (x : Fin 2048 → Fin 1024 → ℝ) (g : Fin 1024 → ℝ) (p : Fin 2048 → Fin 12800 → ℝ) (q : Fin 12800 → Fin 1024 → ℝ)
    (dout : S2048x1024.Idx → EReal) : S2048x1024.Idx → EReal :=
  fun i => dout i + (NormRow.gx e (x (i 0)) g (U p q (i 0)) (i 1) : EReal)
def DG (e : ℝ) (x : Fin 2048 → Fin 1024 → ℝ) (p : Fin 2048 → Fin 12800 → ℝ) (q : Fin 12800 → Fin 1024 → ℝ) : S1x1024.Idx → EReal :=
  fun i => ((∑ r : Fin 2048, NormRow.gg e (x r) (U p q r) (i 1) : ℝ) : EReal)

include hp hq he hs hx hg in
theorem flushed5_real (t : Fin cfg0.N) (hf : (cfg0.win 5).flush t = true) :
    (dats m 0 c).flushed 5 t = ((cfg0.win 5).blk t).view.read (Elt Ideal) (DX e x g p q (V m c main_arg3)) := by
  have hN : cfg0.N = 10 := N_0
  have h4 : t.val % 5 = 4 := (flush0_5 t).mp hf
  have hlt := t.isLt
  obtain ⟨b, ht⟩ : ∃ b : Fin 2, t.val = 5 * b.val + 4 := ⟨⟨t.val / 5, by omega⟩, by show t.val = 5 * (t.val / 5) + 4; omega⟩
  rw [flushed5]
  funext y
  obtain ⟨r, n, rfl⟩ : ∃ (r n : Fin 1024), y = ix2 r n := ⟨y 0, y 1, eq_ix2 y⟩
  show (outsAt0 m c t.val t.isLt).1 (ix2 r n) = DX e x g p q (V m c main_arg3) (((cfg0.win 5).blk t).view.emb (ix2 r n))
  rw [emb5 t b 4 ht, dx_last m c t h4,
    pay7_eq he hs (fun r n => in_x m c hx t b 4 ht r n) (fun r n => acc_last m c hp hq t b ht r n) (fun n => in_g m c hg t b 4 ht n) r n,
    in_dout m c t b 4 ht]
  rfl

theorem covered5 (i : S2048x1024.Idx) : ∃ t : Fin cfg0.N, (cfg0.win 5).flush t = true ∧ i ∈ ((cfg0.win 5).blk t).view.set := by
  have h0 : (i 0 : Nat) < 2048 := (i 0).isLt
  have h1 : (i 1 : Nat) < 1024 := (i 1).isLt
  obtain ⟨t, ht⟩ : ∃ t : Fin cfg0.N, t.val = 5 * ((i 0 : Nat) / 1024) + 4 := ⟨⟨_, by rw [show cfg0.N = 10 from N_0]; omega⟩, rfl⟩
  refine ⟨t, (flush0_5 t).mpr (by omega), ?_⟩
  obtain ⟨-, -, -, -, -, -, -, -, -, -, c0, c1, -⟩ := idx t
  show i ∈ ((View.whole main_v0_0).slice (win0_5.rect t)).set
  rw [View.set_slice_whole, Rect.mem_set_unit]
  intro a
  match a with
  | ⟨0, _⟩ => show win0_5.index t (0 : Fin 2) * 1024 ≤ (i 0 : Nat) ∧ (i 0 : Nat) < win0_5.index t (0 : Fin 2) * 1024 + 1024; omega
  | ⟨1, _⟩ => show win0_5.index t (1 : Fin 2) * 1024 ≤ (i 1 : Nat) ∧ (i 1 : Nat) < win0_5.index t (1 : Fin 2) * 1024 + 1024; omega

include hp hq he hs hx hg in
theorem final_x : (dats m 0 c).arrAt 5 cfg0.N = DX e x g p q (V m c main_arg3) :=
  (dats m 0 c).arrAt_eq_of_cover 5 (DX e x g p q (V m c main_arg3)) (flushed5_real m c he hs hp hq hx hg) covered5

include hp hq he hs hx in
theorem flushed6_real (t : Fin cfg0.N) (hf : (cfg0.win 6).flush t = true) :
    (dats m 0 c).flushed 6 t = ((cfg0.win 6).blk t).view.read (Elt Ideal) (DG e x p q) := by
  have hN : cfg0.N = 10 := N_0
  have h9 : t.val % 10 = 9 := (flush0_6 t).mp hf
  have hlt := t.isLt
  obtain ⟨-, -, -, -, -, -, -, -, -, -, -, -, a0, a1⟩ := idx t
  rw [flushed6]
  funext y
  obtain ⟨r, n, rfl⟩ : ∃ (r : Fin 1) (n : Fin 1024), y = ix2 r n := ⟨y 0, y 1, eq_ix2 y⟩
  obtain rfl : r = 0 := Subsingleton.elim _ _
  show (outsAt0 m c t.val t.isLt).2.1 (ix2 0 n) = DG e x p q (((cfg0.win 6).blk t).view.emb (ix2 0 n))
  rw [show ((cfg0.win 6).blk t).view.emb (ix2 0 n) = ix2 0 n from by
    funext a; apply Fin.ext
    match a with
    | ⟨0, _⟩ => show win0_6.index t (0 : Fin 2) * 1 + 1 * 0 = 0; omega
    | ⟨1, _⟩ => show win0_6.index t (1 : Fin 2) * 1024 + 1 * n.val = n.val; omega]
  rw [same m c t.isLt (by omega : 9 < cfg0.N) (by omega), dg_end m c he hs hp hq hx (by omega) n]
  rfl

theorem covered6 (i : S1x1024.Idx) : ∃ t : Fin cfg0.N, (cfg0.win 6).flush t = true ∧ i ∈ ((cfg0.win 6).blk t).view.set := by
  have h0 : (i 0 : Nat) < 1 := (i 0).isLt
  have h1 : (i 1 : Nat) < 1024 := (i 1).isLt
  obtain ⟨t, ht⟩ : ∃ t : Fin cfg0.N, t.val = 9 := ⟨⟨9, by rw [show cfg0.N = 10 from N_0]; omega⟩, rfl⟩
  refine ⟨t, (flush0_6 t).mpr (by omega), ?_⟩
  obtain ⟨-, -, -, -, -, -, -, -, -, -, -, -, c0, c1⟩ := idx t
  show i ∈ ((View.whole main_v0_1).slice (win0_6.rect t)).set
  rw [View.set_slice_whole, Rect.mem_set_unit]
  intro a
  match a with
  | ⟨0, _⟩ => show win0_6.index t (0 : Fin 2) * 1 ≤ (i 0 : Nat) ∧ (i 0 : Nat) < win0_6.index t (0 : Fin 2) * 1 + 1; omega
  | ⟨1, _⟩ => show win0_6.index t (1 : Fin 2) * 1024 ≤ (i 1 : Nat) ∧ (i 1 : Nat) < win0_6.index t (1 : Fin 2) * 1024 + 1024; omega

include hp hq he hs hx in
theorem final_g : (dats m 0 c).arrAt 6 cfg0.N = DG e x p q :=
  (dats m 0 c).arrAt_eq_of_cover 6 (DG e x p q) (flushed6_real m c he hs hp hq hx) covered6

/-! ## The reference -/

theorem finite_of {x : EReal} (h : Ideal.cmp .olt (max x (-x)) (Ideal.ofBits .f32 0x7F800000#32) = 1#1) : ∃ r : ℝ, x = (r : EReal) := by
  rw [pos_inf] at h
  exact exists_coe ((Ideal.cmp_olt_eq_one _ _).mp h)

open Cert.DhRefIdeal.Read in
/-- The two results are the reference's, device by device. -/
theorem agree (hpre : Cert.Pre_DhIdeal_dh_finite m) (c : Dev nD) :
    (dats m 0 c).arrAt 5 cfg0.N = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ (dats m 0 c).arrAt 6 cfg0.N = val_main_v22 (F := Ideal) (m ((c : Thread nD τ).loc main_arg0)) (m ((c : Thread nD τ).loc main_arg1)) (m ((c : Thread nD τ).loc main_arg2)) := by
  obtain ⟨p0, p1, p2, p3⟩ := hpre c
  obtain ⟨e, he, hs⟩ := NormRow.eps_coe
  have h0 : ∀ (r : Fin 2048) (n : Fin 12800), ∃ x : ℝ, (m ((c : Thread nD τ).loc main_arg0) : S2048x12800.Idx → EReal) (ix2 r n) = (x : EReal) :=
    fun r n => finite_of (congrFun p0 (ix2 r n))
  have h1 : ∀ (r : Fin 12800) (n : Fin 1024), ∃ x : ℝ, (m ((c : Thread nD τ).loc main_arg1) : S12800x1024.Idx → EReal) (ix2 r n) = (x : EReal) :=
    fun r n => finite_of (congrFun p1 (ix2 r n))
  have h2 : ∀ (r : Fin 2048) (n : Fin 1024), ∃ x : ℝ, (m ((c : Thread nD τ).loc main_arg2) : S2048x1024.Idx → EReal) (ix2 r n) = (x : EReal) :=
    fun r n => finite_of (congrFun p2 (ix2 r n))
  have h3 : ∀ (n : Fin 1024), ∃ x : ℝ, (m ((c : Thread nD τ).loc main_arg4) : S1x1024.Idx → EReal) (ix2 0 n) = (x : EReal) :=
    fun n => finite_of (congrFun p3 (ix2 0 n))
  choose p hp using h0
  choose q hq using h1
  choose x hx using h2
  choose g hg using h3
  refine ⟨(final_x m c he hs hp hq hx hg).trans ?_, (final_g m c he hs hp hq hx).trans ?_⟩
  · funext i
    obtain ⟨r, n, rfl⟩ : ∃ (r : Fin 2048) (n : Fin 1024), i = ix2 r n := ⟨i 0, i 1, eq_ix2 i⟩
    exact (Cert.DhRefIdeal.Stages.s39 he hs hp hq hx hg r n).symm
  · funext i
    obtain ⟨r, n, rfl⟩ : ∃ (r : Fin 1) (n : Fin 1024), i = ix2 r n := ⟨i 0, i 1, eq_ix2 i⟩
    obtain rfl : r = 0 := Subsingleton.elim _ _
    exact (Cert.DhRefIdeal.Stages.s22 he hs hp hq hx n).symm

end Cert.DhIdeal.Whole

namespace Cert.Proof

open Cert.DhIdeal.Whole Cert.DhRefIdeal.Read

theorem bodies_Dh : Cert.Dh.defs₀ (F := Bits) = Cert.DhIdeal.defs₀ (F := Bits) :=
  congrArg (Defs.onTc (Λ := Cert.Dh.Λ₀)) (funext fun l => funext fun a => match l, a with
    | 0, _ => rfl
    | ⟨_ + 1, h⟩, _ => absurd h (by omega))

theorem defs_Dh : Cert.Dh.defs (F := Bits) = Cert.DhIdeal.defs (F := Bits) :=
  congrArg (Pipeline.defs Cert.Dh.pcfgs) bodies_Dh

/-- One run for both texts of the kernel, which is generic in the float operations. -/
theorem frame_Dh : Cert.quiescent_Dh := fun m ρ _ => by
  rw [defs_Dh]; exact Cert.DhIdeal.Gen.frame (F := Bits) m ρ

theorem frame_DhIdeal : Cert.quiescent_DhIdeal := fun m ρ _ => Cert.DhIdeal.Gen.frame (F := Ideal) m ρ

theorem frame_DhIdeal_pre : Cert.quiescent_DhIdeal_pre_dh_finite := fun m ρ _ => Cert.DhIdeal.Gen.frame (F := Ideal) m ρ

/-- The reference is a straight-line host program that declares no semaphore. -/
theorem frame_DhRefIdeal : Cert.quiescent_DhRefIdeal := fun m ρ _ =>
  (θ_run Cert.DhRefIdeal.defs _ _).mono (fun r h => ⟨fun c => (h c).2.2, sem_eq_zero_of_no_sems (by decide) r.2⟩)
    (Cert.DhRefIdeal.Value.run (F := Ideal) m ρ)

theorem frame_DhRefIdeal_pre : Cert.quiescent_DhRefIdeal_pre_dh_finite := fun m ρ _ =>
  (θ_run Cert.DhRefIdeal.defs _ _).mono (fun r h => ⟨fun c => (h c).2.2, sem_eq_zero_of_no_sems (by decide) r.2⟩)
    (Cert.DhRefIdeal.Value.run (F := Ideal) m ρ)

theorem algebraic_Dh : Cert.algebraic_DhIdeal_DhRefIdeal_pre_dh_finite := fun m g m' g' hpre hagree =>
  ⟨fun c => _, fun c => _,
    (θ_run Cert.DhIdeal.defs _ _).mono (fun r h c =>
      ⟨(h c).1.trans (agree m hpre c).1, (h c).2.1.trans (agree m hpre c).2, (h c).2.2⟩)
      (Cert.DhIdeal.Value.run_blocks m g),
    (θ_run Cert.DhRefIdeal.defs _ _).mono (fun r h c => by
      obtain ⟨a0, a1, a2, a3, a4⟩ := hagree c
      obtain ⟨r0, r1, ra⟩ := h c
      refine ⟨?_, ?_, ra⟩
      · refine (r0.trans (val_main_v39_eq m' c)).trans ?_
        rw [a0, a1, a2, a3, a4]
      · refine (r1.trans (val_main_v22_eq _ _ _)).trans ?_
        rw [a0, a1, a2])
      (Cert.DhRefIdeal.Value.run m' g')⟩

end Cert.Proof

end
-- ==== Proof.MergeBlock.lean ====
/- The merge of the three branches: one row of its results over the extended reals, and one block of 512 rows in the kernel. -/
module

public import proofs.«01_k».proof.Proof.Gen.MergeIdeal.Value
public import Idealize.ShloMosaic.Lib.Pointwise

@[expose] public section

set_option maxRecDepth 16384

noncomputable section

open Idealize.ShloMosaic Idealize.ShloMosaic.TcCoe Idealize.SL.Sem

namespace Cert.MergeIdeal.Sum

open Cert.MergeIdeal Cert.MergeIdeal.Gen Cert.MergeIdeal.Value

/-! ## One row -/

/-- Row `k` of a square weight stored in eight slabs of 128 rows: its slab, and its row in the slab. -/
def hi (k : Fin 1024) : Fin 8 := ⟨k.val / 128, by omega⟩
def lo (k : Fin 1024) : Fin 128 := ⟨k.val % 128, by omega⟩

/-- Entry `(k, n)` of the weight number `t`. -/
def wAt (w : S8x4x128x1024.Idx → EReal) (t : Fin 4) (k n : Fin 1024) : EReal := w (ix4 (hi k) t (lo k) n)

/-- Entry `n` of the row `a` times a weight. -/
def prod (a : Fin 1024 → EReal) (w : Fin 1024 → Fin 1024 → EReal) (n : Fin 1024) : EReal := ∑ k : Fin 1024, a k * w k n

/-- The logistic function. -/
def gate (x : EReal) : EReal := Ideal.div 1 (1 + Ideal.exp (-x))

/-- The gated sum of the three branches. -/
def yRow (ma mb mc ya yb yc : Fin 1024 → EReal) (n : Fin 1024) : EReal := gate (ma n) * ya n + gate (mb n) * yb n + gate (mc n) * yc n

/-- The residual plus the row `z` divided by its root mean square and scaled by the gain. -/
def outRow (x z g : Fin 1024 → EReal) (n : Fin 1024) : EReal :=
  x n + z n * Ideal.rsqrt (Ideal.div (∑ k : Fin 1024, z k * z k) (Ideal.ofBits .f32 0x44800000#32) + Ideal.ofBits .f32 0x358637BD#32) * g n

/-! ## The values of one block -/

/-- Entry `(k, n)` of a weight cut out of the four. -/
def wOf (v : Vec Ideal S8x1x128x1024 .bf16) (k n : Fin 1024) : EReal := v (ix4 (hi k) 0 (lo k) n)

/-- A row of gates from its two halves. -/
def half (u v : Vec Ideal S512x512 .f32) (r : Fin 512) (n : Fin 1024) : EReal :=
  if h : n.val < 512 then u (ix2 r ⟨n.val, h⟩) else v (ix2 r ⟨n.val - 512, by omega⟩)

theorem pay5_apply (v : Vec Ideal S512x1024 .bf16) (w : Vec Ideal S8x1x128x1024 .bf16) (r : Fin 512) (n : Fin 1024) :
    k0_pay5 v w (ix2 r n) = prod (fun k => v (ix2 r k)) (wOf w) n := by
  pointwise [k0_pay5]
  rfl

theorem pay7_apply (v : Vec Ideal S512x1024 .bf16) (w : Vec Ideal S8x1x128x1024 .bf16) (r : Fin 512) (n : Fin 1024) :
    k0_pay7 v w (ix2 r n) = prod (fun k => v (ix2 r k)) (wOf w) n := by
  pointwise [k0_pay7]
  rfl

theorem pay8_apply (v : Vec Ideal S512x1024 .bf16) (w : Vec Ideal S8x1x128x1024 .bf16) (r : Fin 512) (n : Fin 1024) :
    k0_pay8 v w (ix2 r n) = prod (fun k => v (ix2 r k)) (wOf w) n := by
  pointwise [k0_pay8]
  rfl

theorem pay10_apply (w : Vec Ideal S8x1x128x1024 .bf16) (k n : Fin 1024) : k0_pay10 w (ix2 k n) = wOf w k n := by
  pointwise [k0_pay10]
  rfl

theorem pay1_apply (v : Vec Ideal S512x1024 .bf16) (w : Vec Ideal S1024x1024 .bf16) (r : Fin 512) (n : Fin 1024) :
    k0_pay1 (F := Ideal) v w (ix2 r n) = prod (fun k => v (ix2 r k)) (fun k n => w (ix2 k n)) n := by
  pointwise [k0_pay1]
  rfl

theorem pay2_apply (v : Vec Ideal S512x1024 .bf16) (w : Vec Ideal S1024x1024 .bf16) (x : Vec Ideal S512x1024 .f32) (g : Vec Ideal S1x1024 .f32) (r : Fin 512) (n : Fin 1024) :
    k0_pay2 (F := Ideal) v w x g (ix2 r n) = outRow (fun k => x (ix2 r k)) (fun k => k0_pay1 (F := Ideal) v w (ix2 r k)) (fun k => g (ix2 0 k)) n := by
  pointwise [k0_pay2]
  rfl

theorem pay3_apply (u v : Vec Ideal S512x512 .f32) (r : Fin 512) (n : Fin 1024) : k0_pay3 u v (ix2 r n) = half u v r n := by
  pointwise [k0_pay3]
  rfl

theorem pay4_apply (u v : Vec Ideal S512x512 .f32) (r : Fin 512) (n : Fin 1024) : k0_pay4 u v (ix2 r n) = half u v r n := by
  pointwise [k0_pay4]
  rfl

theorem pay6_apply (u v : Vec Ideal S512x512 .f32) (a : Vec Ideal S512x1024 .bf16) (w : Vec Ideal S8x1x128x1024 .bf16) (r : Fin 512) (n : Fin 1024) :
    k0_pay6 u v a w (ix2 r n) = gate (half u v r n) * prod (fun k => a (ix2 r k)) (wOf w) n := by
  rw [← pay5_apply]
  pointwise [k0_pay6]
  rw [zero_sub]
  rfl

theorem pay9_apply (mb mc s : Vec Ideal S512x1024 .f32) (b : Vec Ideal S512x1024 .bf16) (wb : Vec Ideal S8x1x128x1024 .bf16)
    (c : Vec Ideal S512x1024 .bf16) (wc : Vec Ideal S8x1x128x1024 .bf16) (r : Fin 512) (n : Fin 1024) :
    k0_pay9 (F := Ideal) mb mc s b wb c wc (ix2 r n) = s (ix2 r n) + gate (mb (ix2 r n)) * prod (fun k => b (ix2 r k)) (wOf wb) n
      + gate (mc (ix2 r n)) * prod (fun k => c (ix2 r k)) (wOf wc) n := by
  rw [← pay7_apply, ← pay8_apply]
  pointwise [k0_pay9]
  rw [zero_sub, zero_sub]
  rfl

/-! ## The results of one block -/

theorem hz : (![0, 0] : Fin 2 → Nat) = fun _ => 0 := funext fun a => by match a with | ⟨0, _⟩ => rfl | ⟨1, _⟩ => rfl

theorem cut0 (w : Vec Ideal S8x4x128x1024 .bf16) : wOf (View.ld w r0_2) = wAt w 0 := by
  funext k n
  refine congrArg w ?_
  funext a; apply Fin.ext
  match a with
  | ⟨0, _⟩ => show 0 + 1 * (hi k).val = (hi k).val; omega
  | ⟨1, _⟩ => show 0 + 1 * 0 = 0; omega
  | ⟨2, _⟩ => show 0 + 1 * (lo k).val = (lo k).val; omega
  | ⟨3, _⟩ => show 0 + 1 * n.val = n.val; omega

theorem cut1 (w : Vec Ideal S8x4x128x1024 .bf16) : wOf (View.ld w r0_3) = wAt w 1 := by
  funext k n
  refine congrArg w ?_
  funext a; apply Fin.ext
  match a with
  | ⟨0, _⟩ => show 0 + 1 * (hi k).val = (hi k).val; omega
  | ⟨1, _⟩ => show 1 + 1 * 0 = 1; omega
  | ⟨2, _⟩ => show 0 + 1 * (lo k).val = (lo k).val; omega
  | ⟨3, _⟩ => show 0 + 1 * n.val = n.val; omega

theorem cut2 (w : Vec Ideal S8x4x128x1024 .bf16) : wOf (View.ld w r0_4) = wAt w 2 := by
  funext k n
  refine congrArg w ?_
  funext a; apply Fin.ext
  match a with
  | ⟨0, _⟩ => show 0 + 1 * (hi k).val = (hi k).val; omega
  | ⟨1, _⟩ => show 2 + 1 * 0 = 2; omega
  | ⟨2, _⟩ => show 0 + 1 * (lo k).val = (lo k).val; omega
  | ⟨3, _⟩ => show 0 + 1 * n.val = n.val; omega

theorem cut3 (w : Vec Ideal S8x4x128x1024 .bf16) : wOf (View.ld w r0_5) = wAt w 3 := by
  funext k n
  refine congrArg w ?_
  funext a; apply Fin.ext
  match a with
  | ⟨0, _⟩ => show 0 + 1 * (hi k).val = (hi k).val; omega
  | ⟨1, _⟩ => show 3 + 1 * 0 = 3; omega
  | ⟨2, _⟩ => show 0 + 1 * (lo k).val = (lo k).val; omega
  | ⟨3, _⟩ => show 0 + 1 * n.val = n.val; omega

theorem out12_apply (x0 : Vec Ideal S512x1024 .f32) (x1 x2 x3 : Vec Ideal S512x1024 .bf16) (x4 x5 x6 x7 x8 x9 : Vec Ideal S512x512 .f32)
    (x10 : Vec Ideal S8x4x128x1024 .bf16) (x11 : Vec Ideal S1x1024 .f32) (r : Fin 512) (n : Fin 1024) :
    out0_12 x0 x1 x2 x3 x4 x5 x6 x7 x8 x9 x10 x11 (ix2 r n) = prod (fun k => x1 (ix2 r k)) (wAt x10 0) n := by
  unfold out0_12
  rw [View.canon_unit_zero hz, View.ld_unit_zero hz, pay5_apply, cut0]

theorem out13_apply (x0 : Vec Ideal S512x1024 .f32) (x1 x2 x3 : Vec Ideal S512x1024 .bf16) (x4 x5 x6 x7 x8 x9 : Vec Ideal S512x512 .f32)
    (x10 : Vec Ideal S8x4x128x1024 .bf16) (x11 : Vec Ideal S1x1024 .f32) (r : Fin 512) (n : Fin 1024) :
    out0_13 x0 x1 x2 x3 x4 x5 x6 x7 x8 x9 x10 x11 (ix2 r n) = prod (fun k => x2 (ix2 r k)) (wAt x10 1) n := by
  unfold out0_13
  rw [View.canon_unit_zero hz, View.ld_unit_zero hz, pay7_apply, cut1]

theorem out14_apply (x0 : Vec Ideal S512x1024 .f32) (x1 x2 x3 : Vec Ideal S512x1024 .bf16) (x4 x5 x6 x7 x8 x9 : Vec Ideal S512x512 .f32)
    (x10 : Vec Ideal S8x4x128x1024 .bf16) (x11 : Vec Ideal S1x1024 .f32) (r : Fin 512) (n : Fin 1024) :
    out0_14 x0 x1 x2 x3 x4 x5 x6 x7 x8 x9 x10 x11 (ix2 r n) = prod (fun k => x3 (ix2 r k)) (wAt x10 2) n := by
  unfold out0_14
  rw [View.canon_unit_zero hz, View.ld_unit_zero hz, pay8_apply, cut2]

/-- The gated sum of a row of the block. -/
def yB (x0 : Vec Ideal S512x1024 .f32) (x1 x2 x3 : Vec Ideal S512x1024 .bf16) (x4 x5 x6 x7 x8 x9 : Vec Ideal S512x512 .f32)
    (x10 : Vec Ideal S8x4x128x1024 .bf16) (x11 : Vec Ideal S1x1024 .f32) (r : Fin 512) : Fin 1024 → EReal :=
  yRow (half x4 x5 r) (half x6 x7 r) (half x8 x9 r) (prod (fun k => x1 (ix2 r k)) (wAt x10 0))
      (prod (fun k => x2 (ix2 r k)) (wAt x10 1)) (prod (fun k => x3 (ix2 r k)) (wAt x10 2))

theorem sum_apply (x0 : Vec Ideal S512x1024 .f32) (x1 x2 x3 : Vec Ideal S512x1024 .bf16) (x4 x5 x6 x7 x8 x9 : Vec Ideal S512x512 .f32)
    (x10 : Vec Ideal S8x4x128x1024 .bf16) (x11 : Vec Ideal S1x1024 .f32) (r : Fin 512) (n : Fin 1024) :
    k0_pay14 (F := Ideal) x0 x1 x2 x3 x4 x5 x6 x7 x8 x9 x10 x11 (ix2 r n) = yB x0 x1 x2 x3 x4 x5 x6 x7 x8 x9 x10 x11 r n := by
  unfold k0_pay14 k0_pay13 k0_pay12 k0_pay11
  rw [pay9_apply, pay6_apply, pay3_apply, pay4_apply, cut0, cut1, cut2]
  rw [View.ld_unit_zero hz _ x1, View.ld_unit_zero hz _ x2, View.ld_unit_zero hz _ x3, View.ld_unit_zero hz _ x4, View.ld_unit_zero hz _ x5,
    View.ld_unit_zero hz _ x6, View.ld_unit_zero hz _ x7, View.ld_unit_zero hz _ x8, View.ld_unit_zero hz _ x9]
  rfl

theorem out15_apply (x0 : Vec Ideal S512x1024 .f32) (x1 x2 x3 : Vec Ideal S512x1024 .bf16) (x4 x5 x6 x7 x8 x9 : Vec Ideal S512x512 .f32)
    (x10 : Vec Ideal S8x4x128x1024 .bf16) (x11 : Vec Ideal S1x1024 .f32) (r : Fin 512) (n : Fin 1024) :
    out0_15 x0 x1 x2 x3 x4 x5 x6 x7 x8 x9 x10 x11 (ix2 r n) = yB x0 x1 x2 x3 x4 x5 x6 x7 x8 x9 x10 x11 r n := by
  unfold out0_15
  rw [View.canon_unit_zero hz]
  exact sum_apply x0 x1 x2 x3 x4 x5 x6 x7 x8 x9 x10 x11 r n

/-- The merged row times the last weight. -/
def zB (x0 : Vec Ideal S512x1024 .f32) (x1 x2 x3 : Vec Ideal S512x1024 .bf16) (x4 x5 x6 x7 x8 x9 : Vec Ideal S512x512 .f32)
    (x10 : Vec Ideal S8x4x128x1024 .bf16) (x11 : Vec Ideal S1x1024 .f32) (r : Fin 512) : Fin 1024 → EReal :=
  prod (yB x0 x1 x2 x3 x4 x5 x6 x7 x8 x9 x10 x11 r) (wAt x10 3)

theorem z_apply (x0 : Vec Ideal S512x1024 .f32) (x1 x2 x3 : Vec Ideal S512x1024 .bf16) (x4 x5 x6 x7 x8 x9 : Vec Ideal S512x512 .f32)
    (x10 : Vec Ideal S8x4x128x1024 .bf16) (x11 : Vec Ideal S1x1024 .f32) (r : Fin 512) (n : Fin 1024) :
    k0_pay1 (F := Ideal) (k0_pay14 x0 x1 x2 x3 x4 x5 x6 x7 x8 x9 x10 x11) (k0_pay15 x0 x1 x2 x3 x4 x5 x6 x7 x8 x9 x10 x11) (ix2 r n) = zB x0 x1 x2 x3 x4 x5 x6 x7 x8 x9 x10 x11 r n := by
  rw [pay1_apply]
  unfold k0_pay15 zB prod
  refine Finset.sum_congr rfl fun k _ => ?_
  show k0_pay14 (F := Ideal) x0 x1 x2 x3 x4 x5 x6 x7 x8 x9 x10 x11 (ix2 r k) * k0_pay10 (View.ld x10 r0_5) (ix2 k n) = _
  rw [sum_apply, pay10_apply, cut3]

theorem out16_apply (x0 : Vec Ideal S512x1024 .f32) (x1 x2 x3 : Vec Ideal S512x1024 .bf16) (x4 x5 x6 x7 x8 x9 : Vec Ideal S512x512 .f32)
    (x10 : Vec Ideal S8x4x128x1024 .bf16) (x11 : Vec Ideal S1x1024 .f32) (r : Fin 512) (n : Fin 1024) :
    out0_16 x0 x1 x2 x3 x4 x5 x6 x7 x8 x9 x10 x11 (ix2 r n) = zB x0 x1 x2 x3 x4 x5 x6 x7 x8 x9 x10 x11 r n := by
  unfold out0_16
  rw [View.canon_unit_zero hz]
  exact z_apply x0 x1 x2 x3 x4 x5 x6 x7 x8 x9 x10 x11 r n

theorem out17_apply (x0 : Vec Ideal S512x1024 .f32) (x1 x2 x3 : Vec Ideal S512x1024 .bf16) (x4 x5 x6 x7 x8 x9 : Vec Ideal S512x512 .f32)
    (x10 : Vec Ideal S8x4x128x1024 .bf16) (x11 : Vec Ideal S1x1024 .f32) (r : Fin 512) (n : Fin 1024) :
    out0_17 x0 x1 x2 x3 x4 x5 x6 x7 x8 x9 x10 x11 (ix2 r n) = outRow (fun k => x0 (ix2 r k)) (zB x0 x1 x2 x3 x4 x5 x6 x7 x8 x9 x10 x11 r) (fun k => x11 (ix2 0 k)) n := by
  unfold out0_17
  rw [View.canon_unit_zero hz, pay2_apply, View.ld_unit_zero (S := S512x1024) hz, View.ld_unit_zero (S := S1x1024) hz]
  exact congrArg (fun z => outRow (fun k => x0 (ix2 r k)) z (fun k => x11 (ix2 0 k)) n) (funext fun k => z_apply x0 x1 x2 x3 x4 x5 x6 x7 x8 x9 x10 x11 r k)

end Cert.MergeIdeal.Sum

end
-- ==== Proof.MergeValue.lean ====
/- The merge of the three branches: the output projections of the branches, their gated sum, its product with the last
   weight, and the norm after it on top of the residual, in blocks of 512 rows. -/
module

public import proofs.«01_k».proof.Defs
public import proofs.«01_k».proof.Proof.MergeBlock
public import proofs.«01_k».proof.Proof.Gen.Merge
public import proofs.«01_k».proof.Proof.Gen.MergeRefIdeal.Run
public import proofs.«01_k».proof.Proof.Gen.MergeRefIdeal.Read

@[expose] public section

set_option maxRecDepth 16384

noncomputable section

open Idealize.ShloMosaic Idealize.ShloMosaic.TcCoe Idealize.SL.Sem

namespace Cert.MergeIdeal.Sum

open Cert.MergeIdeal Cert.MergeIdeal.Gen Cert.MergeIdeal.Value

/-! ## The results, by rows of the arguments -/

/-- The columns of the projection that hold the gates of the three branches. -/
def colA (n : Fin 1024) : Fin 12800 := ⟨9728 + n.val, by omega⟩
def colB (n : Fin 1024) : Fin 12800 := ⟨10752 + n.val, by omega⟩
def colC (n : Fin 1024) : Fin 12800 := ⟨11776 + n.val, by omega⟩

/-- Row `r` of a branch times its weight, the gated sum, and its product with the last weight. -/
def brRow (a : S2048x1024.Idx → EReal) (w : S8x4x128x1024.Idx → EReal) (j : Fin 4) (r : Fin 2048) : Fin 1024 → EReal :=
  prod (fun k => a (ix2 r k)) (wAt w j)

def ySum (a b d : S2048x1024.Idx → EReal) (p : S2048x12800.Idx → EReal) (w : S8x4x128x1024.Idx → EReal) (r : Fin 2048) : Fin 1024 → EReal :=
  yRow (fun n => p (ix2 r (colA n))) (fun n => p (ix2 r (colB n))) (fun n => p (ix2 r (colC n))) (brRow a w 0 r) (brRow b w 1 r) (brRow d w 2 r)

def zRow (a b d : S2048x1024.Idx → EReal) (p : S2048x12800.Idx → EReal) (w : S8x4x128x1024.Idx → EReal) (r : Fin 2048) : Fin 1024 → EReal :=
  prod (ySum a b d p w r) (wAt w 3)

def BR (a : S2048x1024.Idx → EReal) (w : S8x4x128x1024.Idx → EReal) (j : Fin 4) : S2048x1024.Idx → EReal := fun i => brRow a w j (i 0) (i 1)

def Y (a b d : S2048x1024.Idx → EReal) (p : S2048x12800.Idx → EReal) (w : S8x4x128x1024.Idx → EReal) : S2048x1024.Idx → EReal :=
  fun i => ySum a b d p w (i 0) (i 1)

def Z (a b d : S2048x1024.Idx → EReal) (p : S2048x12800.Idx → EReal) (w : S8x4x128x1024.Idx → EReal) : S2048x1024.Idx → EReal :=
  fun i => zRow a b d p w (i 0) (i 1)

def OUT (x a b d : S2048x1024.Idx → EReal) (p : S2048x12800.Idx → EReal) (w : S8x4x128x1024.Idx → EReal) (g : S1x1024.Idx → EReal) : S2048x1024.Idx → EReal :=
  fun i => outRow (fun k => x (ix2 (i 0) k)) (zRow a b d p w (i 0)) (fun k => g (ix2 0 k)) (i 1)

/-! ## The windows -/

variable (m : (ℓ : Loc nD τ sig) → Buf (Elt Ideal) ℓ) (ρ : Dev nD → PrngReg)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)
theorem idx17 : ∀ t : Fin cfg0.N, win0_17.index t (0 : Fin 2) = t.val ∧ win0_17.index t (1 : Fin 2) = 0 :=
  (by decide +kernel : ∀ t : Fin grid0.N, _)
theorem idx4 : ∀ t : Fin cfg0.N, win0_4.index t (0 : Fin 2) = t.val ∧ win0_4.index t (1 : Fin 2) = 19 :=
  (by decide +kernel : ∀ t : Fin grid0.N, _)
theorem idx5 : ∀ t : Fin cfg0.N, win0_5.index t (0 : Fin 2) = t.val ∧ win0_5.index t (1 : Fin 2) = 20 :=
  (by decide +kernel : ∀ t : Fin grid0.N, _)
theorem idx6 : ∀ t : Fin cfg0.N, win0_6.index t (0 : Fin 2) = t.val ∧ win0_6.index t (1 : Fin 2) = 21 :=
  (by decide +kernel : ∀ t : Fin grid0.N, _)
theorem idx7 : ∀ t : Fin cfg0.N, win0_7.index t (0 : Fin 2) = t.val ∧ win0_7.index t (1 : Fin 2) = 22 :=
  (by decide +kernel : ∀ t : Fin grid0.N, _)
theorem idx8 : ∀ t : Fin cfg0.N, win0_8.index t (0 : Fin 2) = t.val ∧ win0_8.index t (1 : Fin 2) = 23 :=
  (by decide +kernel : ∀ t : Fin grid0.N, _)
theorem idx9 : ∀ t : Fin cfg0.N, win0_9.index t (0 : Fin 2) = t.val ∧ win0_9.index t (1 : Fin 2) = 24 :=
  (by decide +kernel : ∀ t : Fin grid0.N, _)
theorem idx10 : ∀ t : Fin cfg0.N, win0_10.index t (0 : Fin 4) = 0 ∧ win0_10.index t (1 : Fin 4) = 0 ∧ win0_10.index t (2 : Fin 4) = 0
    ∧ win0_10.index t (3 : Fin 4) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)

/-- The row of the arguments that is row `r` of the blocks at the point `t`. -/
def rowAt (t : Fin cfg0.N) (r : Fin 512) : Fin 2048 := ⟨t.val * 512 + r.val, by have := Nat.lt_of_lt_of_eq t.isLt (N_0 : cfg0.N = 4); omega⟩

theorem row0 (c : Dev nD) (t : Fin cfg0.N) (r : Fin 512) : (fun k : Fin 1024 => iblk m c 0 t (ix2 r k))
    = fun k => (V m c main_arg0 : S2048x1024.Idx → EReal) (ix2 (rowAt t r) k) := by
  obtain ⟨a0, a1⟩ := idx0 t
  funext k
  refine congrArg (V m c main_arg0 : S2048x1024.Idx → EReal) (?_ : ((cfg0.win 0).blk t).view.emb (ix2 r k) = ix2 (rowAt t r) k)
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem row1 (c : Dev nD) (t : Fin cfg0.N) (r : Fin 512) : (fun k : Fin 1024 => iblk m c 1 t (ix2 r k))
    = fun k => (V m c main_arg1 : S2048x1024.Idx → EReal) (ix2 (rowAt t r) k) := by
  obtain ⟨a0, a1⟩ := idx1 t
  funext k
  refine congrArg (V m c main_arg1 : S2048x1024.Idx → EReal) (?_ : ((cfg0.win 1).blk t).view.emb (ix2 r k) = ix2 (rowAt t r) k)
  funext a; apply Fin.ext
  match a with
  | ⟨0, _⟩ => show win0_1.index t (0 : Fin 2) * 512 + 1 * r.val = t.val * 512 + r.val; omega
  | ⟨1, _⟩ => show win0_1.index t (1 : Fin 2) * 1024 + 1 * k.val = k.val; omega

theorem row2 (c : Dev nD) (t : Fin cfg0.N) (r : Fin 512) : (fun k : Fin 1024 => iblk m c 2 t (ix2 r k))
    = fun k => (V m c main_arg2 : S2048x1024.Idx → EReal) (ix2 (rowAt t r) k) := by
  obtain ⟨a0, a1⟩ := idx2 t
  funext k
  refine congrArg (V m c main_arg2 : S2048x1024.Idx → EReal) (?_ : ((cfg0.win 2).blk t).view.emb (ix2 r k) = ix2 (rowAt t r) k)
  funext a; apply Fin.ext
  match a with
  | ⟨0, _⟩ => show win0_2.index t (0 : Fin 2) * 512 + 1 * r.val = t.val * 512 + r.val; omega
  | ⟨1, _⟩ => show win0_2.index t (1 : Fin 2) * 1024 + 1 * k.val = k.val; omega

theorem row3 (c : Dev nD) (t : Fin cfg0.N) (r : Fin 512) : (fun k : Fin 1024 => iblk m c 3 t (ix2 r k))
    = fun k => (V m c main_arg3 : S2048x1024.Idx → EReal) (ix2 (rowAt t r) k) := by
  obtain ⟨a0, a1⟩ := idx3 t
  funext k
  refine congrArg (V m c main_arg3 : S2048x1024.Idx → EReal) (?_ : ((cfg0.win 3).blk t).view.emb (ix2 r k) = ix2 (rowAt t r) k)
  funext a; apply Fin.ext
  match a with
  | ⟨0, _⟩ => show win0_3.index t (0 : Fin 2) * 512 + 1 * r.val = t.val * 512 + r.val; omega
  | ⟨1, _⟩ => show win0_3.index t (1 : Fin 2) * 1024 + 1 * k.val = k.val; omega

theorem halfA (c : Dev nD) (t : Fin cfg0.N) (r : Fin 512) : half (iblk m c 4 t) (iblk m c 5 t) r
    = fun n => (V m c main_arg4 : S2048x12800.Idx → EReal) (ix2 (rowAt t r) (colA n)) := by
  obtain ⟨a0, a1⟩ := idx4 t
  obtain ⟨b0, b1⟩ := idx5 t
  funext n
  unfold half
  by_cases h : n.val < 512
  · rw [dif_pos h]
    refine congrArg (V m c main_arg4 : S2048x12800.Idx → EReal) (?_ : ((cfg0.win 4).blk t).view.emb (ix2 r ⟨n.val, h⟩) = ix2 (rowAt t r) (colA n))
    funext a; apply Fin.ext
    match a with
    | ⟨0, _⟩ => show win0_4.index t (0 : Fin 2) * 512 + 1 * r.val = t.val * 512 + r.val; omega
    | ⟨1, _⟩ => show win0_4.index t (1 : Fin 2) * 512 + 1 * n.val = 9728 + n.val; omega
  · rw [dif_neg h]
    refine congrArg (V m c main_arg4 : S2048x12800.Idx → EReal) (?_ : ((cfg0.win 5).blk t).view.emb (ix2 r ⟨n.val - 512, by omega⟩) = ix2 (rowAt t r) (colA n))
    funext a; apply Fin.ext
    match a with
    | ⟨0, _⟩ => show win0_5.index t (0 : Fin 2) * 512 + 1 * r.val = t.val * 512 + r.val; omega
    | ⟨1, _⟩ => show win0_5.index t (1 : Fin 2) * 512 + 1 * (n.val - 512) = 9728 + n.val; omega

theorem halfB (c : Dev nD) (t : Fin cfg0.N) (r : Fin 512) : half (iblk m c 6 t) (iblk m c 7 t) r
    = fun n => (V m c main_arg4 : S2048x12800.Idx → EReal) (ix2 (rowAt t r) (colB n)) := by
  obtain ⟨a0, a1⟩ := idx6 t
  obtain ⟨b0, b1⟩ := idx7 t
  funext n
  unfold half
  by_cases h : n.val < 512
  · rw [dif_pos h]
    refine congrArg (V m c main_arg4 : S2048x12800.Idx → EReal) (?_ : ((cfg0.win 6).blk t).view.emb (ix2 r ⟨n.val, h⟩) = ix2 (rowAt t r) (colB n))
    funext a; apply Fin.ext
    match a with
    | ⟨0, _⟩ => show win0_6.index t (0 : Fin 2) * 512 + 1 * r.val = t.val * 512 + r.val; omega
    | ⟨1, _⟩ => show win0_6.index t (1 : Fin 2) * 512 + 1 * n.val = 10752 + n.val; omega
  · rw [dif_neg h]
    refine congrArg (V m c main_arg4 : S2048x12800.Idx → EReal) (?_ : ((cfg0.win 7).blk t).view.emb (ix2 r ⟨n.val - 512, by omega⟩) = ix2 (rowAt t r) (colB n))
    funext a; apply Fin.ext
    match a with
    | ⟨0, _⟩ => show win0_7.index t (0 : Fin 2) * 512 + 1 * r.val = t.val * 512 + r.val; omega
    | ⟨1, _⟩ => show win0_7.index t (1 : Fin 2) * 512 + 1 * (n.val - 512) = 10752 + n.val; omega

theorem halfC (c : Dev nD) (t : Fin cfg0.N) (r : Fin 512) : half (iblk m c 8 t) (iblk m c 9 t) r
    = fun n => (V m c main_arg4 : S2048x12800.Idx → EReal) (ix2 (rowAt t r) (colC n)) := by
  obtain ⟨a0, a1⟩ := idx8 t
  obtain ⟨b0, b1⟩ := idx9 t
  funext n
  unfold half
  by_cases h : n.val < 512
  · rw [dif_pos h]
    refine congrArg (V m c main_arg4 : S2048x12800.Idx → EReal) (?_ : ((cfg0.win 8).blk t).view.emb (ix2 r ⟨n.val, h⟩) = ix2 (rowAt t r) (colC n))
    funext a; apply Fin.ext
    match a with
    | ⟨0, _⟩ => show win0_8.index t (0 : Fin 2) * 512 + 1 * r.val = t.val * 512 + r.val; omega
    | ⟨1, _⟩ => show win0_8.index t (1 : Fin 2) * 512 + 1 * n.val = 11776 + n.val; omega
  · rw [dif_neg h]
    refine congrArg (V m c main_arg4 : S2048x12800.Idx → EReal) (?_ : ((cfg0.win 9).blk t).view.emb (ix2 r ⟨n.val - 512, by omega⟩) = ix2 (rowAt t r) (colC n))
    funext a; apply Fin.ext
    match a with
    | ⟨0, _⟩ => show win0_9.index t (0 : Fin 2) * 512 + 1 * r.val = t.val * 512 + r.val; omega
    | ⟨1, _⟩ => show win0_9.index t (1 : Fin 2) * 512 + 1 * (n.val - 512) = 11776 + n.val; omega

theorem weights (c : Dev nD) (t : Fin cfg0.N) (j : Fin 4) : wAt (iblk m c 10 t) j = wAt (V m c main_arg5 : S8x4x128x1024.Idx → EReal) j := by
  obtain ⟨a0, a1, a2, a3⟩ := idx10 t
  funext k n
  refine congrArg (V m c main_arg5 : S8x4x128x1024.Idx → EReal) (?_ : ((cfg0.win 10).blk t).view.emb (ix4 (hi k) j (lo k) n) = ix4 (hi k) j (lo k) n)
  funext a; apply Fin.ext
  match a with
  | ⟨0, _⟩ => show win0_10.index t (0 : Fin 4) * 8 + 1 * (hi k).val = (hi k).val; omega
  | ⟨1, _⟩ => show win0_10.index t (1 : Fin 4) * 4 + 1 * j.val = j.val; omega
  | ⟨2, _⟩ => show win0_10.index t (2 : Fin 4) * 128 + 1 * (lo k).val = (lo k).val; omega
  | ⟨3, _⟩ => show win0_10.index t (3 : Fin 4) * 1024 + 1 * n.val = n.val; omega

theorem gain (c : Dev nD) (t : Fin cfg0.N) : (fun k : Fin 1024 => iblk m c 11 t (ix2 0 k))
    = fun k => (V m c main_arg6 : S1x1024.Idx → EReal) (ix2 0 k) := by
  obtain ⟨a0, a1⟩ := idx11 t
  funext k
  refine congrArg (V m c main_arg6 : S1x1024.Idx → EReal) (?_ : ((cfg0.win 11).blk t).view.emb (ix2 0 k) = ix2 0 k)
  funext a; apply Fin.ext
  match a with
  | ⟨0, _⟩ => show win0_11.index t (0 : Fin 2) * 1 + 1 * 0 = 0; omega
  | ⟨1, _⟩ => show win0_11.index t (1 : Fin 2) * 1024 + 1 * k.val = k.val; omega

theorem yB_eq (c : Dev nD) (t : Fin cfg0.N) (r : Fin 512) :
    yB (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) r
      = ySum (V m c main_arg1) (V m c main_arg2) (V m c main_arg3) (V m c main_arg4) (V m c main_arg5) (rowAt t r) := by
  unfold yB
  rw [halfA, halfB, halfC, row1, row2, row3, weights, weights, weights]
  rfl

theorem zB_eq (c : Dev nD) (t : Fin cfg0.N) (r : Fin 512) :
    zB (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) r
      = zRow (V m c main_arg1) (V m c main_arg2) (V m c main_arg3) (V m c main_arg4) (V m c main_arg5) (rowAt t r) := by
  unfold zB
  rw [yB_eq, weights]
  rfl

/-! ## The results are written block by block -/

theorem value12 (c : Dev nD) (t : Fin cfg0.N) (r : Fin 512) (n : Fin 1024) :
    out0_12 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix2 r n)
      = brRow (V m c main_arg1) (V m c main_arg5) 0 (rowAt t r) n := by
  rw [out12_apply, row1, weights]; rfl

theorem flushed12_eq (c : Dev nD) (t : Fin cfg0.N) :
    (dats m 0 c).flushed 12 t = ((cfg0.win 12).blk t).view.read (Elt Ideal)
      (BR (V m c main_arg1) (V m c main_arg5) 0) := by
  obtain ⟨b0, b1⟩ := idx12 t
  rw [flushed12]
  funext y
  obtain ⟨r, n, rfl⟩ : ∃ (r : Fin 512) (n : Fin 1024), y = ix2 r n := ⟨y 0, y 1, eq_ix2 y⟩
  refine (value12 m c t r n).trans ?_
  show (BR (V m c main_arg1) (V m c main_arg5) 0) (ix2 (rowAt t r) n)
    = (BR (V m c main_arg1) (V m c main_arg5) 0) (((cfg0.win 12).blk t).view.emb (ix2 r n))
  refine congrArg (BR (V m c main_arg1) (V m c main_arg5) 0) ?_
  funext a; apply Fin.ext
  match a with
  | ⟨0, _⟩ => show t.val * 512 + r.val = win0_12.index t (0 : Fin 2) * 512 + 1 * r.val; omega
  | ⟨1, _⟩ => show n.val = win0_12.index t (1 : Fin 2) * 1024 + 1 * n.val; omega

theorem covered12 (i : S2048x1024.Idx) : ∃ t : Fin cfg0.N, (cfg0.win 12).flush t = true ∧ i ∈ ((cfg0.win 12).blk t).view.set := by
  have h0 : (i 0 : Nat) < 2048 := (i 0).isLt
  have h1 : (i 1 : Nat) < 1024 := (i 1).isLt
  obtain ⟨t, ht⟩ : ∃ t : Fin cfg0.N, t.val = (i 0 : Nat) / 512 := ⟨⟨_, by rw [show cfg0.N = 4 from N_0]; omega⟩, rfl⟩
  refine ⟨t, flush0_12 _, ?_⟩
  obtain ⟨b0, b1⟩ := idx12 t
  show i ∈ ((View.whole main_v0_0).slice (win0_12.rect t)).set
  rw [View.set_slice_whole, Rect.mem_set_unit]
  intro a
  match a with
  | ⟨0, _⟩ => show win0_12.index t (0 : Fin 2) * 512 ≤ (i 0 : Nat) ∧ (i 0 : Nat) < win0_12.index t (0 : Fin 2) * 512 + 512; omega
  | ⟨1, _⟩ => show win0_12.index t (1 : Fin 2) * 1024 ≤ (i 1 : Nat) ∧ (i 1 : Nat) < win0_12.index t (1 : Fin 2) * 1024 + 1024; omega

theorem final12 (c : Dev nD) : (dats m 0 c).arrAt 12 cfg0.N
    = BR (m ((c : Thread nD τ).loc main_arg1)) (m ((c : Thread nD τ).loc main_arg5)) 0 :=
  (dats m 0 c).arrAt_eq_of_cover 12 (BR (V m c main_arg1) (V m c main_arg5) 0)
    (fun t _ => flushed12_eq m c t) covered12

theorem value13 (c : Dev nD) (t : Fin cfg0.N) (r : Fin 512) (n : Fin 1024) :
    out0_13 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix2 r n)
      = brRow (V m c main_arg2) (V m c main_arg5) 1 (rowAt t r) n := by
  rw [out13_apply, row2, weights]; rfl

theorem flushed13_eq (c : Dev nD) (t : Fin cfg0.N) :
    (dats m 0 c).flushed 13 t = ((cfg0.win 13).blk t).view.read (Elt Ideal)
      (BR (V m c main_arg2) (V m c main_arg5) 1) := by
  obtain ⟨b0, b1⟩ := idx13 t
  rw [flushed13]
  funext y
  obtain ⟨r, n, rfl⟩ : ∃ (r : Fin 512) (n : Fin 1024), y = ix2 r n := ⟨y 0, y 1, eq_ix2 y⟩
  refine (value13 m c t r n).trans ?_
  show (BR (V m c main_arg2) (V m c main_arg5) 1) (ix2 (rowAt t r) n)
    = (BR (V m c main_arg2) (V m c main_arg5) 1) (((cfg0.win 13).blk t).view.emb (ix2 r n))
  refine congrArg (BR (V m c main_arg2) (V m c main_arg5) 1) ?_
  funext a; apply Fin.ext
  match a with
  | ⟨0, _⟩ => show t.val * 512 + r.val = win0_13.index t (0 : Fin 2) * 512 + 1 * r.val; omega
  | ⟨1, _⟩ => show n.val = win0_13.index t (1 : Fin 2) * 1024 + 1 * n.val; omega

theorem covered13 (i : S2048x1024.Idx) : ∃ t : Fin cfg0.N, (cfg0.win 13).flush t = true ∧ i ∈ ((cfg0.win 13).blk t).view.set := by
  have h0 : (i 0 : Nat) < 2048 := (i 0).isLt
  have h1 : (i 1 : Nat) < 1024 := (i 1).isLt
  obtain ⟨t, ht⟩ : ∃ t : Fin cfg0.N, t.val = (i 0 : Nat) / 512 := ⟨⟨_, by rw [show cfg0.N = 4 from N_0]; omega⟩, rfl⟩
  refine ⟨t, flush0_13 _, ?_⟩
  obtain ⟨b0, b1⟩ := idx13 t
  show i ∈ ((View.whole main_v0_1).slice (win0_13.rect t)).set
  rw [View.set_slice_whole, Rect.mem_set_unit]
  intro a
  match a with
  | ⟨0, _⟩ => show win0_13.index t (0 : Fin 2) * 512 ≤ (i 0 : Nat) ∧ (i 0 : Nat) < win0_13.index t (0 : Fin 2) * 512 + 512; omega
  | ⟨1, _⟩ => show win0_13.index t (1 : Fin 2) * 1024 ≤ (i 1 : Nat) ∧ (i 1 : Nat) < win0_13.index t (1 : Fin 2) * 1024 + 1024; omega

theorem final13 (c : Dev nD) : (dats m 0 c).arrAt 13 cfg0.N
    = BR (m ((c : Thread nD τ).loc main_arg2)) (m ((c : Thread nD τ).loc main_arg5)) 1 :=
  (dats m 0 c).arrAt_eq_of_cover 13 (BR (V m c main_arg2) (V m c main_arg5) 1)
    (fun t _ => flushed13_eq m c t) covered13

theorem value14 (c : Dev nD) (t : Fin cfg0.N) (r : Fin 512) (n : Fin 1024) :
    out0_14 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix2 r n)
      = brRow (V m c main_arg3) (V m c main_arg5) 2 (rowAt t r) n := by
  rw [out14_apply, row3, weights]; rfl

theorem flushed14_eq (c : Dev nD) (t : Fin cfg0.N) :
    (dats m 0 c).flushed 14 t = ((cfg0.win 14).blk t).view.read (Elt Ideal)
      (BR (V m c main_arg3) (V m c main_arg5) 2) := by
  obtain ⟨b0, b1⟩ := idx14 t
  rw [flushed14]
  funext y
  obtain ⟨r, n, rfl⟩ : ∃ (r : Fin 512) (n : Fin 1024), y = ix2 r n := ⟨y 0, y 1, eq_ix2 y⟩
  refine (value14 m c t r n).trans ?_
  show (BR (V m c main_arg3) (V m c main_arg5) 2) (ix2 (rowAt t r) n)
    = (BR (V m c main_arg3) (V m c main_arg5) 2) (((cfg0.win 14).blk t).view.emb (ix2 r n))
  refine congrArg (BR (V m c main_arg3) (V m c main_arg5) 2) ?_
  funext a; apply Fin.ext
  match a with
  | ⟨0, _⟩ => show t.val * 512 + r.val = win0_14.index t (0 : Fin 2) * 512 + 1 * r.val; omega
  | ⟨1, _⟩ => show n.val = win0_14.index t (1 : Fin 2) * 1024 + 1 * n.val; omega

theorem covered14 (i : S2048x1024.Idx) : ∃ t : Fin cfg0.N, (cfg0.win 14).flush t = true ∧ i ∈ ((cfg0.win 14).blk t).view.set := by
  have h0 : (i 0 : Nat) < 2048 := (i 0).isLt
  have h1 : (i 1 : Nat) < 1024 := (i 1).isLt
  obtain ⟨t, ht⟩ : ∃ t : Fin cfg0.N, t.val = (i 0 : Nat) / 512 := ⟨⟨_, by rw [show cfg0.N = 4 from N_0]; omega⟩, rfl⟩
  refine ⟨t, flush0_14 _, ?_⟩
  obtain ⟨b0, b1⟩ := idx14 t
  show i ∈ ((View.whole main_v0_2).slice (win0_14.rect t)).set
  rw [View.set_slice_whole, Rect.mem_set_unit]
  intro a
  match a with
  | ⟨0, _⟩ => show win0_14.index t (0 : Fin 2) * 512 ≤ (i 0 : Nat) ∧ (i 0 : Nat) < win0_14.index t (0 : Fin 2) * 512 + 512; omega
  | ⟨1, _⟩ => show win0_14.index t (1 : Fin 2) * 1024 ≤ (i 1 : Nat) ∧ (i 1 : Nat) < win0_14.index t (1 : Fin 2) * 1024 + 1024; omega

theorem final14 (c : Dev nD) : (dats m 0 c).arrAt 14 cfg0.N
    = BR (m ((c : Thread nD τ).loc main_arg3)) (m ((c : Thread nD τ).loc main_arg5)) 2 :=
  (dats m 0 c).arrAt_eq_of_cover 14 (BR (V m c main_arg3) (V m c main_arg5) 2)
    (fun t _ => flushed14_eq m c t) covered14

theorem value15 (c : Dev nD) (t : Fin cfg0.N) (r : Fin 512) (n : Fin 1024) :
    out0_15 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix2 r n)
      = ySum (V m c main_arg1) (V m c main_arg2) (V m c main_arg3) (V m c main_arg4) (V m c main_arg5) (rowAt t r) n := by
  rw [out15_apply, yB_eq]

theorem flushed15_eq (c : Dev nD) (t : Fin cfg0.N) :
    (dats m 0 c).flushed 15 t = ((cfg0.win 15).blk t).view.read (Elt Ideal)
      (Y (V m c main_arg1) (V m c main_arg2) (V m c main_arg3) (V m c main_arg4) (V m c main_arg5)) := by
  obtain ⟨b0, b1⟩ := idx15 t
  rw [flushed15]
  funext y
  obtain ⟨r, n, rfl⟩ : ∃ (r : Fin 512) (n : Fin 1024), y = ix2 r n := ⟨y 0, y 1, eq_ix2 y⟩
  refine (value15 m c t r n).trans ?_
  show (Y (V m c main_arg1) (V m c main_arg2) (V m c main_arg3) (V m c main_arg4) (V m c main_arg5)) (ix2 (rowAt t r) n)
    = (Y (V m c main_arg1) (V m c main_arg2) (V m c main_arg3) (V m c main_arg4) (V m c main_arg5)) (((cfg0.win 15).blk t).view.emb (ix2 r n))
  refine congrArg (Y (V m c main_arg1) (V m c main_arg2) (V m c main_arg3) (V m c main_arg4) (V m c main_arg5)) ?_
  funext a; apply Fin.ext
  match a with
  | ⟨0, _⟩ => show t.val * 512 + r.val = win0_15.index t (0 : Fin 2) * 512 + 1 * r.val; omega
  | ⟨1, _⟩ => show n.val = win0_15.index t (1 : Fin 2) * 1024 + 1 * n.val; omega

theorem covered15 (i : S2048x1024.Idx) : ∃ t : Fin cfg0.N, (cfg0.win 15).flush t = true ∧ i ∈ ((cfg0.win 15).blk t).view.set := by
  have h0 : (i 0 : Nat) < 2048 := (i 0).isLt
  have h1 : (i 1 : Nat) < 1024 := (i 1).isLt
  obtain ⟨t, ht⟩ : ∃ t : Fin cfg0.N, t.val = (i 0 : Nat) / 512 := ⟨⟨_, by rw [show cfg0.N = 4 from N_0]; omega⟩, rfl⟩
  refine ⟨t, flush0_15 _, ?_⟩
  obtain ⟨b0, b1⟩ := idx15 t
  show i ∈ ((View.whole main_v0_3).slice (win0_15.rect t)).set
  rw [View.set_slice_whole, Rect.mem_set_unit]
  intro a
  match a with
  | ⟨0, _⟩ => show win0_15.index t (0 : Fin 2) * 512 ≤ (i 0 : Nat) ∧ (i 0 : Nat) < win0_15.index t (0 : Fin 2) * 512 + 512; omega
  | ⟨1, _⟩ => show win0_15.index t (1 : Fin 2) * 1024 ≤ (i 1 : Nat) ∧ (i 1 : Nat) < win0_15.index t (1 : Fin 2) * 1024 + 1024; omega

theorem final15 (c : Dev nD) : (dats m 0 c).arrAt 15 cfg0.N
    = Y (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 15 (Y (V m c main_arg1) (V m c main_arg2) (V m c main_arg3) (V m c main_arg4) (V m c main_arg5))
    (fun t _ => flushed15_eq m c t) covered15

theorem value16 (c : Dev nD) (t : Fin cfg0.N) (r : Fin 512) (n : Fin 1024) :
    out0_16 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix2 r n)
      = zRow (V m c main_arg1) (V m c main_arg2) (V m c main_arg3) (V m c main_arg4) (V m c main_arg5) (rowAt t r) n := by
  rw [out16_apply, zB_eq]

theorem flushed16_eq (c : Dev nD) (t : Fin cfg0.N) :
    (dats m 0 c).flushed 16 t = ((cfg0.win 16).blk t).view.read (Elt Ideal)
      (Z (V m c main_arg1) (V m c main_arg2) (V m c main_arg3) (V m c main_arg4) (V m c main_arg5)) := by
  obtain ⟨b0, b1⟩ := idx16 t
  rw [flushed16]
  funext y
  obtain ⟨r, n, rfl⟩ : ∃ (r : Fin 512) (n : Fin 1024), y = ix2 r n := ⟨y 0, y 1, eq_ix2 y⟩
  refine (value16 m c t r n).trans ?_
  show (Z (V m c main_arg1) (V m c main_arg2) (V m c main_arg3) (V m c main_arg4) (V m c main_arg5)) (ix2 (rowAt t r) n)
    = (Z (V m c main_arg1) (V m c main_arg2) (V m c main_arg3) (V m c main_arg4) (V m c main_arg5)) (((cfg0.win 16).blk t).view.emb (ix2 r n))
  refine congrArg (Z (V m c main_arg1) (V m c main_arg2) (V m c main_arg3) (V m c main_arg4) (V m c main_arg5)) ?_
  funext a; apply Fin.ext
  match a with
  | ⟨0, _⟩ => show t.val * 512 + r.val = win0_16.index t (0 : Fin 2) * 512 + 1 * r.val; omega
  | ⟨1, _⟩ => show n.val = win0_16.index t (1 : Fin 2) * 1024 + 1 * n.val; omega

theorem covered16 (i : S2048x1024.Idx) : ∃ t : Fin cfg0.N, (cfg0.win 16).flush t = true ∧ i ∈ ((cfg0.win 16).blk t).view.set := by
  have h0 : (i 0 : Nat) < 2048 := (i 0).isLt
  have h1 : (i 1 : Nat) < 1024 := (i 1).isLt
  obtain ⟨t, ht⟩ : ∃ t : Fin cfg0.N, t.val = (i 0 : Nat) / 512 := ⟨⟨_, by rw [show cfg0.N = 4 from N_0]; omega⟩, rfl⟩
  refine ⟨t, flush0_16 _, ?_⟩
  obtain ⟨b0, b1⟩ := idx16 t
  show i ∈ ((View.whole main_v0_4).slice (win0_16.rect t)).set
  rw [View.set_slice_whole, Rect.mem_set_unit]
  intro a
  match a with
  | ⟨0, _⟩ => show win0_16.index t (0 : Fin 2) * 512 ≤ (i 0 : Nat) ∧ (i 0 : Nat) < win0_16.index t (0 : Fin 2) * 512 + 512; omega
  | ⟨1, _⟩ => show win0_16.index t (1 : Fin 2) * 1024 ≤ (i 1 : Nat) ∧ (i 1 : Nat) < win0_16.index t (1 : Fin 2) * 1024 + 1024; omega

theorem final16 (c : Dev nD) : (dats m 0 c).arrAt 16 cfg0.N
    = Z (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 16 (Z (V m c main_arg1) (V m c main_arg2) (V m c main_arg3) (V m c main_arg4) (V m c main_arg5))
    (fun t _ => flushed16_eq m c t) covered16

theorem value17 (c : Dev nD) (t : Fin cfg0.N) (r : Fin 512) (n : Fin 1024) :
    out0_17 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix2 r n)
      = outRow (fun k => (V m c main_arg0 : S2048x1024.Idx → EReal) (ix2 (rowAt t r) k)) (zRow (V m c main_arg1) (V m c main_arg2) (V m c main_arg3) (V m c main_arg4) (V m c main_arg5) (rowAt t r)) (fun k => (V m c main_arg6 : S1x1024.Idx → EReal) (ix2 0 k)) n := by
  rw [out17_apply, zB_eq, row0, gain]

theorem flushed17_eq (c : Dev nD) (t : Fin cfg0.N) :
    (dats m 0 c).flushed 17 t = ((cfg0.win 17).blk t).view.read (Elt Ideal)
      (OUT (V m c main_arg0) (V m c main_arg1) (V m c main_arg2) (V m c main_arg3) (V m c main_arg4) (V m c main_arg5) (V m c main_arg6)) := by
  obtain ⟨b0, b1⟩ := idx17 t
  rw [flushed17]
  funext y
  obtain ⟨r, n, rfl⟩ : ∃ (r : Fin 512) (n : Fin 1024), y = ix2 r n := ⟨y 0, y 1, eq_ix2 y⟩
  refine (value17 m c t r n).trans ?_
  show (OUT (V m c main_arg0) (V m c main_arg1) (V m c main_arg2) (V m c main_arg3) (V m c main_arg4) (V m c main_arg5) (V m c main_arg6)) (ix2 (rowAt t r) n)
    = (OUT (V m c main_arg0) (V m c main_arg1) (V m c main_arg2) (V m c main_arg3) (V m c main_arg4) (V m c main_arg5) (V m c main_arg6)) (((cfg0.win 17).blk t).view.emb (ix2 r n))
  refine congrArg (OUT (V m c main_arg0) (V m c main_arg1) (V m c main_arg2) (V m c main_arg3) (V m c main_arg4) (V m c main_arg5) (V m c main_arg6)) ?_
  funext a; apply Fin.ext
  match a with
  | ⟨0, _⟩ => show t.val * 512 + r.val = win0_17.index t (0 : Fin 2) * 512 + 1 * r.val; omega
  | ⟨1, _⟩ => show n.val = win0_17.index t (1 : Fin 2) * 1024 + 1 * n.val; omega

theorem covered17 (i : S2048x1024.Idx) : ∃ t : Fin cfg0.N, (cfg0.win 17).flush t = true ∧ i ∈ ((cfg0.win 17).blk t).view.set := by
  have h0 : (i 0 : Nat) < 2048 := (i 0).isLt
  have h1 : (i 1 : Nat) < 1024 := (i 1).isLt
  obtain ⟨t, ht⟩ : ∃ t : Fin cfg0.N, t.val = (i 0 : Nat) / 512 := ⟨⟨_, by rw [show cfg0.N = 4 from N_0]; omega⟩, rfl⟩
  refine ⟨t, flush0_17 _, ?_⟩
  obtain ⟨b0, b1⟩ := idx17 t
  show i ∈ ((View.whole main_v0_5).slice (win0_17.rect t)).set
  rw [View.set_slice_whole, Rect.mem_set_unit]
  intro a
  match a with
  | ⟨0, _⟩ => show win0_17.index t (0 : Fin 2) * 512 ≤ (i 0 : Nat) ∧ (i 0 : Nat) < win0_17.index t (0 : Fin 2) * 512 + 512; omega
  | ⟨1, _⟩ => show win0_17.index t (1 : Fin 2) * 1024 ≤ (i 1 : Nat) ∧ (i 1 : Nat) < win0_17.index t (1 : Fin 2) * 1024 + 1024; omega

theorem final17 (c : Dev nD) : (dats m 0 c).arrAt 17 cfg0.N
    = OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 17 (OUT (V m c main_arg0) (V m c main_arg1) (V m c main_arg2) (V m c main_arg3) (V m c main_arg4) (V m c main_arg5) (V m c main_arg6))
    (fun t _ => flushed17_eq m c t) covered17

end Cert.MergeIdeal.Sum

namespace Cert.MergeRefIdeal.Sum

open Cert.MergeRefIdeal Cert.MergeRefIdeal.Gen Cert.MergeRefIdeal.Read
open Cert.MergeIdeal.Sum (wAt hi lo prod gate yRow outRow colA colB colC brRow ySum zRow BR Y Z OUT)

variable (x a b d : S2048x1024.Idx → EReal) (p : S2048x12800.Idx → EReal) (w : S8x4x128x1024.Idx → EReal) (g : S1x1024.Idx → EReal)

theorem weight0 (k n : Fin 1024) : val_main_v3 (F := Ideal) w (ix2 k n) = wAt w 0 k n := by
  pointwise [val_main_v3, val_main_v2, val_main_v1, val_main_v0]
  rfl

theorem weight1 (k n : Fin 1024) : val_main_v7 (F := Ideal) w (ix2 k n) = wAt w 1 k n := by
  pointwise [val_main_v7, val_main_v6, val_main_v5, val_main_v4]
  rfl

theorem weight2 (k n : Fin 1024) : val_main_v11 (F := Ideal) w (ix2 k n) = wAt w 2 k n := by
  pointwise [val_main_v11, val_main_v10, val_main_v9, val_main_v8]
  rfl

theorem weight3 (k n : Fin 1024) : val_main_v15 (F := Ideal) w (ix2 k n) = wAt w 3 k n := by
  pointwise [val_main_v15, val_main_v14, val_main_v13, val_main_v12]
  rfl

theorem branch0 (r : Fin 2048) (n : Fin 1024) : val_main_v20 (F := Ideal) a w (ix2 r n) = brRow a w 0 r n := by
  pointwise [val_main_v20, val_main_v19]
  exact Finset.sum_congr rfl fun k _ => congrArg (a (ix2 r k) * ·) (weight0 w k n)

theorem branch1 (r : Fin 2048) (n : Fin 1024) : val_main_v22 (F := Ideal) b w (ix2 r n) = brRow b w 1 r n := by
  pointwise [val_main_v22, val_main_v21]
  exact Finset.sum_congr rfl fun k _ => congrArg (b (ix2 r k) * ·) (weight1 w k n)

theorem branch2 (r : Fin 2048) (n : Fin 1024) : val_main_v24 (F := Ideal) d w (ix2 r n) = brRow d w 2 r n := by
  pointwise [val_main_v24, val_main_v23]
  exact Finset.sum_congr rfl fun k _ => congrArg (d (ix2 r k) * ·) (weight2 w k n)

theorem gateA (r : Fin 2048) (n : Fin 1024) : val_main_v30 (F := Ideal) p (ix2 r n) = gate (p (ix2 r (colA n))) := by
  pointwise [val_main_v30, val_main_v29, val_main_v28, val_main_v27, val_main_v26, val_main_v25, val_main_v16, val_main_cst, val_main_cst_0]
  rfl

theorem gateB (r : Fin 2048) (n : Fin 1024) : val_main_v37 (F := Ideal) p (ix2 r n) = gate (p (ix2 r (colB n))) := by
  pointwise [val_main_v37, val_main_v36, val_main_v35, val_main_v34, val_main_v33, val_main_v32, val_main_v17, val_main_cst_1, val_main_cst_2]
  rfl

theorem gateC (r : Fin 2048) (n : Fin 1024) : val_main_v45 (F := Ideal) p (ix2 r n) = gate (p (ix2 r (colC n))) := by
  pointwise [val_main_v45, val_main_v44, val_main_v43, val_main_v42, val_main_v41, val_main_v40, val_main_v18, val_main_cst_3, val_main_cst_4]
  rfl

theorem merged (r : Fin 2048) (n : Fin 1024) : val_main_v47 (F := Ideal) a b d p w (ix2 r n) = ySum a b d p w r n := by
  pointwise [val_main_v47, val_main_v46, val_main_v39, val_main_v38, val_main_v31]
  rw [gateA, gateB, gateC, branch0, branch1, branch2]
  rfl

theorem last (r : Fin 2048) (n : Fin 1024) : val_main_v48 (F := Ideal) a b d p w (ix2 r n) = zRow a b d p w r n := by
  pointwise [val_main_v48]
  unfold zRow prod
  exact Finset.sum_congr rfl fun k _ => by rw [merged, weight3]

theorem normed (r : Fin 2048) (n : Fin 1024) : val_main_v62 (F := Ideal) x a b d p w g (ix2 r n)
    = outRow (fun k => x (ix2 r k)) (fun k => val_main_v48 (F := Ideal) a b d p w (ix2 r k)) (fun k => g (ix2 0 k)) n := by
  pointwise [val_main_v62, val_main_v61, val_main_v60, val_main_v59, val_main_v58, val_main_v57, val_main_v56, val_main_v55, val_main_v54,
    val_main_v53, val_main_v52, val_main_v51, val_main_v50, val_main_cst_5, val_main_cst_6, val_main_cst_7]
  rfl

theorem ref_BR0 : val_main_v20 (F := Ideal) a w = BR a w 0 := by
  funext i
  obtain ⟨r, n, rfl⟩ : ∃ (r : Fin 2048) (n : Fin 1024), i = ix2 r n := ⟨i 0, i 1, eq_ix2 i⟩
  exact branch0 a w r n

theorem ref_BR1 : val_main_v22 (F := Ideal) b w = BR b w 1 := by
  funext i
  obtain ⟨r, n, rfl⟩ : ∃ (r : Fin 2048) (n : Fin 1024), i = ix2 r n := ⟨i 0, i 1, eq_ix2 i⟩
  exact branch1 b w r n

theorem ref_BR2 : val_main_v24 (F := Ideal) d w = BR d w 2 := by
  funext i
  obtain ⟨r, n, rfl⟩ : ∃ (r : Fin 2048) (n : Fin 1024), i = ix2 r n := ⟨i 0, i 1, eq_ix2 i⟩
  exact branch2 d w r n

theorem ref_Y : val_main_v49 (F := Ideal) a b d p w = Y a b d p w := by
  funext i
  obtain ⟨r, n, rfl⟩ : ∃ (r : Fin 2048) (n : Fin 1024), i = ix2 r n := ⟨i 0, i 1, eq_ix2 i⟩
  exact merged a b d p w r n

theorem ref_Z : val_main_v48 (F := Ideal) a b d p w = Z a b d p w := by
  funext i
  obtain ⟨r, n, rfl⟩ : ∃ (r : Fin 2048) (n : Fin 1024), i = ix2 r n := ⟨i 0, i 1, eq_ix2 i⟩
  exact last a b d p w r n

theorem ref_OUT : val_main_v62 (F := Ideal) x a b d p w g = OUT x a b d p w g := by
  funext i
  obtain ⟨r, n, rfl⟩ : ∃ (r : Fin 2048) (n : Fin 1024), i = ix2 r n := ⟨i 0, i 1, eq_ix2 i⟩
  exact (normed x a b d p w g r n).trans
    (congrArg (fun z => outRow (fun k => x (ix2 r k)) z (fun k => g (ix2 0 k)) n) (funext fun k => last a b d p w r k))

end Cert.MergeRefIdeal.Sum

namespace Cert.Proof

open Cert.MergeIdeal.Sum

theorem bodies_Merge : Cert.Merge.defs₀ (F := Bits) = Cert.MergeIdeal.defs₀ (F := Bits) :=
  congrArg (Defs.onTc (Λ := Cert.Merge.Λ₀)) (funext fun l => funext fun a => match l, a with
    | 0, _ => rfl
    | ⟨_ + 1, h⟩, _ => absurd h (by omega))

theorem defs_Merge : Cert.Merge.defs (F := Bits) = Cert.MergeIdeal.defs (F := Bits) :=
  congrArg (Pipeline.defs Cert.Merge.pcfgs) bodies_Merge

/-- One run for both texts of the kernel, which is generic in the float operations. -/
theorem frame_Merge : Cert.quiescent_Merge := fun m ρ _ => by
  rw [defs_Merge]; exact Cert.MergeIdeal.Gen.frame (F := Bits) m ρ

theorem frame_MergeIdeal : Cert.quiescent_MergeIdeal := fun m ρ _ => Cert.MergeIdeal.Gen.frame (F := Ideal) m ρ

/-- The reference is a straight-line host program that declares no semaphore. -/
theorem frame_MergeRefIdeal : Cert.quiescent_MergeRefIdeal := fun m ρ _ =>
  (θ_run Cert.MergeRefIdeal.defs _ _).mono (fun r h => ⟨fun c => (h c).2.2.2.2.2.2, sem_eq_zero_of_no_sems (by decide) r.2⟩)
    (Cert.MergeRefIdeal.Value.run (F := Ideal) m ρ)

theorem algebraic_Merge : Cert.algebraic_MergeIdeal_MergeRefIdeal := fun m g m' g' _ hagree =>
  ⟨fun c => BR (m ((c.tc : Thread Cert.MergeIdeal.nD Cert.MergeIdeal.τ).loc Cert.MergeIdeal.main_arg1)) (m ((c.tc : Thread Cert.MergeIdeal.nD Cert.MergeIdeal.τ).loc Cert.MergeIdeal.main_arg5)) 0,
    fun c => BR (m ((c.tc : Thread Cert.MergeIdeal.nD Cert.MergeIdeal.τ).loc Cert.MergeIdeal.main_arg2)) (m ((c.tc : Thread Cert.MergeIdeal.nD Cert.MergeIdeal.τ).loc Cert.MergeIdeal.main_arg5)) 1,
    fun c => BR (m ((c.tc : Thread Cert.MergeIdeal.nD Cert.MergeIdeal.τ).loc Cert.MergeIdeal.main_arg3)) (m ((c.tc : Thread Cert.MergeIdeal.nD Cert.MergeIdeal.τ).loc Cert.MergeIdeal.main_arg5)) 2,
    fun c => Y (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)),
    fun c => Z (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)),
    fun c => OUT (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)),
    (θ_run Cert.MergeIdeal.defs _ _).mono (fun r h c => ⟨(h c).1.trans (final12 m c), (h c).2.1.trans (final13 m c), (h c).2.2.1.trans (final14 m c), (h c).2.2.2.1.trans (final15 m c), (h c).2.2.2.2.1.trans (final16 m c), (h c).2.2.2.2.2.1.trans (final17 m c), (h c).2.2.2.2.2.2⟩)
      (Cert.MergeIdeal.Value.run_blocks m g),
    (θ_run Cert.MergeRefIdeal.defs _ _).mono (fun r h c => by
        obtain ⟨a0, a1, a2, a3, a4, a5, a6⟩ := hagree c
        obtain ⟨r0, r1, r2, r3, r4, r5, ra⟩ := h c
        refine ⟨?_, ?_, ?_, ?_, ?_, ?_, ra⟩
        · refine (r0.trans (Cert.MergeRefIdeal.Read.val_main_v20_eq _ _)).trans ?_
          rw [a1, a5]; exact Cert.MergeRefIdeal.Sum.ref_BR0 _ _
        · refine (r1.trans (Cert.MergeRefIdeal.Read.val_main_v22_eq _ _)).trans ?_
          rw [a2, a5]; exact Cert.MergeRefIdeal.Sum.ref_BR1 _ _
        · refine (r2.trans (Cert.MergeRefIdeal.Read.val_main_v24_eq _ _)).trans ?_
          rw [a3, a5]; exact Cert.MergeRefIdeal.Sum.ref_BR2 _ _
        · refine (r3.trans (Cert.MergeRefIdeal.Read.val_main_v49_eq _ _ _ _ _)).trans ?_
          rw [a1, a2, a3, a4, a5]; exact Cert.MergeRefIdeal.Sum.ref_Y _ _ _ _ _
        · refine (r4.trans (Cert.MergeRefIdeal.Read.val_main_v48_eq _ _ _ _ _)).trans ?_
          rw [a1, a2, a3, a4, a5]; exact Cert.MergeRefIdeal.Sum.ref_Z _ _ _ _ _
        · refine (r5.trans (Cert.MergeRefIdeal.Read.val_main_v62_eq m' c)).trans ?_
          rw [a0, a1, a2, a3, a4, a5, a6]; exact Cert.MergeRefIdeal.Sum.ref_OUT _ _ _ _ _ _ _)
      (Cert.MergeRefIdeal.Value.run m' g')⟩

end Cert.Proof

end
-- ==== Proof.GatedBlock.lean ====
/- The third branch after its convolution: one row of the normed and gated result over the extended reals, and one block
   of 512 rows in the kernel. -/
module

public import proofs.«01_k».proof.Proof.Gen.GatedIdeal.Value
public import Idealize.ShloMosaic.Lib.Pointwise

@[expose] public section

set_option maxRecDepth 16384

noncomputable section

open Idealize.ShloMosaic Idealize.ShloMosaic.TcCoe Idealize.SL.Sem

namespace Cert.GatedIdeal.Sum

open Cert.GatedIdeal Cert.GatedIdeal.Gen Cert.GatedIdeal.Value

/-! ## One row -/

/-- A number times its logistic function. -/
def silu (x : EReal) : EReal := x * Ideal.div 1 (1 + Ideal.exp (-x))

/-- The row without its mean. -/
def centred (x : Fin 1024 → EReal) (n : Fin 1024) : EReal :=
  x n - Ideal.div (∑ k : Fin 1024, x k) (Ideal.ofBits .f32 0x44800000#32)

/-- The layer norm of the row `x` with the gain `g` and the shift `b`. -/
def normRow (x g b : Fin 1024 → EReal) (n : Fin 1024) : EReal :=
  centred x n * Ideal.rsqrt (Ideal.div (∑ k : Fin 1024, centred x k * centred x k) (Ideal.ofBits .f32 0x44800000#32)
    + Ideal.ofBits .f32 0x3727C5AC#32) * g n + b n

/-- The normed row through its silu, times the silu of the gate. -/
def gatedRow (x p g b : Fin 1024 → EReal) (n : Fin 1024) : EReal := silu (normRow x g b n) * silu (p n)

/-! ## The values of one block -/

/-- A row of the gate from its two halves. -/
def half (u v : Vec Ideal S512x512 .f32) (r : Fin 512) (n : Fin 1024) : EReal :=
  if h : n.val < 512 then u (ix2 r ⟨n.val, h⟩) else v (ix2 r ⟨n.val - 512, by omega⟩)

theorem pay2_apply (u v : Vec Ideal S512x512 .f32) (r : Fin 512) (n : Fin 1024) : k0_pay2 u v (ix2 r n) = half u v r n := by
  pointwise [k0_pay2]
  rfl

theorem pay4_apply (u v : Vec Ideal S512x512 .f32) (r : Fin 512) (n : Fin 1024) :
    k0_pay4 u v (ix2 r n) = 1 + Ideal.exp (-half u v r n) := by
  rw [← pay2_apply]
  pointwise [k0_pay4]
  rw [zero_sub]

theorem pay3_apply (x : Vec Ideal S512x1024 .f32) (g b : Vec Ideal S1x1024 .f32) (r : Fin 512) (n : Fin 1024) :
    k0_pay3 x g b (ix2 r n) = silu (normRow (fun k => x (ix2 r k)) (fun k => g (ix2 0 k)) (fun k => b (ix2 0 k)) n) := by
  pointwise [k0_pay3]
  rw [zero_sub]
  rfl

theorem pay1_apply (p y e : Vec Ideal S512x1024 .f32) (r : Fin 512) (n : Fin 1024) :
    k0_pay1 (F := Ideal) p y e (ix2 r n) = y (ix2 r n) * (p (ix2 r n) * Ideal.div 1 (e (ix2 r n))) := by
  pointwise [k0_pay1]

theorem hz : (![0, 0] : Fin 2 → Nat) = fun _ => 0 := funext fun a => by match a with | ⟨0, _⟩ => rfl | ⟨1, _⟩ => rfl

/-- A row of the block that the kernel writes. -/
theorem out5_apply (x0 : Vec Ideal S512x1024 .f32) (x1 x2 : Vec Ideal S512x512 .f32) (x3 x4 : Vec Ideal S1x1024 .f32)
    (r : Fin 512) (n : Fin 1024) :
    out0_5 x0 x1 x2 x3 x4 (ix2 r n)
      = gatedRow (fun k => x0 (ix2 r k)) (half x1 x2 r) (fun k => x3 (ix2 0 k)) (fun k => x4 (ix2 0 k)) n := by
  unfold out0_5
  rw [View.canon_unit_zero hz, pay1_apply, pay2_apply, pay3_apply, pay4_apply, View.ld_unit_zero hz _ x0, View.ld_unit_zero hz _ x1,
    View.ld_unit_zero hz _ x2, View.ld_unit_zero hz _ x3, View.ld_unit_zero hz _ x4]
  rfl

end Cert.GatedIdeal.Sum

end
-- ==== Proof.GatedValue.lean ====
/- The third branch after its convolution: the layer norm, its silu and the gate, in blocks of 512 rows. -/
module

public import proofs.«01_k».proof.Defs
public import proofs.«01_k».proof.Proof.GatedBlock
public import proofs.«01_k».proof.Proof.Gen.Gated
public import proofs.«01_k».proof.Proof.Gen.GatedRefIdeal.Run
public import proofs.«01_k».proof.Proof.Gen.GatedRefIdeal.Read

@[expose] public section

set_option maxRecDepth 16384

noncomputable section

open Idealize.ShloMosaic Idealize.ShloMosaic.TcCoe Idealize.SL.Sem

namespace Cert.GatedIdeal.Sum

open Cert.GatedIdeal Cert.GatedIdeal.Gen Cert.GatedIdeal.Value

/-! ## The result, by rows of the arguments -/

/-- The columns of the projection that hold the branch's gate. -/
def col (n : Fin 1024) : Fin 12800 := ⟨8704 + n.val, by omega⟩

def OUT (x : S2048x1024.Idx → EReal) (p : S2048x12800.Idx → EReal) (g b : S1x1024.Idx → EReal) : S2048x1024.Idx → EReal :=
  fun i => gatedRow (fun k => x (ix2 (i 0) k)) (fun k => p (ix2 (i 0) (col k))) (fun k => g (ix2 0 k)) (fun k => b (ix2 0 k)) (i 1)

/-! ## The windows -/

variable (m : (ℓ : Loc nD τ sig) → Buf (Elt Ideal) ℓ) (ρ : Dev nD → PrngReg)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 17 :=
  (by decide +kernel : ∀ t : Fin grid0.N, _)
theorem idx2 : ∀ t : Fin cfg0.N, win0_2.index t (0 : Fin 2) = t.val ∧ win0_2.index t (1 : Fin 2) = 18 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

/-- The row of the arguments that is row `r` of the blocks at the point `t`. -/
def rowAt (t : Fin cfg0.N) (r : Fin 512) : Fin 2048 := ⟨t.val * 512 + r.val, by have := Nat.lt_of_lt_of_eq t.isLt (N_0 : cfg0.N = 4); omega⟩

theorem row0 (c : Dev nD) (t : Fin cfg0.N) (r : Fin 512) : (fun k : Fin 1024 => iblk m c 0 t (ix2 r k))
    = fun k => (V m c main_arg0 : S2048x1024.Idx → EReal) (ix2 (rowAt t r) k) := by
  obtain ⟨a0, a1⟩ := idx0 t
  funext k
  refine congrArg (V m c main_arg0 : S2048x1024.Idx → EReal) (?_ : ((cfg0.win 0).blk t).view.emb (ix2 r k) = ix2 (rowAt t r) k)
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem gate (c : Dev nD) (t : Fin cfg0.N) (r : Fin 512) : half (iblk m c 1 t) (iblk m c 2 t) r
    = fun n => (V m c main_arg1 : S2048x12800.Idx → EReal) (ix2 (rowAt t r) (col n)) := by
  obtain ⟨a0, a1⟩ := idx1 t
  obtain ⟨b0, b1⟩ := idx2 t
  funext n
  unfold half
  by_cases h : n.val < 512
  · rw [dif_pos h]
    refine congrArg (V m c main_arg1 : S2048x12800.Idx → EReal) (?_ : ((cfg0.win 1).blk t).view.emb (ix2 r ⟨n.val, h⟩) = ix2 (rowAt t r) (col n))
    funext a; apply Fin.ext
    match a with
    | ⟨0, _⟩ => show win0_1.index t (0 : Fin 2) * 512 + 1 * r.val = t.val * 512 + r.val; omega
    | ⟨1, _⟩ => show win0_1.index t (1 : Fin 2) * 512 + 1 * n.val = 8704 + n.val; omega
  · rw [dif_neg h]
    refine congrArg (V m c main_arg1 : S2048x12800.Idx → EReal) (?_ : ((cfg0.win 2).blk t).view.emb (ix2 r ⟨n.val - 512, by omega⟩) = ix2 (rowAt t r) (col n))
    funext a; apply Fin.ext
    match a with
    | ⟨0, _⟩ => show win0_2.index t (0 : Fin 2) * 512 + 1 * r.val = t.val * 512 + r.val; omega
    | ⟨1, _⟩ => show win0_2.index t (1 : Fin 2) * 512 + 1 * (n.val - 512) = 8704 + n.val; omega

theorem gain (c : Dev nD) (t : Fin cfg0.N) : (fun k : Fin 1024 => iblk m c 3 t (ix2 0 k))
    = fun k => (V m c main_arg2 : S1x1024.Idx → EReal) (ix2 0 k) := by
  obtain ⟨a0, a1⟩ := idx3 t
  funext k
  refine congrArg (V m c main_arg2 : S1x1024.Idx → EReal) (?_ : ((cfg0.win 3).blk t).view.emb (ix2 0 k) = ix2 0 k)
  funext a; apply Fin.ext
  match a with
  | ⟨0, _⟩ => show win0_3.index t (0 : Fin 2) * 1 + 1 * 0 = 0; omega
  | ⟨1, _⟩ => show win0_3.index t (1 : Fin 2) * 1024 + 1 * k.val = k.val; omega

theorem shift (c : Dev nD) (t : Fin cfg0.N) : (fun k : Fin 1024 => iblk m c 4 t (ix2 0 k))
    = fun k => (V m c main_arg3 : S1x1024.Idx → EReal) (ix2 0 k) := by
  obtain ⟨a0, a1⟩ := idx4 t
  funext k
  refine congrArg (V m c main_arg3 : S1x1024.Idx → EReal) (?_ : ((cfg0.win 4).blk t).view.emb (ix2 0 k) = ix2 0 k)
  funext a; apply Fin.ext
  match a with
  | ⟨0, _⟩ => show win0_4.index t (0 : Fin 2) * 1 + 1 * 0 = 0; omega
  | ⟨1, _⟩ => show win0_4.index t (1 : Fin 2) * 1024 + 1 * k.val = k.val; omega

theorem flushed5_eq (c : Dev nD) (t : Fin cfg0.N) :
    (dats m 0 c).flushed 5 t = ((cfg0.win 5).blk t).view.read (Elt Ideal)
      (OUT (V m c main_arg0) (V m c main_arg1) (V m c main_arg2) (V m c main_arg3)) := by
  obtain ⟨b0, b1⟩ := idx5 t
  rw [flushed5]
  funext y
  obtain ⟨r, n, rfl⟩ : ∃ (r : Fin 512) (n : Fin 1024), y = ix2 r n := ⟨y 0, y 1, eq_ix2 y⟩
  refine (out5_apply (iblk m c 0 t) (iblk m c 1 t) (iblk m c 2 t) (iblk m c 3 t) (iblk m c 4 t) r n).trans ?_
  rw [row0, gate, gain, shift]
  show (OUT (V m c main_arg0) (V m c main_arg1) (V m c main_arg2) (V m c main_arg3)) (ix2 (rowAt t r) n)
    = (OUT (V m c main_arg0) (V m c main_arg1) (V m c main_arg2) (V m c main_arg3)) (((cfg0.win 5).blk t).view.emb (ix2 r n))
  refine congrArg (OUT (V m c main_arg0) (V m c main_arg1) (V m c main_arg2) (V m c main_arg3)) ?_
  funext a; apply Fin.ext
  match a with
  | ⟨0, _⟩ => show t.val * 512 + r.val = win0_5.index t (0 : Fin 2) * 512 + 1 * r.val; omega
  | ⟨1, _⟩ => show n.val = win0_5.index t (1 : Fin 2) * 1024 + 1 * n.val; omega

theorem covered5 (i : S2048x1024.Idx) : ∃ t : Fin cfg0.N, (cfg0.win 5).flush t = true ∧ i ∈ ((cfg0.win 5).blk t).view.set := by
  have h0 : (i 0 : Nat) < 2048 := (i 0).isLt
  have h1 : (i 1 : Nat) < 1024 := (i 1).isLt
  obtain ⟨t, ht⟩ : ∃ t : Fin cfg0.N, t.val = (i 0 : Nat) / 512 := ⟨⟨_, by rw [show cfg0.N = 4 from N_0]; omega⟩, rfl⟩
  refine ⟨t, flush0_5 _, ?_⟩
  obtain ⟨b0, b1⟩ := idx5 t
  show i ∈ ((View.whole main_v0).slice (win0_5.rect t)).set
  rw [View.set_slice_whole, Rect.mem_set_unit]
  intro a
  match a with
  | ⟨0, _⟩ => show win0_5.index t (0 : Fin 2) * 512 ≤ (i 0 : Nat) ∧ (i 0 : Nat) < win0_5.index t (0 : Fin 2) * 512 + 512; omega
  | ⟨1, _⟩ => show win0_5.index t (1 : Fin 2) * 1024 ≤ (i 1 : Nat) ∧ (i 1 : Nat) < win0_5.index t (1 : Fin 2) * 1024 + 1024; omega

/-- What the kernel leaves in its result. -/
theorem final5 (c : Dev nD) : (dats m 0 c).arrAt 5 cfg0.N
    = OUT (m ((c : Thread nD τ).loc main_arg0)) (m ((c : Thread nD τ).loc main_arg1)) (m ((c : Thread nD τ).loc main_arg2)) (m ((c : Thread nD τ).loc main_arg3)) :=
  (dats m 0 c).arrAt_eq_of_cover 5 (OUT (V m c main_arg0) (V m c main_arg1) (V m c main_arg2) (V m c main_arg3))
    (fun t _ => flushed5_eq m c t) covered5

end Cert.GatedIdeal.Sum

namespace Cert.GatedRefIdeal.Sum

open Cert.GatedRefIdeal Cert.GatedRefIdeal.Gen Cert.GatedRefIdeal.Read
open Cert.GatedIdeal.Sum (silu centred normRow gatedRow col OUT)

variable (x : S2048x1024.Idx → EReal) (p : S2048x12800.Idx → EReal) (g b : S1x1024.Idx → EReal)

theorem centred_apply (r : Fin 2048) (n : Fin 1024) : val_main_v5 (F := Ideal) x (ix2 r n) = centred (fun k => x (ix2 r k)) n := by
  pointwise [val_main_v5, val_main_v4, val_main_v3, val_main_v2, val_main_v1, val_main_v0, val_main_cst, val_main_cst_0]
  rfl

theorem norm_apply (r : Fin 2048) (n : Fin 1024) : val_main_v19 (F := Ideal) x g b (ix2 r n)
    = normRow (fun k => x (ix2 r k)) (fun k => g (ix2 0 k)) (fun k => b (ix2 0 k)) n := by
  pointwise [val_main_v19, val_main_v18, val_main_v17, val_main_v16, val_main_v15, val_main_v14, val_main_v13, val_main_v12, val_main_v11,
    val_main_v10, val_main_v9, val_main_v8, val_main_v7, val_main_v6, val_main_cst_1, val_main_cst_2, val_main_cst_3]
  simp only [centred_apply]
  rfl

theorem act_apply (r : Fin 2048) (n : Fin 1024) : val_main_v20 (F := Ideal) x g b (ix2 r n)
    = silu (val_main_v19 (F := Ideal) x g b (ix2 r n)) := by
  pointwise [val_main_v20, val_main_call0_v5, val_main_call0_v4, val_main_call0_v3, val_main_call0_v2, val_main_call0_v1, val_main_call0_v0,
    val_main_call0_cst, val_main_call0_cst_0]
  rfl

theorem gate_apply (r : Fin 2048) (n : Fin 1024) : val_main_v22 (F := Ideal) p (ix2 r n) = silu (p (ix2 r (col n))) := by
  pointwise [val_main_v22, val_main_call1_v5, val_main_call1_v4, val_main_call1_v3, val_main_call1_v2, val_main_call1_v1, val_main_call1_v0,
    val_main_call1_cst, val_main_call1_cst_0, val_main_v21]
  rfl

/-- What the reference computes. -/
theorem ref_OUT : val_main_v24 (F := Ideal) x p g b = OUT x p g b := by
  funext i
  obtain ⟨r, n, rfl⟩ : ∃ (r : Fin 2048) (n : Fin 1024), i = ix2 r n := ⟨i 0, i 1, eq_ix2 i⟩
  show val_main_v20 (F := Ideal) x g b (ix2 r n) * val_main_v22 (F := Ideal) p (ix2 r n) = _
  rw [act_apply, gate_apply, norm_apply]
  rfl

end Cert.GatedRefIdeal.Sum

namespace Cert.Proof

open Cert.GatedIdeal.Sum

theorem bodies_Gated : Cert.Gated.defs₀ (F := Bits) = Cert.GatedIdeal.defs₀ (F := Bits) :=
  congrArg (Defs.onTc (Λ := Cert.Gated.Λ₀)) (funext fun l => funext fun a => match l, a with
    | 0, _ => rfl
    | ⟨_ + 1, h⟩, _ => absurd h (by omega))

theorem defs_Gated : Cert.Gated.defs (F := Bits) = Cert.GatedIdeal.defs (F := Bits) :=
  congrArg (Pipeline.defs Cert.Gated.pcfgs) bodies_Gated

/-- One run for both texts of the kernel, which is generic in the float operations. -/
theorem frame_Gated : Cert.quiescent_Gated := fun m ρ _ => by
  rw [defs_Gated]; exact Cert.GatedIdeal.Gen.frame (F := Bits) m ρ

theorem frame_GatedIdeal : Cert.quiescent_GatedIdeal := fun m ρ _ => Cert.GatedIdeal.Gen.frame (F := Ideal) m ρ

/-- The reference is a straight-line host program that declares no semaphore. -/
theorem frame_GatedRefIdeal : Cert.quiescent_GatedRefIdeal := fun m ρ _ =>
  (θ_run Cert.GatedRefIdeal.defs _ _).mono (fun r h => ⟨fun c => (h c).2, sem_eq_zero_of_no_sems (by decide) r.2⟩)
    (Cert.GatedRefIdeal.Value.run (F := Ideal) m ρ)

theorem algebraic_Gated : Cert.algebraic_GatedIdeal_GatedRefIdeal := fun m g m' g' _ hagree =>
  ⟨fun c => OUT (m ((c.tc : Thread Cert.GatedIdeal.nD Cert.GatedIdeal.τ).loc Cert.GatedIdeal.main_arg0))
      (m ((c.tc : Thread Cert.GatedIdeal.nD Cert.GatedIdeal.τ).loc Cert.GatedIdeal.main_arg1))
      (m ((c.tc : Thread Cert.GatedIdeal.nD Cert.GatedIdeal.τ).loc Cert.GatedIdeal.main_arg2))
      (m ((c.tc : Thread Cert.GatedIdeal.nD Cert.GatedIdeal.τ).loc Cert.GatedIdeal.main_arg3)),
    (θ_run Cert.GatedIdeal.defs _ _).mono (fun r h c => ⟨(h c).1.trans (final5 m c), (h c).2⟩)
      (Cert.GatedIdeal.Value.run_blocks m g),
    (θ_run Cert.GatedRefIdeal.defs _ _).mono (fun r h c => by
        obtain ⟨a0, a1, a2, a3⟩ := hagree c
        obtain ⟨r0, ra⟩ := h c
        refine ⟨(r0.trans (Cert.GatedRefIdeal.Read.val_main_v24_eq m' c)).trans ?_, ra⟩
        rw [a0, a1, a2, a3]; exact Cert.GatedRefIdeal.Sum.ref_OUT _ _ _ _)
      (Cert.GatedRefIdeal.Value.run m' g')⟩

end Cert.Proof

end
-- ==== Proof.QkvBlock.lean ====
/- The queries and keys of one block of 512 rows: a head's norm and its rotation over the extended reals, and what the
   kernel's body leaves in its three output buffers. The ten heads are computed by the same expressions, whose
   intermediate values are cut differently. -/
module

public import proofs.«01_k».proof.Proof.Gen.QkvIdeal.Value
public import Idealize.ShloMosaic.Lib.Pointwise

@[expose] public section

set_option maxRecDepth 16384

noncomputable section

open Idealize.ShloMosaic Idealize.ShloMosaic.TcCoe Idealize.SL.Sem

namespace Cert.QkvIdeal.Sum

open Cert.QkvIdeal Cert.QkvIdeal.Gen Cert.QkvIdeal.Value

/-! ## One head of one row -/

/-- The root mean square norm of the head `x` with the gain `g`. -/
def headRow (x g : Fin 128 → EReal) (n : Fin 128) : EReal :=
  x n * Ideal.rsqrt (Ideal.div (∑ k : Fin 128, x k * x k) (Ideal.ofBits .f32 0x43000000#32) + Ideal.ofBits .f32 0x358637BD#32) * g n

/-- Whether the lane `n` is in the second half of its axis: lanes 32 to 63 and 96 to 127. -/
def second (n : Fin 128) : Bool := n.val / 32 % 2 == 1

/-- The lane of the other half of the same axis. -/
def partner (n : Fin 128) : Fin 128 := if second n then ⟨n.val - 32, by omega⟩ else ⟨(n.val + 32) % 128, by omega⟩

/-- The rotation of a head by the tables `c` and `s`. -/
def ropeRow (y c s : Fin 128 → EReal) (n : Fin 128) : EReal := y n * c n + y (partner n) * s n

/-! ## One head of one block -/

section

variable {F : FTy → Type} [FloatOps F]

def scaleBlk (x : Vec F S512x128 .f32) : FVec F S512x128 .f32 :=
  broadcastTo S512x128 (rsqrt (addf (divf (shapeCast S512x1 (multiReduction .add [1] S512 (mulf x x) 0x00000000#32 reduces_S512x128_S512 (.inl rfl) rfl)
    shapeCasts_S512_S512x1) (broadcast S512x1 (Scalar.ofBits .f32 0x43000000#32))) (broadcast S512x1 (Scalar.ofBits .f32 0x358637BD#32))))
    broadcasts_S512x1_S512x128

def normBlk (x : Vec F S512x128 .f32) (g : Vec F S1x128 .f32) : FVec F S512x128 .f32 := k0_pay10 g x (scaleBlk x)

def ropeBlk (y c s : Vec F S512x128 .f32) : FVec F S512x128 .bf16 := k0_pay14 s y (mulf y c) k0_pay12 k0_pay13

end

theorem normBlk_apply (x : Vec Ideal S512x128 .f32) (g : Vec Ideal S1x128 .f32) (r : Fin 512) (n : Fin 128) :
    normBlk x g (ix2 r n) = headRow (fun k => x (ix2 r k)) (fun k => g (ix2 0 k)) n := by
  pointwise [normBlk, scaleBlk, k0_pay10]
  rfl

theorem mask_apply (r : Fin 512) (n : Fin 128) : (cmpi .eq k0_pay12 k0_pay13 : IVec S512x128 1) (ix2 r n) = if second n then 1#1 else 0#1 := by
  pointwise [k0_pay12, k0_pay13]
  revert n
  decide +kernel

theorem ropeBlk_apply (y c s : Vec Ideal S512x128 .f32) (r : Fin 512) (n : Fin 128) :
    ropeBlk (F := Ideal) y c s (ix2 r n) = ropeRow (fun k => y (ix2 r k)) (fun k => c (ix2 r k)) (fun k => s (ix2 r k)) n := by
  have h := mask_apply r n
  unfold ropeBlk k0_pay14
  generalize (cmpi .eq k0_pay12 k0_pay13 : IVec S512x128 1) = M at h ⊢
  pointwise
  rw [h]
  unfold ropeRow
  congr 2
  by_cases hn : second n = true
  · rw [if_pos hn]
    show y _ = y (ix2 r (partner n))
    unfold partner
    rw [if_pos hn]
    have h2 : n.val / 32 % 2 = 1 := by simpa [second] using hn
    exact congrArg (fun k => y (ix2 r k)) (Fin.ext (by show (n.val + 128 - 32) % 128 = n.val - 32; omega))
  · rw [if_neg hn]
    show y _ = y (ix2 r (partner n))
    unfold partner
    rw [if_neg hn]
    exact congrArg (fun k => y (ix2 r k)) (Fin.ext (by show (n.val + 128 - 96) % 128 = (n.val + 32) % 128; omega))

theorem hz : (![0, 0] : Fin 2 → Nat) = fun _ => 0 := funext fun a => by match a with | ⟨0, _⟩ => rfl | ⟨1, _⟩ => rfl

/-! ## The queries' block: eight heads of 128 columns -/

/-- Column `d` of head `g`, and back. -/
def colq (g : Fin 8) (d : Fin 128) : Fin 1024 := ⟨128 * g.val + d.val, by omega⟩
def headq (m : Fin 1024) : Fin 8 := ⟨m.val / 128, by omega⟩
def laneq (m : Fin 1024) : Fin 128 := ⟨m.val % 128, by omega⟩
theorem head_colq (g : Fin 8) (d : Fin 128) : headq (colq g d) = g := Fin.ext (by show (128 * g.val + d.val) / 128 = g.val; omega)
theorem lane_colq (g : Fin 8) (d : Fin 128) : laneq (colq g d) = d := Fin.ext (by show (128 * g.val + d.val) % 128 = d.val; omega)
theorem col_headq (m : Fin 1024) : colq (headq m) (laneq m) = m :=
  Fin.ext (by show 128 * (m.val / 128) + m.val % 128 = m.val; omega)

/-- The columns of one head of a block. -/
def hdq {F : FTy → Type} {e : EltTy} (x : Vec F S512x1024 e) (g : Fin 8) : Vec F S512x128 e := fun i => x (ix2 (i 0) (colq g (i 1)))

abbrev q0 : Rect S512x1024 := Rect.unit (s := S512x1024) ![0, 0] S512x128.size inb_S512x1024_S512x128_0_0
theorem emb_q0 (i : S512x128.Idx) : q0.emb i = ix2 (i 0) (colq 0 (i 1)) := funext fun a => Fin.ext (by
  match a with
  | ⟨0, _⟩ => show 0 + 1 * (i 0).val = (i 0).val; omega
  | ⟨1, _⟩ => show 0 + 1 * (i 1).val = 128 * 0 + (i 1).val; omega)

abbrev q1 : Rect S512x1024 := Rect.unit (s := S512x1024) ![0, 128] S512x128.size inb_S512x1024_S512x128_0_128
theorem emb_q1 (i : S512x128.Idx) : q1.emb i = ix2 (i 0) (colq 1 (i 1)) := funext fun a => Fin.ext (by
  match a with
  | ⟨0, _⟩ => show 0 + 1 * (i 0).val = (i 0).val; omega
  | ⟨1, _⟩ => show 128 + 1 * (i 1).val = 128 * 1 + (i 1).val; omega)

abbrev q2 : Rect S512x1024 := Rect.unit (s := S512x1024) ![0, 256] S512x128.size inb_S512x1024_S512x128_0_256
theorem emb_q2 (i : S512x128.Idx) : q2.emb i = ix2 (i 0) (colq 2 (i 1)) := funext fun a => Fin.ext (by
  match a with
  | ⟨0, _⟩ => show 0 + 1 * (i 0).val = (i 0).val; omega
  | ⟨1, _⟩ => show 256 + 1 * (i 1).val = 128 * 2 + (i 1).val; omega)

abbrev q3 : Rect S512x1024 := Rect.unit (s := S512x1024) ![0, 384] S512x128.size inb_S512x1024_S512x128_0_384
theorem emb_q3 (i : S512x128.Idx) : q3.emb i = ix2 (i 0) (colq 3 (i 1)) := funext fun a => Fin.ext (by
  match a with
  | ⟨0, _⟩ => show 0 + 1 * (i 0).val = (i 0).val; omega
  | ⟨1, _⟩ => show 384 + 1 * (i 1).val = 128 * 3 + (i 1).val; omega)

abbrev q4 : Rect S512x1024 := Rect.unit (s := S512x1024) ![0, 512] S512x128.size inb_S512x1024_S512x128_0_512
theorem emb_q4 (i : S512x128.Idx) : q4.emb i = ix2 (i 0) (colq 4 (i 1)) := funext fun a => Fin.ext (by
  match a with
  | ⟨0, _⟩ => show 0 + 1 * (i 0).val = (i 0).val; omega
  | ⟨1, _⟩ => show 512 + 1 * (i 1).val = 128 * 4 + (i 1).val; omega)

abbrev q5 : Rect S512x1024 := Rect.unit (s := S512x1024) ![0, 640] S512x128.size inb_S512x1024_S512x128_0_640
theorem emb_q5 (i : S512x128.Idx) : q5.emb i = ix2 (i 0) (colq 5 (i 1)) := funext fun a => Fin.ext (by
  match a with
  | ⟨0, _⟩ => show 0 + 1 * (i 0).val = (i 0).val; omega
  | ⟨1, _⟩ => show 640 + 1 * (i 1).val = 128 * 5 + (i 1).val; omega)

abbrev q6 : Rect S512x1024 := Rect.unit (s := S512x1024) ![0, 768] S512x128.size inb_S512x1024_S512x128_0_768
theorem emb_q6 (i : S512x128.Idx) : q6.emb i = ix2 (i 0) (colq 6 (i 1)) := funext fun a => Fin.ext (by
  match a with
  | ⟨0, _⟩ => show 0 + 1 * (i 0).val = (i 0).val; omega
  | ⟨1, _⟩ => show 768 + 1 * (i 1).val = 128 * 6 + (i 1).val; omega)

abbrev q7 : Rect S512x1024 := Rect.unit (s := S512x1024) ![0, 896] S512x128.size inb_S512x1024_S512x128_0_896
theorem emb_q7 (i : S512x128.Idx) : q7.emb i = ix2 (i 0) (colq 7 (i 1)) := funext fun a => Fin.ext (by
  match a with
  | ⟨0, _⟩ => show 0 + 1 * (i 0).val = (i 0).val; omega
  | ⟨1, _⟩ => show 896 + 1 * (i 1).val = 128 * 7 + (i 1).val; omega)

theorem at_colq {e : EltTy} (P : Fin 8 → S512x128.Idx → Elt Ideal e) (g : Fin 8) (r : Fin 512) (d : Fin 128) (x : S512x128.Idx)
    (hx : x = ix2 r d) (y : S512x1024.Idx) (hy : y = ix2 r (colq g d)) : P g x = P (headq (y 1)) (ix2 (y 0) (laneq (y 1))) := by
  subst hy hx
  show P g (ix2 r d) = P (headq (colq g d)) (ix2 r (laneq (colq g d)))
  rw [head_colq, lane_colq]

/-- A block stored head by head, read at a head's column. -/
theorem canon_headsq {e : EltTy} (P : Fin 8 → S512x128.Idx → Elt Ideal e) (g : Fin 8) (r : Fin 512) (d : Fin 128) :
    View.canon [⟨q7, P 7⟩, ⟨q6, P 6⟩, ⟨q5, P 5⟩, ⟨q4, P 4⟩, ⟨q3, P 3⟩, ⟨q2, P 2⟩, ⟨q1, P 1⟩, ⟨q0, P 0⟩] (ix2 r (colq g d) : S512x1024.Idx) = P g (ix2 r d) := by
  rw [View.canon_apply_of_pieces (S := S512x1024) (fun y => P (headq (y 1)) (ix2 (y 0) (laneq (y 1)))) _ ?_ _
    (View.cover_of_tiled [⟨q7, P 7⟩, ⟨q6, P 6⟩, ⟨q5, P 5⟩, ⟨q4, P 4⟩, ⟨q3, P 3⟩, ⟨q2, P 2⟩, ⟨q1, P 1⟩, ⟨q0, P 0⟩] S512x128.size (by rfl) _)]
  · show P (headq (colq g d)) (ix2 r (laneq (colq g d))) = _
    rw [head_colq, lane_colq]
  · intro p hp x
    simp only [List.mem_cons, List.not_mem_nil, or_false] at hp
    rcases hp with rfl | rfl | rfl | rfl | rfl | rfl | rfl | rfl
    · exact at_colq P 7 (x 0) (x 1) x (eq_ix2 x) _ (emb_q7 x)
    · exact at_colq P 6 (x 0) (x 1) x (eq_ix2 x) _ (emb_q6 x)
    · exact at_colq P 5 (x 0) (x 1) x (eq_ix2 x) _ (emb_q5 x)
    · exact at_colq P 4 (x 0) (x 1) x (eq_ix2 x) _ (emb_q4 x)
    · exact at_colq P 3 (x 0) (x 1) x (eq_ix2 x) _ (emb_q3 x)
    · exact at_colq P 2 (x 0) (x 1) x (eq_ix2 x) _ (emb_q2 x)
    · exact at_colq P 1 (x 0) (x 1) x (eq_ix2 x) _ (emb_q1 x)
    · exact at_colq P 0 (x 0) (x 1) x (eq_ix2 x) _ (emb_q0 x)

theorem slice_q0 {F : FTy → Type} (x : Vec F S512x1024 .f32) :
    extractStridedSlice S512x128 ![0, 0] x slices_S512x1024_o0_0_S512x128 = hdq x 0 := by
  funext i
  obtain ⟨r, n, rfl⟩ : ∃ (r : Fin 512) (n : Fin 128), i = ix2 r n := ⟨i 0, i 1, eq_ix2 i⟩
  pointwise
  exact congrArg (fun k => x (ix2 r k)) (Fin.ext (by show n.val = 128 * 0 + n.val; omega))
theorem slice_q1 {F : FTy → Type} (x : Vec F S512x1024 .f32) :
    extractStridedSlice S512x128 ![0, 128] x slices_S512x1024_o0_128_S512x128 = hdq x 1 := by
  funext i
  obtain ⟨r, n, rfl⟩ : ∃ (r : Fin 512) (n : Fin 128), i = ix2 r n := ⟨i 0, i 1, eq_ix2 i⟩
  pointwise
  rfl
theorem slice_q2 {F : FTy → Type} (x : Vec F S512x1024 .f32) :
    extractStridedSlice S512x128 ![0, 256] x slices_S512x1024_o0_256_S512x128 = hdq x 2 := by
  funext i
  obtain ⟨r, n, rfl⟩ : ∃ (r : Fin 512) (n : Fin 128), i = ix2 r n := ⟨i 0, i 1, eq_ix2 i⟩
  pointwise
  rfl
theorem slice_q3 {F : FTy → Type} (x : Vec F S512x1024 .f32) :
    extractStridedSlice S512x128 ![0, 384] x slices_S512x1024_o0_384_S512x128 = hdq x 3 := by
  funext i
  obtain ⟨r, n, rfl⟩ : ∃ (r : Fin 512) (n : Fin 128), i = ix2 r n := ⟨i 0, i 1, eq_ix2 i⟩
  pointwise
  rfl
theorem slice_q4 {F : FTy → Type} (x : Vec F S512x1024 .f32) :
    extractStridedSlice S512x128 ![0, 512] x slices_S512x1024_o0_512_S512x128 = hdq x 4 := by
  funext i
  obtain ⟨r, n, rfl⟩ : ∃ (r : Fin 512) (n : Fin 128), i = ix2 r n := ⟨i 0, i 1, eq_ix2 i⟩
  pointwise
  rfl
theorem slice_q5 {F : FTy → Type} (x : Vec F S512x1024 .f32) :
    extractStridedSlice S512x128 ![0, 640] x slices_S512x1024_o0_640_S512x128 = hdq x 5 := by
  funext i
  obtain ⟨r, n, rfl⟩ : ∃ (r : Fin 512) (n : Fin 128), i = ix2 r n := ⟨i 0, i 1, eq_ix2 i⟩
  pointwise
  rfl
theorem slice_q6 {F : FTy → Type} (x : Vec F S512x1024 .f32) :
    extractStridedSlice S512x128 ![0, 768] x slices_S512x1024_o0_768_S512x128 = hdq x 6 := by
  funext i
  obtain ⟨r, n, rfl⟩ : ∃ (r : Fin 512) (n : Fin 128), i = ix2 r n := ⟨i 0, i 1, eq_ix2 i⟩
  pointwise
  rfl
theorem slice_q7 {F : FTy → Type} (x : Vec F S512x1024 .f32) :
    extractStridedSlice S512x128 ![0, 896] x slices_S512x1024_o0_896_S512x128 = hdq x 7 := by
  funext i
  obtain ⟨r, n, rfl⟩ : ∃ (r : Fin 512) (n : Fin 128), i = ix2 r n := ⟨i 0, i 1, eq_ix2 i⟩
  pointwise
  rfl

/-! ## The keys' block: two heads of 128 columns -/

/-- Column `d` of head `g`, and back. -/
def colk (g : Fin 2) (d : Fin 128) : Fin 256 := ⟨128 * g.val + d.val, by omega⟩
def headk (m : Fin 256) : Fin 2 := ⟨m.val / 128, by omega⟩
def lanek (m : Fin 256) : Fin 128 := ⟨m.val % 128, by omega⟩
theorem head_colk (g : Fin 2) (d : Fin 128) : headk (colk g d) = g := Fin.ext (by show (128 * g.val + d.val) / 128 = g.val; omega)
theorem lane_colk (g : Fin 2) (d : Fin 128) : lanek (colk g d) = d := Fin.ext (by show (128 * g.val + d.val) % 128 = d.val; omega)
theorem col_headk (m : Fin 256) : colk (headk m) (lanek m) = m :=
  Fin.ext (by show 128 * (m.val / 128) + m.val % 128 = m.val; omega)

/-- The columns of one head of a block. -/
def hdk {F : FTy → Type} {e : EltTy} (x : Vec F S512x256 e) (g : Fin 2) : Vec F S512x128 e := fun i => x (ix2 (i 0) (colk g (i 1)))

abbrev k0 : Rect S512x256 := Rect.unit (s := S512x256) ![0, 0] S512x128.size inb_S512x256_S512x128_0_0
theorem emb_k0 (i : S512x128.Idx) : k0.emb i = ix2 (i 0) (colk 0 (i 1)) := funext fun a => Fin.ext (by
  match a with
  | ⟨0, _⟩ => show 0 + 1 * (i 0).val = (i 0).val; omega
  | ⟨1, _⟩ => show 0 + 1 * (i 1).val = 128 * 0 + (i 1).val; omega)

abbrev k1 : Rect S512x256 := Rect.unit (s := S512x256) ![0, 128] S512x128.size inb_S512x256_S512x128_0_128
theorem emb_k1 (i : S512x128.Idx) : k1.emb i = ix2 (i 0) (colk 1 (i 1)) := funext fun a => Fin.ext (by
  match a with
  | ⟨0, _⟩ => show 0 + 1 * (i 0).val = (i 0).val; omega
  | ⟨1, _⟩ => show 128 + 1 * (i 1).val = 128 * 1 + (i 1).val; omega)

theorem at_colk {e : EltTy} (P : Fin 2 → S512x128.Idx → Elt Ideal e) (g : Fin 2) (r : Fin 512) (d : Fin 128) (x : S512x128.Idx)
    (hx : x = ix2 r d) (y : S512x256.Idx) (hy : y = ix2 r (colk g d)) : P g x = P (headk (y 1)) (ix2 (y 0) (lanek (y 1))) := by
  subst hy hx
  show P g (ix2 r d) = P (headk (colk g d)) (ix2 r (lanek (colk g d)))
  rw [head_colk, lane_colk]

/-- A block stored head by head, read at a head's column. -/
theorem canon_headsk {e : EltTy} (P : Fin 2 → S512x128.Idx → Elt Ideal e) (g : Fin 2) (r : Fin 512) (d : Fin 128) :
    View.canon [⟨k1, P 1⟩, ⟨k0, P 0⟩] (ix2 r (colk g d) : S512x256.Idx) = P g (ix2 r d) := by
  rw [View.canon_apply_of_pieces (S := S512x256) (fun y => P (headk (y 1)) (ix2 (y 0) (lanek (y 1)))) _ ?_ _
    (View.cover_of_tiled [⟨k1, P 1⟩, ⟨k0, P 0⟩] S512x128.size (by rfl) _)]
  · show P (headk (colk g d)) (ix2 r (lanek (colk g d))) = _
    rw [head_colk, lane_colk]
  · intro p hp x
    simp only [List.mem_cons, List.not_mem_nil, or_false] at hp
    rcases hp with rfl | rfl
    · exact at_colk P 1 (x 0) (x 1) x (eq_ix2 x) _ (emb_k1 x)
    · exact at_colk P 0 (x 0) (x 1) x (eq_ix2 x) _ (emb_k0 x)

theorem slice_k0 {F : FTy → Type} (x : Vec F S512x256 .f32) :
    extractStridedSlice S512x128 ![0, 0] x slices_S512x256_o0_0_S512x128 = hdk x 0 := by
  funext i
  obtain ⟨r, n, rfl⟩ : ∃ (r : Fin 512) (n : Fin 128), i = ix2 r n := ⟨i 0, i 1, eq_ix2 i⟩
  pointwise
  exact congrArg (fun k => x (ix2 r k)) (Fin.ext (by show n.val = 128 * 0 + n.val; omega))
theorem slice_k1 {F : FTy → Type} (x : Vec F S512x256 .f32) :
    extractStridedSlice S512x128 ![0, 128] x slices_S512x256_o0_128_S512x128 = hdk x 1 := by
  funext i
  obtain ⟨r, n, rfl⟩ : ∃ (r : Fin 512) (n : Fin 128), i = ix2 r n := ⟨i 0, i 1, eq_ix2 i⟩
  pointwise
  rfl

set_option maxHeartbeats 4000000 in
/-- The buffer, head by head. -/
theorem out0_8_heads {F : FTy → Type} [FloatOps F] (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x256 .bf16) (harg9 : arg9.IsWhole) (arg10 : Memref sig .tc .vmem S512x256 .bf16) (harg10 : arg10.IsWhole)
    (x0 : Vec F S512x1024 .f32) (x1 x2 : Vec F S512x256 .f32) (x3 x4 : Vec F S1x128 .f32) (x5 x6 : Vec F S512x128 .f32) :
    out0_A_8 c i arg1 harg1 arg2 harg2 arg3 harg3 arg4 harg4 arg5 harg5 arg6 harg6 arg7 harg7 arg8 harg8 arg9 harg9 arg10 harg10 x0 x1 x2 x3 x4 x5 x6
      = View.canon [⟨k1, ropeBlk (normBlk (hdk x1 1) x4) x5 x6⟩, ⟨k0, ropeBlk (normBlk (hdk x1 0) x4) x5 x6⟩] := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  unfold k0_pay1 k0_pay2
  simp only [View.readAt_eq_ld, harg1.read_unread, harg2.read_unread, harg3.read_unread, harg4.read_unread, harg5.read_unread, harg6.read_unread, harg7.read_unread, View.ld_unit_zero (S := S512x1024) hz, View.ld_unit_zero (S := S512x256) hz, View.ld_unit_zero (S := S1x128) hz, View.ld_unit_zero (S := S512x128) hz, shapeCast_self (s := S512x128)]
  rw [← slice_k0, ← slice_k1]
  rfl

end Cert.QkvIdeal.Sum

end
-- ==== Proof.QkvHeads.lean ====
/- What the kernel's body leaves in the queries' buffer, head by head. -/
module

public import proofs.«01_k».proof.Proof.QkvBlock

@[expose] public section

set_option maxRecDepth 65536

noncomputable section

open Idealize.ShloMosaic Idealize.ShloMosaic.TcCoe Idealize.SL.Sem

namespace Cert.QkvIdeal.Sum

open Cert.QkvIdeal Cert.QkvIdeal.Gen Cert.QkvIdeal.Value

set_option maxHeartbeats 4000000 in
/-- The buffer, head by head. -/
theorem out0_7_heads {F : FTy → Type} [FloatOps F] (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x256 .bf16) (harg9 : arg9.IsWhole) (arg10 : Memref sig .tc .vmem S512x256 .bf16) (harg10 : arg10.IsWhole)
    (x0 : Vec F S512x1024 .f32) (x1 x2 : Vec F S512x256 .f32) (x3 x4 : Vec F S1x128 .f32) (x5 x6 : Vec F S512x128 .f32) :
    out0_A_7 c i arg1 harg1 arg2 harg2 arg3 harg3 arg4 harg4 arg5 harg5 arg6 harg6 arg7 harg7 arg8 harg8 arg9 harg9 arg10 harg10 x0 x1 x2 x3 x4 x5 x6
      = View.canon [⟨q7, ropeBlk (normBlk (hdq x0 7) x3) x5 x6⟩, ⟨q6, ropeBlk (normBlk (hdq x0 6) x3) x5 x6⟩, ⟨q5, ropeBlk (normBlk (hdq x0 5) x3) x5 x6⟩, ⟨q4, ropeBlk (normBlk (hdq x0 4) x3) x5 x6⟩, ⟨q3, ropeBlk (normBlk (hdq x0 3) x3) x5 x6⟩, ⟨q2, ropeBlk (normBlk (hdq x0 2) x3) x5 x6⟩, ⟨q1, ropeBlk (normBlk (hdq x0 1) x3) x5 x6⟩, ⟨q0, ropeBlk (normBlk (hdq x0 0) x3) x5 x6⟩] := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  unfold k0_pay4 k0_pay1 k0_pay2
  simp only [View.readAt_eq_ld, harg1.read_unread, harg2.read_unread, harg3.read_unread, harg4.read_unread, harg5.read_unread, harg6.read_unread, harg7.read_unread, View.ld_unit_zero (S := S512x1024) hz, View.ld_unit_zero (S := S512x256) hz, View.ld_unit_zero (S := S1x128) hz, View.ld_unit_zero (S := S512x128) hz, shapeCast_self (s := S512x128)]
  rw [← slice_q0, ← slice_q1, ← slice_q2, ← slice_q3, ← slice_q4, ← slice_q5, ← slice_q6, ← slice_q7]
  dsimp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, ropeBlk, normBlk, scaleBlk]
  refine congrArg View.canon ?_
  refine List.cons_eq_cons.mpr ⟨?_, List.cons_eq_cons.mpr ⟨?_, List.cons_eq_cons.mpr ⟨?_, List.cons_eq_cons.mpr ⟨?_, List.cons_eq_cons.mpr ⟨?_,
    List.cons_eq_cons.mpr ⟨?_, List.cons_eq_cons.mpr ⟨?_, List.cons_eq_cons.mpr ⟨?_, rfl⟩⟩⟩⟩⟩⟩⟩⟩
  all_goals rfl

end Cert.QkvIdeal.Sum

end
-- ==== Proof.QkvValue.lean ====
/- The queries, keys and values of the attention: what the kernel leaves in its three results, row by row of its arguments. -/
module

public import proofs.«01_k».proof.Proof.QkvHeads
public import Idealize.ShloMosaic.Lib.StableHlo

@[expose] public section

set_option maxRecDepth 16384

noncomputable section

open Idealize.ShloMosaic Idealize.ShloMosaic.TcCoe Idealize.SL.Sem

namespace Cert.QkvIdeal.Sum

open Cert.QkvIdeal Cert.QkvIdeal.Gen Cert.QkvIdeal.Value

/-! ## The results, by rows of the arguments -/

/-- A row of the cosines, laid out over the lanes of a head. -/
def cosRow (c : S2048x2x32.Idx → EReal) (r : Fin 2048) (n : Fin 128) : EReal := c (ix3 r ⟨n.val / 64, by omega⟩ ⟨n.val % 32, by omega⟩)

/-- A row of the sines, with the sign of the lane's half. -/
def sinRow (s : S2048x2x32.Idx → EReal) (r : Fin 2048) (n : Fin 128) : EReal :=
  if second n then s (ix3 r ⟨n.val / 64, by omega⟩ ⟨n.val % 32, by omega⟩) else -s (ix3 r ⟨n.val / 64, by omega⟩ ⟨n.val % 32, by omega⟩)

/-- The columns of the projection that hold the queries, the keys and the values. -/
def colQ (n : Fin 1024) : Fin 12800 := ⟨4096 + n.val, by omega⟩
def colK (n : Fin 256) : Fin 12800 := ⟨5120 + n.val, by omega⟩
def colV (n : Fin 256) : Fin 12800 := ⟨5376 + n.val, by omega⟩

def QOUT (p : S2048x12800.Idx → EReal) (g : S1x128.Idx → EReal) (c s : S2048x2x32.Idx → EReal) : S2048x1024.Idx → EReal :=
  fun i => ropeRow (headRow (fun k => p (ix2 (i 0) (colQ (colq (headq (i 1)) k)))) (fun k => g (ix2 0 k))) (cosRow c (i 0)) (sinRow s (i 0)) (laneq (i 1))

def KOUT (p : S2048x12800.Idx → EReal) (g : S1x128.Idx → EReal) (c s : S2048x2x32.Idx → EReal) : S2048x256.Idx → EReal :=
  fun i => ropeRow (headRow (fun k => p (ix2 (i 0) (colK (colk (headk (i 1)) k)))) (fun k => g (ix2 0 k))) (cosRow c (i 0)) (sinRow s (i 0)) (lanek (i 1))

def VOUT (p : S2048x12800.Idx → EReal) : S2048x256.Idx → EReal := fun i => p (ix2 (i 0) (colV (i 1)))

variable (m : (ℓ : Loc nD τ sig) → Buf (Elt Ideal) ℓ) (ρ : Dev nD → PrngReg)

/-! ## The tables the host lays out -/

def cosTab (c : S2048x2x32.Idx → EReal) : Vec Ideal S2048x128 .f32 :=
  concatenate S2048x128 1 [⟨S2048x32, shapeCast S2048x32 (extractStridedSlice S2048x1x32 ![0, 0, 0] c slices_S2048x2x32_S2048x1x32_0_0_0) shapeCasts_S2048x1x32_S2048x32⟩,
    ⟨S2048x32, shapeCast S2048x32 (extractStridedSlice S2048x1x32 ![0, 0, 0] c slices_S2048x2x32_S2048x1x32_0_0_0) shapeCasts_S2048x1x32_S2048x32⟩,
    ⟨S2048x32, shapeCast S2048x32 (extractStridedSlice S2048x1x32 ![0, 1, 0] c slices_S2048x2x32_S2048x1x32_0_1_0) shapeCasts_S2048x1x32_S2048x32⟩,
    ⟨S2048x32, shapeCast S2048x32 (extractStridedSlice S2048x1x32 ![0, 1, 0] c slices_S2048x2x32_S2048x1x32_0_1_0) shapeCasts_S2048x1x32_S2048x32⟩]
    concatenates_S2048x32_S2048x32_S2048x32_S2048x32_S2048x128_d1

def sinTab (s : FVec Ideal S2048x2x32 .f32) : Vec Ideal S2048x128 .f32 :=
  concatenate S2048x128 1 [⟨S2048x32, Host.negf (shapeCast S2048x32 (extractStridedSlice S2048x1x32 ![0, 0, 0] s slices_S2048x2x32_S2048x1x32_0_0_0) shapeCasts_S2048x1x32_S2048x32 : FVec Ideal S2048x32 .f32)⟩,
    ⟨S2048x32, shapeCast S2048x32 (extractStridedSlice S2048x1x32 ![0, 0, 0] s slices_S2048x2x32_S2048x1x32_0_0_0) shapeCasts_S2048x1x32_S2048x32⟩,
    ⟨S2048x32, Host.negf (shapeCast S2048x32 (extractStridedSlice S2048x1x32 ![0, 1, 0] s slices_S2048x2x32_S2048x1x32_0_1_0) shapeCasts_S2048x1x32_S2048x32 : FVec Ideal S2048x32 .f32)⟩,
    ⟨S2048x32, shapeCast S2048x32 (extractStridedSlice S2048x1x32 ![0, 1, 0] s slices_S2048x2x32_S2048x1x32_0_1_0) shapeCasts_S2048x1x32_S2048x32⟩]
    concatenates_S2048x32_S2048x32_S2048x32_S2048x32_S2048x128_d1

theorem V_cos (c : Dev nD) : V m c main_v8 = cosTab (m ((c : Thread nD τ).loc main_arg3)) := by
  show StableHlo.after hostOps0 _ _ = _
  unfold hostOps0
  after_results_simp <;> rfl
theorem V_sin (c : Dev nD) : V m c main_v19 = sinTab (m ((c : Thread nD τ).loc main_arg4)) := by
  show StableHlo.after hostOps0 _ _ = _
  unfold hostOps0
  after_results_simp <;> rfl

theorem second_true (n : Fin 128) (h : n.val / 32 % 2 = 1) : second n = true := by unfold second; rw [h]; rfl
theorem second_false (n : Fin 128) (h : n.val / 32 % 2 = 0) : ¬(second n = true) := by unfold second; rw [h]; decide

theorem cosTab_apply (c : S2048x2x32.Idx → EReal) (r : Fin 2048) (n : Fin 128) : cosTab c (ix2 r n) = cosRow c r n := by
  pointwise [cosTab]
  unfold cosRow
  by_cases h0 : n.val < 32
  · rw [dif_pos h0]
    exact congrArg₂ (fun a k => c (ix3 r a k)) (Fin.ext (show 0 = n.val / 64 by omega)) (Fin.ext (show n.val = n.val % 32 by omega))
  rw [dif_neg h0]
  by_cases h1 : n.val - 32 < 32
  · rw [dif_pos h1]
    exact congrArg₂ (fun a k => c (ix3 r a k)) (Fin.ext (show 0 = n.val / 64 by omega)) (Fin.ext (show n.val - 32 = n.val % 32 by omega))
  rw [dif_neg h1]
  by_cases h2 : n.val - 32 - 32 < 32
  · rw [dif_pos h2]
    exact congrArg₂ (fun a k => c (ix3 r a k)) (Fin.ext (show 1 = n.val / 64 by omega)) (Fin.ext (show n.val - 32 - 32 = n.val % 32 by omega))
  rw [dif_neg h2]
  exact congrArg₂ (fun a k => c (ix3 r a k)) (Fin.ext (show 1 = n.val / 64 by omega)) (Fin.ext (show n.val - 32 - 32 - 32 = n.val % 32 by omega))

theorem sinTab_apply (s : FVec Ideal S2048x2x32 .f32) (r : Fin 2048) (n : Fin 128) : sinTab s (ix2 r n) = sinRow s r n := by
  pointwise [sinTab]
  unfold sinRow
  by_cases h0 : n.val < 32
  · rw [dif_pos h0]
    rw [if_neg (second_false n (by omega))]
    exact congrArg₂ (fun a k => -s (ix3 r a k)) (Fin.ext (show 0 = n.val / 64 by omega)) (Fin.ext (show n.val = n.val % 32 by omega))
  rw [dif_neg h0]
  by_cases h1 : n.val - 32 < 32
  · rw [dif_pos h1]
    rw [if_pos (second_true n (by omega))]
    exact congrArg₂ (fun a k => s (ix3 r a k)) (Fin.ext (show 0 = n.val / 64 by omega)) (Fin.ext (show n.val - 32 = n.val % 32 by omega))
  rw [dif_neg h1]
  by_cases h2 : n.val - 32 - 32 < 32
  · rw [dif_pos h2]
    rw [if_neg (second_false n (by omega))]
    exact congrArg₂ (fun a k => -s (ix3 r a k)) (Fin.ext (show 1 = n.val / 64 by omega)) (Fin.ext (show n.val - 32 - 32 = n.val % 32 by omega))
  rw [dif_neg h2]
  rw [if_pos (second_true n (by omega))]
  exact congrArg₂ (fun a k => s (ix3 r a k)) (Fin.ext (show 1 = n.val / 64 by omega)) (Fin.ext (show n.val - 32 - 32 - 32 = n.val % 32 by omega))

/-! ## What one point leaves in its blocks -/

theorem out7_apply (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x256 .bf16) (harg9 : arg9.IsWhole) (arg10 : Memref sig .tc .vmem S512x256 .bf16) (harg10 : arg10.IsWhole)
    (x0 : Vec Ideal S512x1024 .f32) (x1 x2 : Vec Ideal S512x256 .f32) (x3 x4 : Vec Ideal S1x128 .f32) (x5 x6 : Vec Ideal S512x128 .f32) (r : Fin 512) (j : Fin 8) (d : Fin 128) :
    out0_A_7 (F := Ideal) c i arg1 harg1 arg2 harg2 arg3 harg3 arg4 harg4 arg5 harg5 arg6 harg6 arg7 harg7 arg8 harg8 arg9 harg9 arg10 harg10 x0 x1 x2 x3 x4 x5 x6 (ix2 r (colq j d)) = ropeRow (headRow (fun k => x0 (ix2 r (colq j k))) (fun k => x3 (ix2 0 k)))
      (fun k => x5 (ix2 r k)) (fun k => x6 (ix2 r k)) d := by
  rw [out0_7_heads (F := Ideal) c i arg1 harg1 arg2 harg2 arg3 harg3 arg4 harg4 arg5 harg5 arg6 harg6 arg7 harg7 arg8 harg8 arg9 harg9 arg10 harg10 x0 x1 x2 x3 x4 x5 x6]
  refine (canon_headsq (e := .bf16) (fun j => ropeBlk (F := Ideal) (normBlk (hdq x0 j) x3) x5 x6) j r d).trans ?_
  refine (ropeBlk_apply _ _ _ r d).trans ?_
  simp only [normBlk_apply]
  rfl

theorem out8_apply (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x256 .bf16) (harg9 : arg9.IsWhole) (arg10 : Memref sig .tc .vmem S512x256 .bf16) (harg10 : arg10.IsWhole)
    (x0 : Vec Ideal S512x1024 .f32) (x1 x2 : Vec Ideal S512x256 .f32) (x3 x4 : Vec Ideal S1x128 .f32) (x5 x6 : Vec Ideal S512x128 .f32) (r : Fin 512) (j : Fin 2) (d : Fin 128) :
    out0_A_8 (F := Ideal) c i arg1 harg1 arg2 harg2 arg3 harg3 arg4 harg4 arg5 harg5 arg6 harg6 arg7 harg7 arg8 harg8 arg9 harg9 arg10 harg10 x0 x1 x2 x3 x4 x5 x6 (ix2 r (colk j d)) = ropeRow (headRow (fun k => x1 (ix2 r (colk j k))) (fun k => x4 (ix2 0 k)))
      (fun k => x5 (ix2 r k)) (fun k => x6 (ix2 r k)) d := by
  rw [out0_8_heads (F := Ideal) c i arg1 harg1 arg2 harg2 arg3 harg3 arg4 harg4 arg5 harg5 arg6 harg6 arg7 harg7 arg8 harg8 arg9 harg9 arg10 harg10 x0 x1 x2 x3 x4 x5 x6]
  refine (canon_headsk (e := .bf16) (fun j => ropeBlk (F := Ideal) (normBlk (hdk x1 j) x4) x5 x6) j r d).trans ?_
  refine (ropeBlk_apply _ _ _ r d).trans ?_
  simp only [normBlk_apply]
  rfl

theorem out9_apply (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S512x256 .bf16) (harg9 : arg9.IsWhole) (arg10 : Memref sig .tc .vmem S512x256 .bf16) (harg10 : arg10.IsWhole)
    (x0 : Vec Ideal S512x1024 .f32) (x1 x2 : Vec Ideal S512x256 .f32) (x3 x4 : Vec Ideal S1x128 .f32) (x5 x6 : Vec Ideal S512x128 .f32) (r : Fin 512) (n : Fin 256) :
    out0_A_9 (F := Ideal) c i arg1 harg1 arg2 harg2 arg3 harg3 arg4 harg4 arg5 harg5 arg6 harg6 arg7 harg7 arg8 harg8 arg9 harg9 arg10 harg10 x0 x1 x2 x3 x4 x5 x6 (ix2 r n) = x2 (ix2 r n) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  simp only [View.readAt_eq_ld, harg3.read_unread, View.ld_unit_zero (S := S512x256) hz, View.canon_unit_zero (S := S512x256) hz]
  rfl

/-! ## The windows -/

theorem idx0 : ∀ t : Fin cfg0.N, win0_0.index t (0 : Fin 2) = t.val ∧ win0_0.index t (1 : Fin 2) = 4 :=
  (by decide +kernel : ∀ t : Fin grid0.N, _)
theorem idx1 : ∀ t : Fin cfg0.N, win0_1.index t (0 : Fin 2) = t.val ∧ win0_1.index t (1 : Fin 2) = 20 :=
  (by decide +kernel : ∀ t : Fin grid0.N, _)
theorem idx2 : ∀ t : Fin cfg0.N, win0_2.index t (0 : Fin 2) = t.val ∧ win0_2.index t (1 : Fin 2) = 21 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)

/-- The row of the arguments that is row `r` of the blocks at the point `t`. -/
def rowAt (t : Fin cfg0.N) (r : Fin 512) : Fin 2048 := ⟨t.val * 512 + r.val, by have := Nat.lt_of_lt_of_eq t.isLt (N_0 : cfg0.N = 4); omega⟩

theorem blk0 (c : Dev nD) (t : Fin cfg0.N) (r : Fin 512) (n : Fin 1024) :
    X0_0 m c t (ix2 r n) = (V m c main_arg0 : S2048x12800.Idx → EReal) (ix2 (rowAt t r) (colQ n)) := by
  obtain ⟨a0, a1⟩ := idx0 t
  unfold X0_0 Pipeline.Window.fill
  rw [dif_pos (moved0_0 t _)]
  refine congrArg (V m c main_arg0 : S2048x12800.Idx → EReal) ?_
  funext a; apply Fin.ext
  match a with
  | ⟨0, _⟩ => show win0_0.index t (0 : Fin 2) * 512 + 1 * r.val = t.val * 512 + r.val; omega
  | ⟨1, _⟩ => show win0_0.index t (1 : Fin 2) * 1024 + 1 * n.val = 4096 + n.val; omega

theorem blk1 (c : Dev nD) (t : Fin cfg0.N) (r : Fin 512) (n : Fin 256) :
    iblk m c 1 t (ix2 r n) = (V m c main_arg0 : S2048x12800.Idx → EReal) (ix2 (rowAt t r) (colK n)) := by
  obtain ⟨a0, a1⟩ := idx1 t
  refine congrArg (V m c main_arg0 : S2048x12800.Idx → EReal) (?_ : ((cfg0.win 1).blk t).view.emb (ix2 r n) = ix2 (rowAt t r) (colK n))
  funext a; apply Fin.ext
  match a with
  | ⟨0, _⟩ => show win0_1.index t (0 : Fin 2) * 512 + 1 * r.val = t.val * 512 + r.val; omega
  | ⟨1, _⟩ => show win0_1.index t (1 : Fin 2) * 256 + 1 * n.val = 5120 + n.val; omega

theorem blk2 (c : Dev nD) (t : Fin cfg0.N) (r : Fin 512) (n : Fin 256) :
    iblk m c 2 t (ix2 r n) = (V m c main_arg0 : S2048x12800.Idx → EReal) (ix2 (rowAt t r) (colV n)) := by
  obtain ⟨a0, a1⟩ := idx2 t
  refine congrArg (V m c main_arg0 : S2048x12800.Idx → EReal) (?_ : ((cfg0.win 2).blk t).view.emb (ix2 r n) = ix2 (rowAt t r) (colV n))
  funext a; apply Fin.ext
  match a with
  | ⟨0, _⟩ => show win0_2.index t (0 : Fin 2) * 512 + 1 * r.val = t.val * 512 + r.val; omega
  | ⟨1, _⟩ => show win0_2.index t (1 : Fin 2) * 256 + 1 * n.val = 5376 + n.val; omega

theorem blk3 (c : Dev nD) (t : Fin cfg0.N) (n : Fin 128) :
    iblk m c 3 t (ix2 0 n) = (V m c main_arg1 : S1x128.Idx → EReal) (ix2 0 n) := by
  obtain ⟨a0, a1⟩ := idx3 t
  refine congrArg (V m c main_arg1 : S1x128.Idx → EReal) (?_ : ((cfg0.win 3).blk t).view.emb (ix2 0 n) = ix2 0 n)
  funext a; apply Fin.ext
  match a with
  | ⟨0, _⟩ => show win0_3.index t (0 : Fin 2) * 1 + 1 * 0 = 0; omega
  | ⟨1, _⟩ => show win0_3.index t (1 : Fin 2) * 128 + 1 * n.val = n.val; omega

theorem blk4 (c : Dev nD) (t : Fin cfg0.N) (n : Fin 128) :
    iblk m c 4 t (ix2 0 n) = (V m c main_arg2 : S1x128.Idx → EReal) (ix2 0 n) := by
  obtain ⟨a0, a1⟩ := idx4 t
  refine congrArg (V m c main_arg2 : S1x128.Idx → EReal) (?_ : ((cfg0.win 4).blk t).view.emb (ix2 0 n) = ix2 0 n)
  funext a; apply Fin.ext
  match a with
  | ⟨0, _⟩ => show win0_4.index t (0 : Fin 2) * 1 + 1 * 0 = 0; omega
  | ⟨1, _⟩ => show win0_4.index t (1 : Fin 2) * 128 + 1 * n.val = n.val; omega

theorem blk5 (c : Dev nD) (t : Fin cfg0.N) (r : Fin 512) (n : Fin 128) :
    iblk m c 5 t (ix2 r n) = cosRow (m ((c : Thread nD τ).loc main_arg3)) (rowAt t r) n := by
  obtain ⟨a0, a1⟩ := idx5 t
  refine Eq.trans (congrArg (V m c main_v8 : S2048x128.Idx → EReal) (?_ : ((cfg0.win 5).blk t).view.emb (ix2 r n) = ix2 (rowAt t r) n)) ?_
  · funext a; apply Fin.ext
    match a with
    | ⟨0, _⟩ => show win0_5.index t (0 : Fin 2) * 512 + 1 * r.val = t.val * 512 + r.val; omega
    | ⟨1, _⟩ => show win0_5.index t (1 : Fin 2) * 128 + 1 * n.val = n.val; omega
  · rw [V_cos, cosTab_apply]

theorem blk6 (c : Dev nD) (t : Fin cfg0.N) (r : Fin 512) (n : Fin 128) :
    iblk m c 6 t (ix2 r n) = sinRow (m ((c : Thread nD τ).loc main_arg4)) (rowAt t r) n := by
  obtain ⟨a0, a1⟩ := idx6 t
  refine Eq.trans (congrArg (V m c main_v19 : S2048x128.Idx → EReal) (?_ : ((cfg0.win 6).blk t).view.emb (ix2 r n) = ix2 (rowAt t r) n)) ?_
  · funext a; apply Fin.ext
    match a with
    | ⟨0, _⟩ => show win0_6.index t (0 : Fin 2) * 512 + 1 * r.val = t.val * 512 + r.val; omega
    | ⟨1, _⟩ => show win0_6.index t (1 : Fin 2) * 128 + 1 * n.val = n.val; omega
  · rw [V_sin, sinTab_apply]

theorem flushed7_eq (c : Dev nD) (t : Fin cfg0.N) :
    (dats m 0 c).flushed 7 t = ((cfg0.win 7).blk t).view.read (Elt Ideal) (QOUT (m ((c : Thread nD τ).loc main_arg0)) (m ((c : Thread nD τ).loc main_arg1)) (m ((c : Thread nD τ).loc main_arg3)) (m ((c : Thread nD τ).loc main_arg4))) := by
  obtain ⟨b0, b1⟩ := idx7 t
  rw [flushed7_A]
  funext y
  obtain ⟨r, n, rfl⟩ : ∃ (r : Fin 512) (n : Fin 1024), y = ix2 r n := ⟨y 0, y 1, eq_ix2 y⟩
  obtain ⟨j, d, rfl⟩ : ∃ (j : Fin 8) (d : Fin 128), n = colq j d := ⟨headq n, laneq n, (col_headq n).symm⟩
  refine (out7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (X0_0 m c t) (iblk m c 1 t) (iblk m c 2 t) (iblk m c 3 t) (iblk m c 4 t) (iblk m c 5 t) (iblk m c 6 t) r j d).trans ?_
  simp only [blk0, blk3, blk5, blk6]
  rw [V_main_arg0, V_main_arg1]
  refine Eq.trans (b := (QOUT (m ((c : Thread nD τ).loc main_arg0)) (m ((c : Thread nD τ).loc main_arg1)) (m ((c : Thread nD τ).loc main_arg3)) (m ((c : Thread nD τ).loc main_arg4))) (ix2 (rowAt t r) (colq j d))) ?_ ?_
  · unfold QOUT
    show _ = ropeRow (headRow (fun k => _) (fun k => _)) _ _ (laneq (colq j d))
    rw [lane_colq]
    show _ = ropeRow (headRow (fun k => (m ((c : Thread nD τ).loc main_arg0)) (ix2 (rowAt t r) (colQ (colq (headq (colq j d)) k)))) (fun k => (m ((c : Thread nD τ).loc main_arg1)) (ix2 0 k))) _ _ d
    rw [head_colq]
    rfl
  · show (QOUT (m ((c : Thread nD τ).loc main_arg0)) (m ((c : Thread nD τ).loc main_arg1)) (m ((c : Thread nD τ).loc main_arg3)) (m ((c : Thread nD τ).loc main_arg4))) _ = (QOUT (m ((c : Thread nD τ).loc main_arg0)) (m ((c : Thread nD τ).loc main_arg1)) (m ((c : Thread nD τ).loc main_arg3)) (m ((c : Thread nD τ).loc main_arg4))) (((cfg0.win 7).blk t).view.emb (ix2 r (colq j d)))
    refine congrArg (QOUT (m ((c : Thread nD τ).loc main_arg0)) (m ((c : Thread nD τ).loc main_arg1)) (m ((c : Thread nD τ).loc main_arg3)) (m ((c : Thread nD τ).loc main_arg4))) ?_
    funext a; apply Fin.ext
    match a with
    | ⟨0, _⟩ => show t.val * 512 + r.val = win0_7.index t (0 : Fin 2) * 512 + 1 * r.val; omega
    | ⟨1, _⟩ => show (colq j d).val = win0_7.index t (1 : Fin 2) * 1024 + 1 * (colq j d).val; omega

theorem covered7 (i : S2048x1024.Idx) : ∃ t : Fin cfg0.N, (cfg0.win 7).flush t = true ∧ i ∈ ((cfg0.win 7).blk t).view.set := by
  have h0 : (i 0 : Nat) < 2048 := (i 0).isLt
  have h1 : (i 1 : Nat) < 1024 := (i 1).isLt
  obtain ⟨t, ht⟩ : ∃ t : Fin cfg0.N, t.val = (i 0 : Nat) / 512 := ⟨⟨_, by rw [show cfg0.N = 4 from N_0]; omega⟩, rfl⟩
  refine ⟨t, flush0_7 _, ?_⟩
  obtain ⟨b0, b1⟩ := idx7 t
  show i ∈ ((View.whole main_v20_0).slice (win0_7.rect t)).set
  rw [View.set_slice_whole, Rect.mem_set_unit]
  intro a
  match a with
  | ⟨0, _⟩ => show win0_7.index t (0 : Fin 2) * 512 ≤ (i 0 : Nat) ∧ (i 0 : Nat) < win0_7.index t (0 : Fin 2) * 512 + 512; omega
  | ⟨1, _⟩ => show win0_7.index t (1 : Fin 2) * 1024 ≤ (i 1 : Nat) ∧ (i 1 : Nat) < win0_7.index t (1 : Fin 2) * 1024 + 1024; omega

theorem final7 (c : Dev nD) : (dats m 0 c).arrAt 7 cfg0.N = (QOUT (m ((c : Thread nD τ).loc main_arg0)) (m ((c : Thread nD τ).loc main_arg1)) (m ((c : Thread nD τ).loc main_arg3)) (m ((c : Thread nD τ).loc main_arg4))) :=
  (dats m 0 c).arrAt_eq_of_cover 7 (QOUT (m ((c : Thread nD τ).loc main_arg0)) (m ((c : Thread nD τ).loc main_arg1)) (m ((c : Thread nD τ).loc main_arg3)) (m ((c : Thread nD τ).loc main_arg4))) (fun t _ => flushed7_eq m c t) covered7

theorem flushed8_eq (c : Dev nD) (t : Fin cfg0.N) :
    (dats m 0 c).flushed 8 t = ((cfg0.win 8).blk t).view.read (Elt Ideal) (KOUT (m ((c : Thread nD τ).loc main_arg0)) (m ((c : Thread nD τ).loc main_arg2)) (m ((c : Thread nD τ).loc main_arg3)) (m ((c : Thread nD τ).loc main_arg4))) := by
  obtain ⟨b0, b1⟩ := idx8 t
  rw [flushed8_A]
  funext y
  obtain ⟨r, n, rfl⟩ : ∃ (r : Fin 512) (n : Fin 256), y = ix2 r n := ⟨y 0, y 1, eq_ix2 y⟩
  obtain ⟨j, d, rfl⟩ : ∃ (j : Fin 2) (d : Fin 128), n = colk j d := ⟨headk n, lanek n, (col_headk n).symm⟩
  refine (out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (X0_0 m c t) (iblk m c 1 t) (iblk m c 2 t) (iblk m c 3 t) (iblk m c 4 t) (iblk m c 5 t) (iblk m c 6 t) r j d).trans ?_
  simp only [blk1, blk4, blk5, blk6]
  rw [V_main_arg0, V_main_arg2]
  refine Eq.trans (b := (KOUT (m ((c : Thread nD τ).loc main_arg0)) (m ((c : Thread nD τ).loc main_arg2)) (m ((c : Thread nD τ).loc main_arg3)) (m ((c : Thread nD τ).loc main_arg4))) (ix2 (rowAt t r) (colk j d))) ?_ ?_
  · unfold KOUT
    show _ = ropeRow (headRow (fun k => _) (fun k => _)) _ _ (lanek (colk j d))
    rw [lane_colk]
    show _ = ropeRow (headRow (fun k => (m ((c : Thread nD τ).loc main_arg0)) (ix2 (rowAt t r) (colK (colk (headk (colk j d)) k)))) (fun k => (m ((c : Thread nD τ).loc main_arg2)) (ix2 0 k))) _ _ d
    rw [head_colk]
    rfl
  · show (KOUT (m ((c : Thread nD τ).loc main_arg0)) (m ((c : Thread nD τ).loc main_arg2)) (m ((c : Thread nD τ).loc main_arg3)) (m ((c : Thread nD τ).loc main_arg4))) _ = (KOUT (m ((c : Thread nD τ).loc main_arg0)) (m ((c : Thread nD τ).loc main_arg2)) (m ((c : Thread nD τ).loc main_arg3)) (m ((c : Thread nD τ).loc main_arg4))) (((cfg0.win 8).blk t).view.emb (ix2 r (colk j d)))
    refine congrArg (KOUT (m ((c : Thread nD τ).loc main_arg0)) (m ((c : Thread nD τ).loc main_arg2)) (m ((c : Thread nD τ).loc main_arg3)) (m ((c : Thread nD τ).loc main_arg4))) ?_
    funext a; apply Fin.ext
    match a with
    | ⟨0, _⟩ => show t.val * 512 + r.val = win0_8.index t (0 : Fin 2) * 512 + 1 * r.val; omega
    | ⟨1, _⟩ => show (colk j d).val = win0_8.index t (1 : Fin 2) * 256 + 1 * (colk j d).val; omega

theorem covered8 (i : S2048x256.Idx) : ∃ t : Fin cfg0.N, (cfg0.win 8).flush t = true ∧ i ∈ ((cfg0.win 8).blk t).view.set := by
  have h0 : (i 0 : Nat) < 2048 := (i 0).isLt
  have h1 : (i 1 : Nat) < 256 := (i 1).isLt
  obtain ⟨t, ht⟩ : ∃ t : Fin cfg0.N, t.val = (i 0 : Nat) / 512 := ⟨⟨_, by rw [show cfg0.N = 4 from N_0]; omega⟩, rfl⟩
  refine ⟨t, flush0_8 _, ?_⟩
  obtain ⟨b0, b1⟩ := idx8 t
  show i ∈ ((View.whole main_v20_1).slice (win0_8.rect t)).set
  rw [View.set_slice_whole, Rect.mem_set_unit]
  intro a
  match a with
  | ⟨0, _⟩ => show win0_8.index t (0 : Fin 2) * 512 ≤ (i 0 : Nat) ∧ (i 0 : Nat) < win0_8.index t (0 : Fin 2) * 512 + 512; omega
  | ⟨1, _⟩ => show win0_8.index t (1 : Fin 2) * 256 ≤ (i 1 : Nat) ∧ (i 1 : Nat) < win0_8.index t (1 : Fin 2) * 256 + 256; omega

theorem final8 (c : Dev nD) : (dats m 0 c).arrAt 8 cfg0.N = (KOUT (m ((c : Thread nD τ).loc main_arg0)) (m ((c : Thread nD τ).loc main_arg2)) (m ((c : Thread nD τ).loc main_arg3)) (m ((c : Thread nD τ).loc main_arg4))) :=
  (dats m 0 c).arrAt_eq_of_cover 8 (KOUT (m ((c : Thread nD τ).loc main_arg0)) (m ((c : Thread nD τ).loc main_arg2)) (m ((c : Thread nD τ).loc main_arg3)) (m ((c : Thread nD τ).loc main_arg4))) (fun t _ => flushed8_eq m c t) covered8

theorem flushed9_eq (c : Dev nD) (t : Fin cfg0.N) :
    (dats m 0 c).flushed 9 t = ((cfg0.win 9).blk t).view.read (Elt Ideal) (VOUT (m ((c : Thread nD τ).loc main_arg0))) := by
  obtain ⟨b0, b1⟩ := idx9 t
  rw [flushed9_A]
  funext y
  obtain ⟨r, n, rfl⟩ : ∃ (r : Fin 512) (n : Fin 256), y = ix2 r n := ⟨y 0, y 1, eq_ix2 y⟩
  refine (out9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (X0_0 m c t) (iblk m c 1 t) (iblk m c 2 t) (iblk m c 3 t) (iblk m c 4 t) (iblk m c 5 t) (iblk m c 6 t) r n).trans ?_
  rw [blk2, V_main_arg0]
  refine Eq.trans (b := (VOUT (m ((c : Thread nD τ).loc main_arg0))) (ix2 (rowAt t r) n)) ?_ ?_
  · rfl
  · show (VOUT (m ((c : Thread nD τ).loc main_arg0))) _ = (VOUT (m ((c : Thread nD τ).loc main_arg0))) (((cfg0.win 9).blk t).view.emb (ix2 r (n)))
    refine congrArg (VOUT (m ((c : Thread nD τ).loc main_arg0))) ?_
    funext a; apply Fin.ext
    match a with
    | ⟨0, _⟩ => show t.val * 512 + r.val = win0_9.index t (0 : Fin 2) * 512 + 1 * r.val; omega
    | ⟨1, _⟩ => show (n).val = win0_9.index t (1 : Fin 2) * 256 + 1 * (n).val; omega

theorem covered9 (i : S2048x256.Idx) : ∃ t : Fin cfg0.N, (cfg0.win 9).flush t = true ∧ i ∈ ((cfg0.win 9).blk t).view.set := by
  have h0 : (i 0 : Nat) < 2048 := (i 0).isLt
  have h1 : (i 1 : Nat) < 256 := (i 1).isLt
  obtain ⟨t, ht⟩ : ∃ t : Fin cfg0.N, t.val = (i 0 : Nat) / 512 := ⟨⟨_, by rw [show cfg0.N = 4 from N_0]; omega⟩, rfl⟩
  refine ⟨t, flush0_9 _, ?_⟩
  obtain ⟨b0, b1⟩ := idx9 t
  show i ∈ ((View.whole main_v20_2).slice (win0_9.rect t)).set
  rw [View.set_slice_whole, Rect.mem_set_unit]
  intro a
  match a with
  | ⟨0, _⟩ => show win0_9.index t (0 : Fin 2) * 512 ≤ (i 0 : Nat) ∧ (i 0 : Nat) < win0_9.index t (0 : Fin 2) * 512 + 512; omega
  | ⟨1, _⟩ => show win0_9.index t (1 : Fin 2) * 256 ≤ (i 1 : Nat) ∧ (i 1 : Nat) < win0_9.index t (1 : Fin 2) * 256 + 256; omega

theorem final9 (c : Dev nD) : (dats m 0 c).arrAt 9 cfg0.N = (VOUT (m ((c : Thread nD τ).loc main_arg0))) :=
  (dats m 0 c).arrAt_eq_of_cover 9 (VOUT (m ((c : Thread nD τ).loc main_arg0))) (fun t _ => flushed9_eq m c t) covered9

end Cert.QkvIdeal.Sum

end
-- ==== Proof.QkvRef.lean ====
/- The reference of the queries, keys and values, row by row of its arguments. -/
module

public import proofs.«01_k».proof.Proof.QkvValue
public import proofs.«01_k».proof.Proof.Gen.QkvRefIdeal.Run
public import proofs.«01_k».proof.Proof.Gen.QkvRefIdeal.Read

@[expose] public section

set_option maxRecDepth 16384

noncomputable section

open Idealize.ShloMosaic Idealize.ShloMosaic.TcCoe Idealize.SL.Sem

namespace Cert.QkvRefIdeal.Sum

open Cert.QkvRefIdeal Cert.QkvRefIdeal.Gen Cert.QkvRefIdeal.Read
open Cert.QkvIdeal.Sum (headRow ropeRow second partner second_true second_false cosRow sinRow colQ colK colV QOUT KOUT VOUT colq headq laneq col_headq colk headk lanek col_headk)

/-! ## The lanes of a head: two axes of two halves of 32 -/

def lane (a h : Fin 2) (f : Fin 32) : Fin 128 := ⟨64 * a.val + 32 * h.val + f.val, by omega⟩

theorem eq_lane (n : Fin 128) : n = lane ⟨n.val / 64, by omega⟩ ⟨n.val / 32 % 2, by omega⟩ ⟨n.val % 32, by omega⟩ :=
  Fin.ext (by show n.val = 64 * (n.val / 64) + 32 * (n.val / 32 % 2) + n.val % 32; omega)

theorem first_lane (a : Fin 2) (f : Fin 32) : ¬(second (lane a 0 f) = true) :=
  second_false _ (by show (64 * a.val + 32 * 0 + f.val) / 32 % 2 = 0; omega)
theorem second_lane (a : Fin 2) (f : Fin 32) : second (lane a 1 f) = true :=
  second_true _ (by show (64 * a.val + 32 * 1 + f.val) / 32 % 2 = 1; omega)

theorem partner_first (a : Fin 2) (f : Fin 32) : partner (lane a 0 f) = lane a 1 f := by
  unfold partner
  rw [if_neg (first_lane a f)]
  exact Fin.ext (by show (64 * a.val + 32 * 0 + f.val + 32) % 128 = 64 * a.val + 32 * 1 + f.val; omega)
theorem partner_second (a : Fin 2) (f : Fin 32) : partner (lane a 1 f) = lane a 0 f := by
  unfold partner
  rw [if_pos (second_lane a f)]
  exact Fin.ext (by show 64 * a.val + 32 * 1 + f.val - 32 = 64 * a.val + 32 * 0 + f.val; omega)

theorem table_lane (c : S2048x2x32.Idx → EReal) (r : Fin 2048) (a h : Fin 2) (f : Fin 32) :
    c (ix3 r ⟨(lane a h f).val / 64, by omega⟩ ⟨(lane a h f).val % 32, by omega⟩) = c (ix3 r a f) :=
  congrArg₂ (fun a k => c (ix3 r a k)) (Fin.ext (by show (64 * a.val + 32 * h.val + f.val) / 64 = a.val; omega))
    (Fin.ext (by show (64 * a.val + 32 * h.val + f.val) % 32 = f.val; omega))

theorem rope_first (y : Fin 128 → EReal) (c s : S2048x2x32.Idx → EReal) (r : Fin 2048) (a : Fin 2) (f : Fin 32) :
    ropeRow y (cosRow c r) (sinRow s r) (lane a 0 f) = y (lane a 0 f) * c (ix3 r a f) - y (lane a 1 f) * s (ix3 r a f) := by
  unfold ropeRow cosRow sinRow
  rw [if_neg (first_lane a f), partner_first, table_lane c, table_lane s, sub_eq_add_neg, mul_neg]

theorem rope_second (y : Fin 128 → EReal) (c s : S2048x2x32.Idx → EReal) (r : Fin 2048) (a : Fin 2) (f : Fin 32) :
    ropeRow y (cosRow c r) (sinRow s r) (lane a 1 f) = y (lane a 1 f) * c (ix3 r a f) + y (lane a 0 f) * s (ix3 r a f) := by
  unfold ropeRow cosRow sinRow
  rw [if_pos (second_lane a f), partner_second, table_lane c, table_lane s]

variable (p : S2048x12800.Idx → EReal) (g : S1x128.Idx → EReal) (c s : S2048x2x32.Idx → EReal)

/-! ## The queries -/

theorem head_q (r : Fin 2048) (j : Fin 8) (k : Fin 128) : val_main_v3 (F := Ideal) p (ix3 r j k) = p (ix2 r (colQ (colq j k))) := by
  rw [val_main_v3_apply, val_main_v0_apply]
  refine congrArg p (funext fun a => Fin.ext ?_)
  match a with
  | ⟨0, _⟩ => show ((r.val * 8 + j.val) * 128 + k.val) / 1024 = r.val; omega
  | ⟨1, _⟩ => show 4096 + ((r.val * 8 + j.val) * 128 + k.val) % 1024 = 4096 + (128 * j.val + k.val); omega

theorem norm_q (r : Fin 2048) (j : Fin 8) (n : Fin 128) : val_main_v17 (F := Ideal) p g (ix3 r j n)
    = headRow (fun k => p (ix2 r (colQ (colq j k)))) (fun k => g (ix2 0 k)) n := by
  pointwise [val_main_v17, val_main_v16, val_main_v15, val_main_v14, val_main_v13, val_main_v12, val_main_v11, val_main_v10, val_main_v9, val_main_v8, val_main_v7, val_main_v6, val_main_v5, val_main_v4, val_main_cst, val_main_cst_0, val_main_cst_1]
  simp only [head_q]
  rfl

theorem split_q (r : Fin 2048) (j : Fin 8) (a h : Fin 2) (f : Fin 32) :
    val_main_v18 (F := Ideal) p g (ix5 r j a h f) = val_main_v17 (F := Ideal) p g (ix3 r j (lane a h f)) := by
  rw [val_main_v18_apply]
  refine congrArg (val_main_v17 (F := Ideal) p g) (funext fun b => Fin.ext ?_)
  match b with
  | ⟨0, _⟩ => show ((((r.val * 8 + j.val) * 2 + a.val) * 2 + h.val) * 32 + f.val) / 1024 = r.val; omega
  | ⟨1, _⟩ => show ((((r.val * 8 + j.val) * 2 + a.val) * 2 + h.val) * 32 + f.val) / 128 % 8 = j.val; omega
  | ⟨2, _⟩ => show ((((r.val * 8 + j.val) * 2 + a.val) * 2 + h.val) * 32 + f.val) % 128 = 64 * a.val + 32 * h.val + f.val; omega

theorem half_first_q (r : Fin 2048) (j : Fin 8) (a : Fin 2) (f : Fin 32) :
    val_main_v20 (F := Ideal) p g (ix4 r j a f) = val_main_v17 (F := Ideal) p g (ix3 r j (lane a 0 f)) := by
  rw [val_main_v20_apply, val_main_v19_apply, ← split_q]
  refine congrArg (val_main_v18 (F := Ideal) p g) (funext fun b => Fin.ext ?_)
  match b with
  | ⟨0, _⟩ => show (((r.val * 8 + j.val) * 2 + a.val) * 32 + f.val) / 512 = r.val; omega
  | ⟨1, _⟩ => show (((r.val * 8 + j.val) * 2 + a.val) * 32 + f.val) / 64 % 8 = j.val; omega
  | ⟨2, _⟩ => show (((r.val * 8 + j.val) * 2 + a.val) * 32 + f.val) / 32 % 2 = a.val; omega
  | ⟨3, _⟩ => rfl
  | ⟨4, _⟩ => show (((r.val * 8 + j.val) * 2 + a.val) * 32 + f.val) % 32 = f.val; omega

theorem half_second_q (r : Fin 2048) (j : Fin 8) (a : Fin 2) (f : Fin 32) :
    val_main_v22 (F := Ideal) p g (ix4 r j a f) = val_main_v17 (F := Ideal) p g (ix3 r j (lane a 1 f)) := by
  rw [val_main_v22_apply, val_main_v21_apply, ← split_q]
  refine congrArg (val_main_v18 (F := Ideal) p g) (funext fun b => Fin.ext ?_)
  match b with
  | ⟨0, _⟩ => show (((r.val * 8 + j.val) * 2 + a.val) * 32 + f.val) / 512 = r.val; omega
  | ⟨1, _⟩ => show (((r.val * 8 + j.val) * 2 + a.val) * 32 + f.val) / 64 % 8 = j.val; omega
  | ⟨2, _⟩ => show (((r.val * 8 + j.val) * 2 + a.val) * 32 + f.val) / 32 % 2 = a.val; omega
  | ⟨3, _⟩ => rfl
  | ⟨4, _⟩ => show (((r.val * 8 + j.val) * 2 + a.val) * 32 + f.val) % 32 = f.val; omega

theorem cos_q (r : Fin 2048) (j : Fin 8) (a : Fin 2) (f : Fin 32) : val_main_v25 (F := Ideal) c (ix4 r j a f) = c (ix3 r a f) := by
  rw [val_main_v25_apply, val_main_v23_apply]
  exact congrArg c (funext fun b => Fin.ext (by match b with | ⟨0, _⟩ => rfl | ⟨1, _⟩ => rfl | ⟨2, _⟩ => rfl))
theorem sin_q (r : Fin 2048) (j : Fin 8) (a : Fin 2) (f : Fin 32) : val_main_v27 (F := Ideal) s (ix4 r j a f) = s (ix3 r a f) := by
  rw [val_main_v27_apply, val_main_v24_apply]
  exact congrArg s (funext fun b => Fin.ext (by match b with | ⟨0, _⟩ => rfl | ⟨1, _⟩ => rfl | ⟨2, _⟩ => rfl))
theorem cos2_q (r : Fin 2048) (j : Fin 8) (a : Fin 2) (f : Fin 32) : val_main_v30 (F := Ideal) c (ix4 r j a f) = c (ix3 r a f) := by
  rw [val_main_v30_apply, val_main_v23_apply]
  exact congrArg c (funext fun b => Fin.ext (by match b with | ⟨0, _⟩ => rfl | ⟨1, _⟩ => rfl | ⟨2, _⟩ => rfl))
theorem sin2_q (r : Fin 2048) (j : Fin 8) (a : Fin 2) (f : Fin 32) : val_main_v32 (F := Ideal) s (ix4 r j a f) = s (ix3 r a f) := by
  rw [val_main_v32_apply, val_main_v24_apply]
  exact congrArg s (funext fun b => Fin.ext (by match b with | ⟨0, _⟩ => rfl | ⟨1, _⟩ => rfl | ⟨2, _⟩ => rfl))

theorem rot_first_q (r : Fin 2048) (j : Fin 8) (a : Fin 2) (f : Fin 32) : val_main_v29 (F := Ideal) p g c s (ix4 r j a f)
    = ropeRow (fun n => val_main_v17 (F := Ideal) p g (ix3 r j n)) (cosRow c r) (sinRow s r) (lane a 0 f) := by
  rw [rope_first]
  show val_main_v20 (F := Ideal) p g (ix4 r j a f) * val_main_v25 (F := Ideal) c (ix4 r j a f)
    - val_main_v22 (F := Ideal) p g (ix4 r j a f) * val_main_v27 (F := Ideal) s (ix4 r j a f) = _
  rw [half_first_q, half_second_q, cos_q, sin_q]

theorem rot_second_q (r : Fin 2048) (j : Fin 8) (a : Fin 2) (f : Fin 32) : val_main_v34 (F := Ideal) p g c s (ix4 r j a f)
    = ropeRow (fun n => val_main_v17 (F := Ideal) p g (ix3 r j n)) (cosRow c r) (sinRow s r) (lane a 1 f) := by
  rw [rope_second]
  show val_main_v22 (F := Ideal) p g (ix4 r j a f) * val_main_v30 (F := Ideal) c (ix4 r j a f)
    + val_main_v20 (F := Ideal) p g (ix4 r j a f) * val_main_v32 (F := Ideal) s (ix4 r j a f) = _
  rw [half_first_q, half_second_q, cos2_q, sin2_q]

theorem join_q (r : Fin 2048) (j : Fin 8) (a h : Fin 2) (f : Fin 32) : val_main_v37 (F := Ideal) p g c s (ix5 r j a h f)
    = ropeRow (fun n => val_main_v17 (F := Ideal) p g (ix3 r j n)) (cosRow c r) (sinRow s r) (lane a h f) := by
  unfold val_main_v37
  match h with
  | ⟨0, h0⟩ =>
    refine Eq.trans (b := val_main_v35 (F := Ideal) p g c s (ix5 r j a 0 f)) ?_ ?_
    · refine concatenate_pair_apply_left (t := S2048x8x2x2x32) (s₁ := S2048x8x2x1x32) (s₂ := S2048x8x2x1x32) 3 (val_main_v35 (F := Ideal) p g c s) (val_main_v36 (F := Ideal) p g c s)
        concatenates_S2048x8x2x1x32_S2048x8x2x1x32_S2048x8x2x2x32_d3 (ix5 r j a ⟨0, h0⟩ f) rfl (ix5 r j a 0 f : S2048x8x2x1x32.Idx) (fun b => ?_)
      match b with | ⟨0, _⟩ => rfl | ⟨1, _⟩ => rfl | ⟨2, _⟩ => rfl | ⟨3, _⟩ => rfl | ⟨4, _⟩ => rfl
    · rw [val_main_v35_apply]
      refine Eq.trans (congrArg (val_main_v29 (F := Ideal) p g c s) (funext fun b => Fin.ext (by match b with | ⟨0, _⟩ => rfl | ⟨1, _⟩ => rfl | ⟨2, _⟩ => rfl | ⟨3, _⟩ => rfl))) (rot_first_q p g c s r j a f)
  | ⟨1, h1⟩ =>
    refine Eq.trans (b := val_main_v36 (F := Ideal) p g c s (ix5 r j a 0 f)) ?_ ?_
    · refine concatenate_pair_apply_right (t := S2048x8x2x2x32) (s₁ := S2048x8x2x1x32) (s₂ := S2048x8x2x1x32) 3 (val_main_v35 (F := Ideal) p g c s) (val_main_v36 (F := Ideal) p g c s)
        concatenates_S2048x8x2x1x32_S2048x8x2x1x32_S2048x8x2x2x32_d3 (ix5 r j a ⟨1, h1⟩ f) rfl rfl (ix5 r j a 0 f : S2048x8x2x1x32.Idx) (fun b hb => ?_) ?_
      on_goal 2 => rfl
      match b with | ⟨0, _⟩ => rfl | ⟨1, _⟩ => rfl | ⟨2, _⟩ => rfl | ⟨3, _⟩ => exact absurd rfl hb | ⟨4, _⟩ => rfl
    · rw [val_main_v36_apply]
      refine Eq.trans (congrArg (val_main_v34 (F := Ideal) p g c s) (funext fun b => Fin.ext (by match b with | ⟨0, _⟩ => rfl | ⟨1, _⟩ => rfl | ⟨2, _⟩ => rfl | ⟨3, _⟩ => rfl))) (rot_second_q p g c s r j a f)

theorem rope_q (r : Fin 2048) (j : Fin 8) (n : Fin 128) : val_main_v38 (F := Ideal) p g c s (ix3 r j n)
    = ropeRow (headRow (fun k => p (ix2 r (colQ (colq j k)))) (fun k => g (ix2 0 k))) (cosRow c r) (sinRow s r) n := by
  rw [show headRow (fun k => p (ix2 r (colQ (colq j k)))) (fun k => g (ix2 0 k)) = fun n => val_main_v17 (F := Ideal) p g (ix3 r j n) from
    funext fun n => (norm_q p g r j n).symm, val_main_v38_apply]
  conv => rhs; rw [eq_lane n]
  rw [← join_q]
  refine congrArg (val_main_v37 (F := Ideal) p g c s) (funext fun b => Fin.ext ?_)
  match b with
  | ⟨0, _⟩ => show ((r.val * 8 + j.val) * 128 + n.val) / 1024 = r.val; omega
  | ⟨1, _⟩ => show ((r.val * 8 + j.val) * 128 + n.val) / 128 % 8 = j.val; omega
  | ⟨2, _⟩ => show ((r.val * 8 + j.val) * 128 + n.val) / 64 % 2 = n.val / 64; omega
  | ⟨3, _⟩ => show ((r.val * 8 + j.val) * 128 + n.val) / 32 % 2 = n.val / 32 % 2; omega
  | ⟨4, _⟩ => show ((r.val * 8 + j.val) * 128 + n.val) % 32 = n.val % 32; omega

/-- What the reference computes. -/
theorem ref_QOUT : val_main_v76 (F := Ideal) p g c s = QOUT p g c s := by
  funext i
  obtain ⟨r, n, rfl⟩ : ∃ (r : Fin 2048) (n : Fin 1024), i = ix2 r n := ⟨i 0, i 1, eq_ix2 i⟩
  show val_main_v75 (F := Ideal) p g c s (ix2 r n) = _
  rw [val_main_v75_apply]
  refine Eq.trans (congrArg (val_main_v38 (F := Ideal) p g c s) (funext fun b => Fin.ext ?_ : _ = ix3 r (headq n) (laneq n))) (rope_q p g c s r _ _)
  match b with
  | ⟨0, _⟩ => show (r.val * 1024 + n.val) / 1024 = r.val; omega
  | ⟨1, _⟩ => show (r.val * 1024 + n.val) / 128 % 8 = n.val / 128; omega
  | ⟨2, _⟩ => show (r.val * 1024 + n.val) % 128 = n.val % 128; omega

/-! ## The keys -/

theorem head_k (r : Fin 2048) (j : Fin 2) (k : Fin 128) : val_main_v39 (F := Ideal) p (ix3 r j k) = p (ix2 r (colK (colk j k))) := by
  rw [val_main_v39_apply, val_main_v1_apply]
  refine congrArg p (funext fun a => Fin.ext ?_)
  match a with
  | ⟨0, _⟩ => show ((r.val * 2 + j.val) * 128 + k.val) / 256 = r.val; omega
  | ⟨1, _⟩ => show 5120 + ((r.val * 2 + j.val) * 128 + k.val) % 256 = 5120 + (128 * j.val + k.val); omega

theorem norm_k (r : Fin 2048) (j : Fin 2) (n : Fin 128) : val_main_v53 (F := Ideal) p g (ix3 r j n)
    = headRow (fun k => p (ix2 r (colK (colk j k)))) (fun k => g (ix2 0 k)) n := by
  pointwise [val_main_v53, val_main_v52, val_main_v51, val_main_v50, val_main_v49, val_main_v48, val_main_v47, val_main_v46, val_main_v45, val_main_v44, val_main_v43, val_main_v42, val_main_v41, val_main_v40, val_main_cst_2, val_main_cst_3, val_main_cst_4]
  simp only [head_k]
  rfl

theorem split_k (r : Fin 2048) (j : Fin 2) (a h : Fin 2) (f : Fin 32) :
    val_main_v54 (F := Ideal) p g (ix5 r j a h f) = val_main_v53 (F := Ideal) p g (ix3 r j (lane a h f)) := by
  rw [val_main_v54_apply]
  refine congrArg (val_main_v53 (F := Ideal) p g) (funext fun b => Fin.ext ?_)
  match b with
  | ⟨0, _⟩ => show ((((r.val * 2 + j.val) * 2 + a.val) * 2 + h.val) * 32 + f.val) / 256 = r.val; omega
  | ⟨1, _⟩ => show ((((r.val * 2 + j.val) * 2 + a.val) * 2 + h.val) * 32 + f.val) / 128 % 2 = j.val; omega
  | ⟨2, _⟩ => show ((((r.val * 2 + j.val) * 2 + a.val) * 2 + h.val) * 32 + f.val) % 128 = 64 * a.val + 32 * h.val + f.val; omega

theorem half_first_k (r : Fin 2048) (j : Fin 2) (a : Fin 2) (f : Fin 32) :
    val_main_v56 (F := Ideal) p g (ix4 r j a f) = val_main_v53 (F := Ideal) p g (ix3 r j (lane a 0 f)) := by
  rw [val_main_v56_apply, val_main_v55_apply, ← split_k]
  refine congrArg (val_main_v54 (F := Ideal) p g) (funext fun b => Fin.ext ?_)
  match b with
  | ⟨0, _⟩ => show (((r.val * 2 + j.val) * 2 + a.val) * 32 + f.val) / 128 = r.val; omega
  | ⟨1, _⟩ => show (((r.val * 2 + j.val) * 2 + a.val) * 32 + f.val) / 64 % 2 = j.val; omega
  | ⟨2, _⟩ => show (((r.val * 2 + j.val) * 2 + a.val) * 32 + f.val) / 32 % 2 = a.val; omega
  | ⟨3, _⟩ => rfl
  | ⟨4, _⟩ => show (((r.val * 2 + j.val) * 2 + a.val) * 32 + f.val) % 32 = f.val; omega

theorem half_second_k (r : Fin 2048) (j : Fin 2) (a : Fin 2) (f : Fin 32) :
    val_main_v58 (F := Ideal) p g (ix4 r j a f) = val_main_v53 (F := Ideal) p g (ix3 r j (lane a 1 f)) := by
  rw [val_main_v58_apply, val_main_v57_apply, ← split_k]
  refine congrArg (val_main_v54 (F := Ideal) p g) (funext fun b => Fin.ext ?_)
  match b with
  | ⟨0, _⟩ => show (((r.val * 2 + j.val) * 2 + a.val) * 32 + f.val) / 128 = r.val; omega
  | ⟨1, _⟩ => show (((r.val * 2 + j.val) * 2 + a.val) * 32 + f.val) / 64 % 2 = j.val; omega
  | ⟨2, _⟩ => show (((r.val * 2 + j.val) * 2 + a.val) * 32 + f.val) / 32 % 2 = a.val; omega
  | ⟨3, _⟩ => rfl
  | ⟨4, _⟩ => show (((r.val * 2 + j.val) * 2 + a.val) * 32 + f.val) % 32 = f.val; omega

theorem cos_k (r : Fin 2048) (j : Fin 2) (a : Fin 2) (f : Fin 32) : val_main_v61 (F := Ideal) c (ix4 r j a f) = c (ix3 r a f) := by
  rw [val_main_v61_apply, val_main_v59_apply]
  exact congrArg c (funext fun b => Fin.ext (by match b with | ⟨0, _⟩ => rfl | ⟨1, _⟩ => rfl | ⟨2, _⟩ => rfl))
theorem sin_k (r : Fin 2048) (j : Fin 2) (a : Fin 2) (f : Fin 32) : val_main_v63 (F := Ideal) s (ix4 r j a f) = s (ix3 r a f) := by
  rw [val_main_v63_apply, val_main_v60_apply]
  exact congrArg s (funext fun b => Fin.ext (by match b with | ⟨0, _⟩ => rfl | ⟨1, _⟩ => rfl | ⟨2, _⟩ => rfl))
theorem cos2_k (r : Fin 2048) (j : Fin 2) (a : Fin 2) (f : Fin 32) : val_main_v66 (F := Ideal) c (ix4 r j a f) = c (ix3 r a f) := by
  rw [val_main_v66_apply, val_main_v59_apply]
  exact congrArg c (funext fun b => Fin.ext (by match b with | ⟨0, _⟩ => rfl | ⟨1, _⟩ => rfl | ⟨2, _⟩ => rfl))
theorem sin2_k (r : Fin 2048) (j : Fin 2) (a : Fin 2) (f : Fin 32) : val_main_v68 (F := Ideal) s (ix4 r j a f) = s (ix3 r a f) := by
  rw [val_main_v68_apply, val_main_v60_apply]
  exact congrArg s (funext fun b => Fin.ext (by match b with | ⟨0, _⟩ => rfl | ⟨1, _⟩ => rfl | ⟨2, _⟩ => rfl))

theorem rot_first_k (r : Fin 2048) (j : Fin 2) (a : Fin 2) (f : Fin 32) : val_main_v65 (F := Ideal) p g c s (ix4 r j a f)
    = ropeRow (fun n => val_main_v53 (F := Ideal) p g (ix3 r j n)) (cosRow c r) (sinRow s r) (lane a 0 f) := by
  rw [rope_first]
  show val_main_v56 (F := Ideal) p g (ix4 r j a f) * val_main_v61 (F := Ideal) c (ix4 r j a f)
    - val_main_v58 (F := Ideal) p g (ix4 r j a f) * val_main_v63 (F := Ideal) s (ix4 r j a f) = _
  rw [half_first_k, half_second_k, cos_k, sin_k]

theorem rot_second_k (r : Fin 2048) (j : Fin 2) (a : Fin 2) (f : Fin 32) : val_main_v70 (F := Ideal) p g c s (ix4 r j a f)
    = ropeRow (fun n => val_main_v53 (F := Ideal) p g (ix3 r j n)) (cosRow c r) (sinRow s r) (lane a 1 f) := by
  rw [rope_second]
  show val_main_v58 (F := Ideal) p g (ix4 r j a f) * val_main_v66 (F := Ideal) c (ix4 r j a f)
    + val_main_v56 (F := Ideal) p g (ix4 r j a f) * val_main_v68 (F := Ideal) s (ix4 r j a f) = _
  rw [half_first_k, half_second_k, cos2_k, sin2_k]

theorem join_k (r : Fin 2048) (j : Fin 2) (a h : Fin 2) (f : Fin 32) : val_main_v73 (F := Ideal) p g c s (ix5 r j a h f)
    = ropeRow (fun n => val_main_v53 (F := Ideal) p g (ix3 r j n)) (cosRow c r) (sinRow s r) (lane a h f) := by
  unfold val_main_v73
  match h with
  | ⟨0, h0⟩ =>
    refine Eq.trans (b := val_main_v71 (F := Ideal) p g c s (ix5 r j a 0 f)) ?_ ?_
    · refine concatenate_pair_apply_left (t := S2048x2x2x2x32) (s₁ := S2048x2x2x1x32) (s₂ := S2048x2x2x1x32) 3 (val_main_v71 (F := Ideal) p g c s) (val_main_v72 (F := Ideal) p g c s)
        concatenates_S2048x2x2x1x32_S2048x2x2x1x32_S2048x2x2x2x32_d3 (ix5 r j a ⟨0, h0⟩ f) rfl (ix5 r j a 0 f : S2048x2x2x1x32.Idx) (fun b => ?_)
      match b with | ⟨0, _⟩ => rfl | ⟨1, _⟩ => rfl | ⟨2, _⟩ => rfl | ⟨3, _⟩ => rfl | ⟨4, _⟩ => rfl
    · rw [val_main_v71_apply]
      refine Eq.trans (congrArg (val_main_v65 (F := Ideal) p g c s) (funext fun b => Fin.ext (by match b with | ⟨0, _⟩ => rfl | ⟨1, _⟩ => rfl | ⟨2, _⟩ => rfl | ⟨3, _⟩ => rfl))) (rot_first_k p g c s r j a f)
  | ⟨1, h1⟩ =>
    refine Eq.trans (b := val_main_v72 (F := Ideal) p g c s (ix5 r j a 0 f)) ?_ ?_
    · refine concatenate_pair_apply_right (t := S2048x2x2x2x32) (s₁ := S2048x2x2x1x32) (s₂ := S2048x2x2x1x32) 3 (val_main_v71 (F := Ideal) p g c s) (val_main_v72 (F := Ideal) p g c s)
        concatenates_S2048x2x2x1x32_S2048x2x2x1x32_S2048x2x2x2x32_d3 (ix5 r j a ⟨1, h1⟩ f) rfl rfl (ix5 r j a 0 f : S2048x2x2x1x32.Idx) (fun b hb => ?_) ?_
      on_goal 2 => rfl
      match b with | ⟨0, _⟩ => rfl | ⟨1, _⟩ => rfl | ⟨2, _⟩ => rfl | ⟨3, _⟩ => exact absurd rfl hb | ⟨4, _⟩ => rfl
    · rw [val_main_v72_apply]
      refine Eq.trans (congrArg (val_main_v70 (F := Ideal) p g c s) (funext fun b => Fin.ext (by match b with | ⟨0, _⟩ => rfl | ⟨1, _⟩ => rfl | ⟨2, _⟩ => rfl | ⟨3, _⟩ => rfl))) (rot_second_k p g c s r j a f)

theorem rope_k (r : Fin 2048) (j : Fin 2) (n : Fin 128) : val_main_v74 (F := Ideal) p g c s (ix3 r j n)
    = ropeRow (headRow (fun k => p (ix2 r (colK (colk j k)))) (fun k => g (ix2 0 k))) (cosRow c r) (sinRow s r) n := by
  rw [show headRow (fun k => p (ix2 r (colK (colk j k)))) (fun k => g (ix2 0 k)) = fun n => val_main_v53 (F := Ideal) p g (ix3 r j n) from
    funext fun n => (norm_k p g r j n).symm, val_main_v74_apply]
  conv => rhs; rw [eq_lane n]
  rw [← join_k]
  refine congrArg (val_main_v73 (F := Ideal) p g c s) (funext fun b => Fin.ext ?_)
  match b with
  | ⟨0, _⟩ => show ((r.val * 2 + j.val) * 128 + n.val) / 256 = r.val; omega
  | ⟨1, _⟩ => show ((r.val * 2 + j.val) * 128 + n.val) / 128 % 2 = j.val; omega
  | ⟨2, _⟩ => show ((r.val * 2 + j.val) * 128 + n.val) / 64 % 2 = n.val / 64; omega
  | ⟨3, _⟩ => show ((r.val * 2 + j.val) * 128 + n.val) / 32 % 2 = n.val / 32 % 2; omega
  | ⟨4, _⟩ => show ((r.val * 2 + j.val) * 128 + n.val) % 32 = n.val % 32; omega

/-- What the reference computes. -/
theorem ref_KOUT : val_main_v78 (F := Ideal) p g c s = KOUT p g c s := by
  funext i
  obtain ⟨r, n, rfl⟩ : ∃ (r : Fin 2048) (n : Fin 256), i = ix2 r n := ⟨i 0, i 1, eq_ix2 i⟩
  show val_main_v77 (F := Ideal) p g c s (ix2 r n) = _
  rw [val_main_v77_apply]
  refine Eq.trans (congrArg (val_main_v74 (F := Ideal) p g c s) (funext fun b => Fin.ext ?_ : _ = ix3 r (headk n) (lanek n))) (rope_k p g c s r _ _)
  match b with
  | ⟨0, _⟩ => show (r.val * 256 + n.val) / 256 = r.val; omega
  | ⟨1, _⟩ => show (r.val * 256 + n.val) / 128 % 2 = n.val / 128; omega
  | ⟨2, _⟩ => show (r.val * 256 + n.val) % 128 = n.val % 128; omega

/-! ## The values -/

theorem ref_VOUT : val_main_v79 (F := Ideal) p = VOUT p := by
  funext i
  show val_main_v2 (F := Ideal) p i = _
  rw [val_main_v2_apply]
  exact congrArg p (funext fun b => Fin.ext (by match b with | ⟨0, _⟩ => rfl | ⟨1, _⟩ => rfl))

end Cert.QkvRefIdeal.Sum

end
-- ==== Proof.QkvClaims.lean ====
/- The queries, keys and values of the attention: their norms and rotations, in blocks of 512 rows, against the reference. -/
module

public import proofs.«01_k».proof.Defs
public import proofs.«01_k».proof.Proof.QkvRef
public import proofs.«01_k».proof.Proof.Gen.Qkv

@[expose] public section

set_option maxRecDepth 16384

noncomputable section

open Idealize.ShloMosaic Idealize.ShloMosaic.TcCoe Idealize.SL.Sem

namespace Cert.Proof

open Cert.QkvIdeal.Sum

theorem bodies_Qkv : Cert.Qkv.defs₀ (F := Bits) = Cert.QkvIdeal.defs₀ (F := Bits) :=
  congrArg (Defs.onTc (Λ := Cert.Qkv.Λ₀)) (funext fun l => funext fun a => match l, a with
    | 0, _ => rfl
    | ⟨_ + 1, h⟩, _ => absurd h (by omega))

theorem defs_Qkv : Cert.Qkv.defs (F := Bits) = Cert.QkvIdeal.defs (F := Bits) :=
  congrArg (Pipeline.defs Cert.Qkv.pcfgs) bodies_Qkv

/-- One run for both texts of the kernel, which is generic in the float operations. -/
theorem frame_Qkv : Cert.quiescent_Qkv := fun m ρ _ => by
  rw [defs_Qkv]; exact Cert.QkvIdeal.Gen.frame (F := Bits) m ρ

theorem frame_QkvIdeal : Cert.quiescent_QkvIdeal := fun m ρ _ => Cert.QkvIdeal.Gen.frame (F := Ideal) m ρ

/-- The reference is a straight-line host program that declares no semaphore. -/
theorem frame_QkvRefIdeal : Cert.quiescent_QkvRefIdeal := fun m ρ _ =>
  (θ_run Cert.QkvRefIdeal.defs _ _).mono (fun r h => ⟨fun c => (h c).2.2.2, sem_eq_zero_of_no_sems (by decide) r.2⟩)
    (Cert.QkvRefIdeal.Value.run (F := Ideal) m ρ)

theorem algebraic_Qkv : Cert.algebraic_QkvIdeal_QkvRefIdeal := fun m g m' g' _ hagree =>
  ⟨fun c => QOUT (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)),
    fun c => KOUT (m ((c.tc : Thread Cert.QkvIdeal.nD Cert.QkvIdeal.τ).loc Cert.QkvIdeal.main_arg0)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)),
    fun c => VOUT (m ((c.tc : Thread Cert.QkvIdeal.nD Cert.QkvIdeal.τ).loc Cert.QkvIdeal.main_arg0)),
    (θ_run Cert.QkvIdeal.defs _ _).mono (fun r h c => by
        obtain ⟨h7, h8, h9, ha⟩ := h c
        exact ⟨h7.trans (final7 m c), h8.trans (final8 m c), h9.trans (final9 m c), ha⟩)
      (Cert.QkvIdeal.Value.run_blocks m g),
    (θ_run Cert.QkvRefIdeal.defs _ _).mono (fun r h c => by
        obtain ⟨a0, a1, a2, a3, a4⟩ := hagree c
        obtain ⟨r0, r1, r2, ra⟩ := h c
        refine ⟨(r0.trans (Cert.QkvRefIdeal.Read.val_main_v76_eq m' c)).trans ?_, (r1.trans (Cert.QkvRefIdeal.Read.val_main_v78_eq m' c)).trans ?_,
          (r2.trans (Cert.QkvRefIdeal.Read.val_main_v79_eq _)).trans ?_, ra⟩
        · rw [a0, a1, a3, a4]; exact Cert.QkvRefIdeal.Sum.ref_QOUT _ _ _ _
        · rw [a0, a2, a3, a4]; exact Cert.QkvRefIdeal.Sum.ref_KOUT _ _ _ _
        · rw [a0]; exact Cert.QkvRefIdeal.Sum.ref_VOUT _)
      (Cert.QkvRefIdeal.Value.run m' g')⟩

end Cert.Proof

end
-- ==== Proof.LossValue.lean ====
/- The loss and its gradient: blocks of 256 rows, their squares summed up from point to point, against the reference. -/
module

public import proofs.«01_k».proof.Defs
public import proofs.«01_k».proof.Proof.NormRow
public import proofs.«01_k».proof.Proof.RealLift
public import proofs.«01_k».proof.Proof.Gen.Loss
public import proofs.«01_k».proof.Proof.Gen.LossIdeal.Value
public import proofs.«01_k».proof.Proof.Gen.LossRefIdeal.Run
public import proofs.«01_k».proof.Proof.Gen.LossRefIdeal.Read

@[expose] public section

set_option maxRecDepth 16384

noncomputable section

open Idealize.ShloMosaic Idealize.ShloMosaic.TcCoe Idealize.SL.Sem

namespace Cert.LossIdeal.Sum

open Cert.LossIdeal Cert.LossIdeal.Gen Cert.LossIdeal.Value

/-! ## Sums of squares over the extended real numbers -/

theorem sq_nonneg (x : EReal) : 0 ≤ x * x := by
  induction x using EReal.rec with
  | bot => simp
  | coe a => rw [← EReal.coe_mul]; exact EReal.coe_nonneg.mpr (mul_self_nonneg a)
  | top => simp

/-- A factor moves into a sum of numbers that are not negative. -/
theorem mul_sum_nonneg {ι : Type} (s : Finset ι) (f : ι → EReal) (hf : ∀ i, 0 ≤ f i) (c : EReal) : c * ∑ i ∈ s, f i = ∑ i ∈ s, c * f i := by
  classical
  induction s using Finset.induction_on with
  | empty => simp
  | insert a s ha ih => rw [Finset.sum_insert ha, Finset.sum_insert ha, EReal.left_distrib_of_nonneg (hf a) (Finset.sum_nonneg fun i _ => hf i), ih]

def e (a b : S2048x1024.Idx → EReal) (r : Fin 2048) (k : Fin 1024) : EReal := a (ix2 r k) - b (ix2 r k)
def S (a b : S2048x1024.Idx → EReal) (r : Fin 2048) : EReal := ∑ k : Fin 1024, e a b r k * e a b r k
def row (t : ℕ) (j : Fin 256) : Fin 2048 := ⟨(256 * t + j.val) % 2048, Nat.mod_lt _ (by omega)⟩
/-- The squares of the block of rows `t`. -/
def B (a b : S2048x1024.Idx → EReal) (t : ℕ) : EReal := ∑ j : Fin 256, S a b (row t j)

theorem S_nonneg (a b : S2048x1024.Idx → EReal) (r : Fin 2048) : 0 ≤ S a b r := Finset.sum_nonneg fun k _ => sq_nonneg _
theorem B_nonneg (a b : S2048x1024.Idx → EReal) (t : ℕ) : 0 ≤ B a b t := Finset.sum_nonneg fun j _ => S_nonneg a b _

theorem sum_rows (f : Fin 2048 → EReal) : ∑ t ∈ Finset.range 8, ∑ j : Fin 256, f (row t j) = ∑ r : Fin 2048, f r := by
  rw [Finset.sum_range, ← Fintype.sum_prod_type']
  refine Fintype.sum_equiv (finProdFinEquiv (m := 8) (n := 256)) _ _ fun p => congrArg f (Fin.ext ?_)
  have h0 := p.1.isLt
  have h1 := p.2.isLt
  show (256 * p.1.val + p.2.val) % 2048 = p.2.val + 256 * p.1.val
  omega

theorem c_coe : Ideal.ofBits .f32 0x3A000000#32 = ((1 / 2048 : ℝ) : EReal) := by
  simp [Ideal.ofBits, Ideal.ieee, -EReal.coe_mul]; norm_num
theorem half_coe : Ideal.ofBits .f32 0x3F000000#32 = ((1 / 2 : ℝ) : EReal) := by
  simp [Ideal.ofBits, Ideal.ieee, -EReal.coe_mul]; norm_num
theorem one_coe : Ideal.ofBits .f32 0x3F800000#32 = ((1 : ℝ) : EReal) := by
  simp [Ideal.ofBits, Ideal.ieee, -EReal.coe_mul]; norm_num
theorem two_coe : Ideal.ofBits .f32 0x40000000#32 = ((2 : ℝ) : EReal) := by
  simp [Ideal.ofBits, Ideal.ieee, -EReal.coe_mul]; norm_num

/-- The gradient. -/
def DY (a b : S2048x1024.Idx → EReal) : S2048x1024.Idx → EReal := fun i => e a b (i 0) (i 1) * ((1 / 1024 : ℝ) : EReal)
/-- The loss, in each lane. -/
def LO (a b : S2048x1024.Idx → EReal) : S1x128.Idx → EReal := fun _ => ((1 / 2048 : ℝ) : EReal) * ∑ r : Fin 2048, S a b r

theorem div_1024 (x : EReal) : Ideal.div x (Ideal.ofBits .f32 0x44800000#32) = x * ((1 / 1024 : ℝ) : EReal) := by
  rw [Cert.NormRow.thousand, Ideal.div_coe (by norm_num)]

/-! ## One block -/

theorem hz : (![0, 0] : Fin 2 → Nat) = fun _ => 0 := funext fun a => by match a with | ⟨0, _⟩ => rfl | ⟨1, _⟩ => rfl

section Outs

variable {F : FTy → Type} [FloatOps F]

theorem out_A_2 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x128 .f32) (harg4 : arg4.IsWhole) (hc0 : cond0_0 i) (x0 : Vec F S256x1024 .f32) (x1 : Vec F S256x1024 .f32) :
    out0_A_2 c i arg1 harg1 arg2 harg2 arg3 harg3 arg4 harg4 hc0 x0 x1 = k0_pay2 x0 x1 := by
  unfold out0_A_2
  rw [View.read_writes_eq_canon _ _ _ (cover0_A_2 c i arg1 harg1 arg2 harg2 arg3 harg3 arg4 harg4 hc0 x0 x1)]
  unfold kernelRun0_A
  dsimp only
  sl_unfold_words
  rw [View.canon_unit_zero (S := S256x1024) hz]
  simp only [View.readAt_eq_ld, harg1.read_unread, harg2.read_unread, harg4.read_unread, View.ld_unit_zero (S := S256x1024) hz, View.ld_unit_zero (S := S1x128) hz]

theorem out_B_2 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x128 .f32) (harg4 : arg4.IsWhole) (hc0 : ¬cond0_0 i) (x0 : Vec F S256x1024 .f32) (x1 : Vec F S256x1024 .f32) (xo3 : Vec F S1x128 .f32) :
    out0_B_2 c i arg1 harg1 arg2 harg2 arg3 harg3 arg4 harg4 hc0 x0 x1 xo3 = k0_pay2 x0 x1 := by
  unfold out0_B_2
  rw [View.read_writes_eq_canon _ _ _ (cover0_B_2 c i arg1 harg1 arg2 harg2 arg3 harg3 arg4 harg4 hc0 x0 x1 xo3)]
  unfold kernelRun0_B
  dsimp only
  sl_unfold_words
  rw [View.canon_unit_zero (S := S256x1024) hz]
  simp only [View.readAt_eq_ld, harg1.read_unread, harg2.read_unread, harg4.read_unread, View.ld_unit_zero (S := S256x1024) hz, View.ld_unit_zero (S := S1x128) hz]

theorem out_A_3 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x128 .f32) (harg4 : arg4.IsWhole) (hc0 : cond0_0 i) (x0 : Vec F S256x1024 .f32) (x1 : Vec F S256x1024 .f32) :
    out0_A_3 c i arg1 harg1 arg2 harg2 arg3 harg3 arg4 harg4 hc0 x0 x1 = k0_pay4 x0 x1 k0_pay3 := by
  unfold out0_A_3
  rw [View.read_writes_eq_canon _ _ _ (cover0_A_3 c i arg1 harg1 arg2 harg2 arg3 harg3 arg4 harg4 hc0 x0 x1)]
  unfold kernelRun0_A
  dsimp only
  sl_unfold_words
  rw [View.canon_cons_unit_zero (S := S1x128) hz, View.readCov_unit_zero (S := S1x128) _ hz]
  simp only [View.readAt_eq_ld, harg1.read_unread, harg2.read_unread, harg4.read_unread, View.ld_unit_zero (S := S256x1024) hz, View.ld_unit_zero (S := S1x128) hz]

theorem out_B_3 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x128 .f32) (harg4 : arg4.IsWhole) (hc0 : ¬cond0_0 i) (x0 : Vec F S256x1024 .f32) (x1 : Vec F S256x1024 .f32) (xo3 : Vec F S1x128 .f32) :
    out0_B_3 c i arg1 harg1 arg2 harg2 arg3 harg3 arg4 harg4 hc0 x0 x1 xo3 = k0_pay4 x0 x1 xo3 := by
  unfold out0_B_3
  rw [View.read_writes_eq_canon _ _ _ (cover0_B_3 c i arg1 harg1 arg2 harg2 arg3 harg3 arg4 harg4 hc0 x0 x1 xo3)]
  unfold kernelRun0_B
  dsimp only
  sl_unfold_words
  rw [View.canon_unit_zero (S := S1x128) hz]
  simp only [View.readAt_eq_ld, harg1.read_unread, harg2.read_unread, harg4.read_unread, View.ld_unit_zero (S := S256x1024) hz, View.ld_unit_zero (S := S1x128) hz]

end Outs

theorem pay2_apply (x0 x1 : Vec Ideal S256x1024 .f32) (r : Fin 256) (k : Fin 1024) :
    k0_pay2 x0 x1 (ix2 r k) = (x0 (ix2 r k) - x1 (ix2 r k)) * ((1 / 1024 : ℝ) : EReal) := by
  pointwise [k0_pay2, k0_pay1]
  exact div_1024 _

theorem all_sum (v : FVec Ideal S256x1024 .f32) (j : S1.Idx) :
    (multiReduction .add [1, 2] S1 (shapeCast S1x256x1024 v shapeCasts_S256x1024_S1x256x1024) 0x00000000#32 reduces_S1x256x1024_S1 (.inl rfl) rfl : FVec Ideal S1 .f32) j
      = ∑ r : Fin 256, ∑ k : Fin 1024, v (ix2 r k) := by
  refine (Ideal.multiReduction_add_total (shapeCast S1x256x1024 v shapeCasts_S256x1024_S1x256x1024 : FVec Ideal S1x256x1024 .f32) 0x00000000#32 reduces_S1x256x1024_S1
    (fun b => by match b with | ⟨0, _⟩ => rfl) (.inl rfl) rfl j).trans ?_
  rw [← Fintype.sum_prod_type']
  refine Fintype.sum_equiv ⟨fun i : S1x256x1024.Idx => ((i 1, i 2) : Fin 256 × Fin 1024), fun p => ix3 0 p.1 p.2, fun i => ?_, fun p => rfl⟩ _ _ fun i => ?_
  · funext a
    match a with
    | ⟨0, _⟩ => exact Subsingleton.elim (α := Fin 1) _ _
    | ⟨1, _⟩ => rfl
    | ⟨2, _⟩ => rfl
  · obtain ⟨a, r, k, rfl⟩ : ∃ (a : Fin 1) (r : Fin 256) (k : Fin 1024), i = ix3 a r k := ⟨i 0, i 1, i 2, eq_ix3 i⟩
    obtain rfl : a = 0 := Subsingleton.elim _ _
    show shapeCast S1x256x1024 v shapeCasts_S256x1024_S1x256x1024 (ix3 0 r k) = v (ix2 r k)
    pointwise []

theorem pay4_apply (x0 x1 : Vec Ideal S256x1024 .f32) (acc : Vec Ideal S1x128 .f32) (l : Fin 128) :
    k0_pay4 x0 x1 acc (ix2 0 l) = acc (ix2 0 l) + ((1 / 2048 : ℝ) : EReal)
      * ∑ r : Fin 256, ∑ k : Fin 1024, (x0 (ix2 r k) - x1 (ix2 r k)) * (x0 (ix2 r k) - x1 (ix2 r k)) := by
  rw [← c_coe]
  refine (show k0_pay4 x0 x1 acc (ix2 0 l) = shapeCast S1x128 acc shapeCasts_S1x128_S1x128 (ix2 0 l) + Ideal.ofBits .f32 0x3A000000#32
    * (multiReduction .add [1, 2] S1 (shapeCast S1x256x1024 (mulf (k0_pay1 x0 x1) (k0_pay1 x0 x1)) shapeCasts_S256x1024_S1x256x1024) 0x00000000#32 reduces_S1x256x1024_S1 (.inl rfl) rfl : FVec Ideal S1 .f32) _ from rfl).trans ?_
  rw [all_sum, shapeCast_self]
  rfl

/-! ## Point by point -/

variable (m : (ℓ : Loc nD τ sig) → Buf (Elt Ideal) ℓ) (c : Dev nD)

theorem idx : ∀ t : Fin cfg0.N,
    (win0_0.index t (0 : Fin 2) = t.val ∧ win0_0.index t (1 : Fin 2) = 0 ∧ win0_1.index t (0 : Fin 2) = t.val ∧ win0_1.index t (1 : Fin 2) = 0)
    ∧ win0_2.index t (0 : Fin 2) = t.val ∧ win0_2.index t (1 : Fin 2) = 0 ∧ win0_3.index t (0 : Fin 2) = 0 ∧ win0_3.index t (1 : Fin 2) = 0 :=
  (by decide +kernel : ∀ t : Fin grid0.N,
    (win0_0.index t (0 : Fin 2) = t.val ∧ win0_0.index t (1 : Fin 2) = 0 ∧ win0_1.index t (0 : Fin 2) = t.val ∧ win0_1.index t (1 : Fin 2) = 0)
    ∧ win0_2.index t (0 : Fin 2) = t.val ∧ win0_2.index t (1 : Fin 2) = 0 ∧ win0_3.index t (0 : Fin 2) = 0 ∧ win0_3.index t (1 : Fin 2) = 0)

theorem in0 (t : Fin cfg0.N) (r : Fin 256) (k : Fin 1024) :
    (iblk m c 0 t : S256x1024.Idx → EReal) (ix2 r k) = (V m c main_arg0 : S2048x1024.Idx → EReal) (ix2 (row t.val r) k) := by
  have hN : cfg0.N = 8 := N_0
  have hlt := t.isLt
  have hr := r.isLt
  obtain ⟨⟨a0, a1, -, -⟩, -⟩ := idx t
  show (V m c main_arg0 : S2048x1024.Idx → EReal) (((cfg0.win 0).blk t).view.emb (ix2 r k)) = _
  refine congrArg (V m c main_arg0 : S2048x1024.Idx → EReal) (funext fun a => Fin.ext ?_)
  match a with
  | ⟨0, _⟩ => show win0_0.index t (0 : Fin 2) * 256 + 1 * r.val = (256 * t.val + r.val) % 2048; omega
  | ⟨1, _⟩ => show win0_0.index t (1 : Fin 2) * 1024 + 1 * k.val = k.val; omega

theorem in1 (t : Fin cfg0.N) (r : Fin 256) (k : Fin 1024) :
    (iblk m c 1 t : S256x1024.Idx → EReal) (ix2 r k) = (V m c main_arg1 : S2048x1024.Idx → EReal) (ix2 (row t.val r) k) := by
  have hN : cfg0.N = 8 := N_0
  have hlt := t.isLt
  have hr := r.isLt
  obtain ⟨⟨-, -, a0, a1⟩, -⟩ := idx t
  show (V m c main_arg1 : S2048x1024.Idx → EReal) (((cfg0.win 1).blk t).view.emb (ix2 r k)) = _
  refine congrArg (V m c main_arg1 : S2048x1024.Idx → EReal) (funext fun a => Fin.ext ?_)
  match a with
  | ⟨0, _⟩ => show win0_1.index t (0 : Fin 2) * 256 + 1 * r.val = (256 * t.val + r.val) % 2048; omega
  | ⟨1, _⟩ => show win0_1.index t (1 : Fin 2) * 1024 + 1 * k.val = k.val; omega

theorem dy_at (t : Fin cfg0.N) : (outsAt0 m c t.val t.isLt).1 = k0_pay2 (iblk m c 0 t) (iblk m c 1 t) := by
  by_cases h : t.val % 8 = 0
  · rw [outsAt0_A m c t h]; dsimp only; exact out_A_2 ..
  · rw [outsAt0_B m c t h]; dsimp only; exact out_B_2 ..

/-- A point adds its block's squares to what the points before left. -/
theorem add_block (t : Fin cfg0.N) (acc : Vec Ideal S1x128 .f32) (l : Fin 128) :
    k0_pay4 (iblk m c 0 t) (iblk m c 1 t) acc (ix2 0 l)
      = acc (ix2 0 l) + ((1 / 2048 : ℝ) : EReal) * B (V m c main_arg0) (V m c main_arg1) t.val := by
  rw [pay4_apply]
  refine congrArg (acc (ix2 0 l) + ((1 / 2048 : ℝ) : EReal) * ·) (Finset.sum_congr rfl fun r _ => Finset.sum_congr rfl fun k _ => ?_)
  rw [in0 m c t r k, in1 m c t r k]
  rfl

theorem loss_at (n : ℕ) (hn : n < cfg0.N) (l : Fin 128) :
    (outsAt0 m c n hn).2 (ix2 0 l) = ∑ t ∈ Finset.range (n + 1), ((1 / 2048 : ℝ) : EReal) * B (V m c main_arg0) (V m c main_arg1) t := by
  have hN : cfg0.N = 8 := N_0
  induction n with
  | zero =>
    rw [show outsAt0 m c 0 hn = _ from outsAt0_A m c ⟨0, hn⟩ rfl]
    dsimp only
    rw [out_A_3, add_block, Finset.sum_range_one]
    have z : (k0_pay3 : FVec Ideal S1x128 .f32) (ix2 0 l) = 0 := by pointwise [k0_pay3]
    rw [z, zero_add]
  | succ n ih =>
    rw [show outsAt0 m c (n + 1) hn = _ from outsAt0_B m c ⟨n + 1, hn⟩ (by show ¬(n + 1) % 8 = 0; omega)]
    dsimp only
    rw [out_B_3, add_block, Finset.sum_range_succ]
    exact congrArg (· + _) (ih (by omega))

theorem flushed2_eq (t : Fin cfg0.N) (hf : (cfg0.win 2).flush t = true) :
    (dats m 0 c).flushed 2 t = ((cfg0.win 2).blk t).view.read (Elt Ideal) (DY (V m c main_arg0) (V m c main_arg1)) := by
  have hN : cfg0.N = 8 := N_0
  have hlt := t.isLt
  obtain ⟨-, a0, a1, -⟩ := idx t
  rw [flushed2]
  funext y
  obtain ⟨r, k, rfl⟩ : ∃ (r : Fin 256) (k : Fin 1024), y = ix2 r k := ⟨y 0, y 1, eq_ix2 y⟩
  have hr := r.isLt
  show (outsAt0 m c t.val t.isLt).1 (ix2 r k) = DY (V m c main_arg0) (V m c main_arg1) (((cfg0.win 2).blk t).view.emb (ix2 r k))
  rw [show ((cfg0.win 2).blk t).view.emb (ix2 r k) = ix2 (row t.val r) k from by
    funext a; apply Fin.ext
    match a with
    | ⟨0, _⟩ => show win0_2.index t (0 : Fin 2) * 256 + 1 * r.val = (256 * t.val + r.val) % 2048; omega
    | ⟨1, _⟩ => show win0_2.index t (1 : Fin 2) * 1024 + 1 * k.val = k.val; omega]
  rw [dy_at, pay2_apply, in0, in1]
  rfl

theorem covered2 (i : S2048x1024.Idx) : ∃ t : Fin cfg0.N, (cfg0.win 2).flush t = true ∧ i ∈ ((cfg0.win 2).blk t).view.set := by
  have h0 : (i 0 : Nat) < 2048 := (i 0).isLt
  have h1 : (i 1 : Nat) < 1024 := (i 1).isLt
  obtain ⟨t, ht⟩ : ∃ t : Fin cfg0.N, t.val = (i 0 : Nat) / 256 := ⟨⟨_, by rw [show cfg0.N = 8 from N_0]; omega⟩, rfl⟩
  refine ⟨t, flush0_2 t, ?_⟩
  obtain ⟨-, c0, c1, -⟩ := idx t
  show i ∈ ((View.whole main_v0_0).slice (win0_2.rect t)).set
  rw [View.set_slice_whole, Rect.mem_set_unit]
  intro a
  match a with
  | ⟨0, _⟩ => show win0_2.index t (0 : Fin 2) * 256 ≤ (i 0 : Nat) ∧ (i 0 : Nat) < win0_2.index t (0 : Fin 2) * 256 + 256; omega
  | ⟨1, _⟩ => show win0_2.index t (1 : Fin 2) * 1024 ≤ (i 1 : Nat) ∧ (i 1 : Nat) < win0_2.index t (1 : Fin 2) * 1024 + 1024; omega

theorem final2 : (dats m 0 c).arrAt 2 cfg0.N = DY (V m c main_arg0) (V m c main_arg1) :=
  (dats m 0 c).arrAt_eq_of_cover 2 (DY (V m c main_arg0) (V m c main_arg1)) (flushed2_eq m c) covered2

theorem same {a b : ℕ} (ha : a < cfg0.N) (hb : b < cfg0.N) (e : a = b) : outsAt0 m c a ha = outsAt0 m c b hb := by subst e; rfl

theorem flushed3_eq (t : Fin cfg0.N) (hf : (cfg0.win 3).flush t = true) :
    (dats m 0 c).flushed 3 t = ((cfg0.win 3).blk t).view.read (Elt Ideal) (LO (V m c main_arg0) (V m c main_arg1)) := by
  have hN : cfg0.N = 8 := N_0
  have h7 : t.val % 8 = 7 := (flush0_3 t).mp hf
  have hlt := t.isLt
  rw [flushed3]
  funext y
  obtain ⟨r, l, rfl⟩ : ∃ (r : Fin 1) (l : Fin 128), y = ix2 r l := ⟨y 0, y 1, eq_ix2 y⟩
  obtain rfl : r = 0 := Subsingleton.elim _ _
  show (outsAt0 m c t.val t.isLt).2 (ix2 0 l) = ((1 / 2048 : ℝ) : EReal) * ∑ r : Fin 2048, S (V m c main_arg0) (V m c main_arg1) r
  rw [same m c t.isLt (by omega : 7 < cfg0.N) (by omega), loss_at, ← mul_sum_nonneg _ _ (B_nonneg _ _), ← sum_rows]
  rfl

theorem covered3 (i : S1x128.Idx) : ∃ t : Fin cfg0.N, (cfg0.win 3).flush t = true ∧ i ∈ ((cfg0.win 3).blk t).view.set := by
  have h0 : (i 0 : Nat) < 1 := (i 0).isLt
  have h1 : (i 1 : Nat) < 128 := (i 1).isLt
  obtain ⟨t, ht⟩ : ∃ t : Fin cfg0.N, t.val = 7 := ⟨⟨7, by rw [show cfg0.N = 8 from N_0]; omega⟩, rfl⟩
  refine ⟨t, (flush0_3 t).mpr (by omega), ?_⟩
  obtain ⟨-, -, -, c0, c1⟩ := idx t
  show i ∈ ((View.whole main_v0_1).slice (win0_3.rect t)).set
  rw [View.set_slice_whole, Rect.mem_set_unit]
  intro a
  match a with
  | ⟨0, _⟩ => show win0_3.index t (0 : Fin 2) * 1 ≤ (i 0 : Nat) ∧ (i 0 : Nat) < win0_3.index t (0 : Fin 2) * 1 + 1; omega
  | ⟨1, _⟩ => show win0_3.index t (1 : Fin 2) * 128 ≤ (i 1 : Nat) ∧ (i 1 : Nat) < win0_3.index t (1 : Fin 2) * 128 + 128; omega

theorem final3 : (dats m 0 c).arrAt 3 cfg0.N = LO (V m c main_arg0) (V m c main_arg1) :=
  (dats m 0 c).arrAt_eq_of_cover 3 (LO (V m c main_arg0) (V m c main_arg1)) (flushed3_eq m c) covered3

/-! ## The reference -/

open Cert.LossRefIdeal.Read

theorem zero_0 (i) : val_main_cst_0 (F := Ideal) i = 0 := by
  show Ideal.ofBits .f32 0x00000000#32 = 0
  simp [Ideal.ofBits, Ideal.ieee]
theorem zero_2 (i) : val_main_cst_2 (F := Ideal) i = 0 := zero_0 i

theorem ref_DY (a b : S2048x1024.Idx → EReal) : val_main_v14 (F := Ideal) a b = DY a b := by
  funext i
  rw [val_main_v14_apply, val_main_v13_apply, val_main_v12_apply, val_main_v10_apply, val_main_v9_apply, val_main_v11_apply, val_main_v3_apply, val_main_v2_apply]
  show Ideal.div (Ideal.ofBits .f32 0x3F000000#32 * Ideal.ofBits .f32 0x3F800000#32) (Ideal.ofBits .f32 0x44800000#32) * (Ideal.ofBits .f32 0x40000000#32 * (a i - b i))
    = e a b (i 0) (i 1) * ((1 / 1024 : ℝ) : EReal)
  rw [div_1024, half_coe, one_coe, two_coe, ← mul_assoc, ← EReal.coe_mul, ← EReal.coe_mul, ← EReal.coe_mul, mul_comm]
  unfold e
  rw [← eq_ix2 i]
  norm_num

theorem ref_LO (a b : S2048x1024.Idx → EReal) : val_main_v15 (F := Ideal) a b = LO a b := by
  have row_eq : ∀ r : Fin 2048, val_main_v6 (F := Ideal) a b (ix1 r) = ((1 / 1024 : ℝ) : EReal) * S a b r := fun r => by
    rw [val_main_v6_apply, val_main_v4_apply, val_main_v5_apply]
    refine (div_1024 _).trans ?_
    rw [mul_comm, zero_0, zero_add]
    refine congrArg (((1 / 1024 : ℝ) : EReal) * ·) (Finset.sum_congr rfl fun k _ => ?_)
    rw [show idx_main_v4 (ix1 r) k = ix2 r k from funext fun x => by match x with | ⟨0, _⟩ => rfl | ⟨1, _⟩ => rfl]
    rfl
  funext i
  rw [val_main_v15_apply, val_main_v8_apply, val_main_v7_apply,
    zero_2, zero_add,
    show ∑ j : Cert.LossRefIdeal.S2048.Idx, val_main_v6 (F := Ideal) a b j = ∑ r : Fin 2048, ((1 / 1024 : ℝ) : EReal) * S a b r from
      Fintype.sum_equiv ⟨fun j : Cert.LossRefIdeal.S2048.Idx => (j 0 : Fin 2048), fun r => ix1 r, fun j => (eq_ix1 j).symm, fun r => rfl⟩ _ _ fun j => by
        rw [eq_ix1 j]; exact row_eq (j 0),
    ← mul_sum_nonneg _ _ (S_nonneg a b)]
  show Ideal.ofBits .f32 0x3F000000#32 * (((1 / 1024 : ℝ) : EReal) * ∑ r : Fin 2048, S a b r) = ((1 / 2048 : ℝ) : EReal) * ∑ r : Fin 2048, S a b r
  rw [half_coe, ← mul_assoc, ← EReal.coe_mul]
  norm_num

end Cert.LossIdeal.Sum

namespace Cert.Proof

open Cert.LossIdeal.Sum

theorem bodies_Loss : Cert.Loss.defs₀ (F := Bits) = Cert.LossIdeal.defs₀ (F := Bits) :=
  congrArg (Defs.onTc (Λ := Cert.Loss.Λ₀)) (funext fun l => funext fun a => match l, a with
    | 0, _ => rfl
    | ⟨_ + 1, h⟩, _ => absurd h (by omega))

theorem defs_Loss : Cert.Loss.defs (F := Bits) = Cert.LossIdeal.defs (F := Bits) :=
  congrArg (Pipeline.defs Cert.Loss.pcfgs) bodies_Loss

/-- One run for both texts of the kernel, which is generic in the float operations. -/
theorem frame_Loss : Cert.quiescent_Loss := fun m ρ _ => by
  rw [defs_Loss]; exact Cert.LossIdeal.Gen.frame (F := Bits) m ρ

theorem frame_LossIdeal : Cert.quiescent_LossIdeal := fun m ρ _ => Cert.LossIdeal.Gen.frame (F := Ideal) m ρ

/-- The reference is a straight-line host program that declares no semaphore. -/
theorem frame_LossRefIdeal : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run (F := Ideal) m ρ)

theorem algebraic_Loss : Cert.algebraic_LossIdeal_LossRefIdeal := fun m g m' g' _ hagree =>
  ⟨fun c => DY (m ((c.tc : Thread Cert.LossIdeal.nD Cert.LossIdeal.τ).loc Cert.LossIdeal.main_arg0)) (m ((c.tc : Thread Cert.LossIdeal.nD Cert.LossIdeal.τ).loc Cert.LossIdeal.main_arg1)),
    fun c => LO (m ((c.tc : Thread Cert.LossIdeal.nD Cert.LossIdeal.τ).loc Cert.LossIdeal.main_arg0)) (m ((c.tc : Thread Cert.LossIdeal.nD Cert.LossIdeal.τ).loc Cert.LossIdeal.main_arg1)),
    (θ_run Cert.LossIdeal.defs _ _).mono (fun r h c => by
        obtain ⟨h2, h3, ha⟩ := h c
        exact ⟨h2.trans (final2 m c), h3.trans (final3 m c), ha⟩)
      (Cert.LossIdeal.Value.run_blocks m g),
    (θ_run Cert.LossRefIdeal.defs _ _).mono (fun r h c => by
        obtain ⟨a0, a1⟩ := hagree c
        obtain ⟨r0, r1, ra⟩ := h c
        refine ⟨(r0.trans (Cert.LossRefIdeal.Read.val_main_v14_eq _ _)).trans ?_, (r1.trans (Cert.LossRefIdeal.Read.val_main_v15_eq _ _)).trans ?_, ra⟩
        · rw [a0, a1]; exact ref_DY _ _
        · rw [a0, a1]; exact ref_LO _ _)
      (Cert.LossRefIdeal.Value.run m' g')⟩

end Cert.Proof

end
-- ==== Proof.lean ====
/- Each module imported here holds the claims of one kernel. -/
module

public import proofs.«01_k».proof.Defs
public import proofs.«01_k».proof.Proof.AttnValue
public import proofs.«01_k».proof.Proof.DwinValue
public import proofs.«01_k».proof.Proof.DsqValue
public import proofs.«01_k».proof.Proof.ProjValue
public import proofs.«01_k».proof.Proof.DhValue
public import proofs.«01_k».proof.Proof.MergeValue
public import proofs.«01_k».proof.Proof.GatedValue
public import proofs.«01_k».proof.Proof.QkvClaims
public import proofs.«01_k».proof.Proof.LossValue

@[expose] public section

namespace Cert.Proof

theorem claim : Cert.Claim := ⟨
    Cert.Attn.Gen.facts, Cert.AttnIdeal.Gen.facts, Cert.AttnRefIdeal.Gen.facts, Cert.Dwin.Gen.facts,
    Cert.DwinIdeal.Gen.facts, Cert.DwinRefIdeal.Gen.facts, Cert.Dsq.Gen.facts, Cert.DsqIdeal.Gen.facts,
    Cert.DsqRefIdeal.Gen.facts, Cert.Proj.Gen.facts, Cert.ProjIdeal.Gen.facts, Cert.ProjRefIdeal.Gen.facts,
    Cert.Dh.Gen.facts, Cert.DhIdeal.Gen.facts, Cert.DhRefIdeal.Gen.facts, Cert.Merge.Gen.facts,
    Cert.MergeIdeal.Gen.facts, Cert.MergeRefIdeal.Gen.facts, Cert.Gated.Gen.facts,
    Cert.GatedIdeal.Gen.facts, Cert.GatedRefIdeal.Gen.facts, Cert.Qkv.Gen.facts,
    Cert.QkvIdeal.Gen.facts, Cert.QkvRefIdeal.Gen.facts, Cert.Loss.Gen.facts, Cert.LossIdeal.Gen.facts,
    Cert.LossRefIdeal.Gen.facts, Cert.Pre_attn_finite.Gen.facts,
    Cert.Pre_dh_finite.Gen.facts, frame_Attn, frame_AttnIdeal, frame_AttnIdeal_pre, frame_AttnRefIdeal,
    frame_AttnRefIdeal_pre, frame_Dwin, frame_DwinIdeal, frame_DwinRefIdeal, frame_Dsq, frame_DsqIdeal,
    frame_DsqRefIdeal, frame_Proj, frame_ProjIdeal, frame_ProjRefIdeal, frame_Dh, frame_DhIdeal,
    frame_DhIdeal_pre, frame_DhRefIdeal, frame_DhRefIdeal_pre, frame_Merge, frame_MergeIdeal,
    frame_MergeRefIdeal, frame_Gated, frame_GatedIdeal, frame_GatedRefIdeal,
    frame_Qkv, frame_QkvIdeal, frame_QkvRefIdeal, frame_Loss, frame_LossIdeal, frame_LossRefIdeal, trivial, trivial, trivial, trivial, trivial, trivial, trivial,
    trivial, trivial, algebraic_Attn, algebraic_Dwin,
    algebraic_Dsq, algebraic_Proj, algebraic_Dh, algebraic_Merge, algebraic_Gated, algebraic_Qkv, algebraic_Loss⟩

end Cert.Proof

end
